-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Sprop (m : (ℓ : Loc Cert.Sprop.nD Cert.Sprop.τ Cert.Sprop.sig) → Buf (Elt Bits) ℓ) : Prop :=
  True

def Pre_SpropIdeal (m : (ℓ : Loc Cert.SpropIdeal.nD Cert.SpropIdeal.τ Cert.SpropIdeal.sig) → Buf (Elt Ideal) ℓ) : Prop :=
  True

def Pre_SpropIdeal_finite_s [hPre_finite_s : Cert.Pre_finite_s.Facts] (m : (ℓ : Loc Cert.SpropIdeal.nD Cert.SpropIdeal.τ Cert.SpropIdeal.sig) → Buf (Elt Ideal) ℓ) : Prop :=
  ∀ c : Dev Cert.SpropIdeal.nD,
    (Cert.Pre_finite_s.fn (F := Ideal) (m ((c.tc : Thread Cert.SpropIdeal.nD Cert.SpropIdeal.τ).loc Cert.SpropIdeal.main_arg0)) (m ((c.tc : Thread Cert.SpropIdeal.nD Cert.SpropIdeal.τ).loc Cert.SpropIdeal.main_arg1)) (m ((c.tc : Thread Cert.SpropIdeal.nD Cert.SpropIdeal.τ).loc Cert.SpropIdeal.main_arg2)) (m ((c.tc : Thread Cert.SpropIdeal.nD Cert.SpropIdeal.τ).loc Cert.SpropIdeal.main_arg3)) (m ((c.tc : Thread Cert.SpropIdeal.nD Cert.SpropIdeal.τ).loc Cert.SpropIdeal.main_arg4))) = (fun _ => 1#1)

def Pre_SpropReferenceIdeal (m : (ℓ : Loc Cert.SpropReferenceIdeal.nD Cert.SpropReferenceIdeal.τ Cert.SpropReferenceIdeal.sig) → Buf (Elt Ideal) ℓ) : Prop :=
  True

def Pre_SpropReferenceIdeal_finite_s [hPre_finite_s : Cert.Pre_finite_s.Facts] (m : (ℓ : Loc Cert.SpropReferenceIdeal.nD Cert.SpropReferenceIdeal.τ Cert.SpropReferenceIdeal.sig) → Buf (Elt Ideal) ℓ) : Prop :=
  ∀ c : Dev Cert.SpropReferenceIdeal.nD,
    (Cert.Pre_finite_s.fn (F := Ideal) (m ((c.tc : Thread Cert.SpropReferenceIdeal.nD Cert.SpropReferenceIdeal.τ).loc Cert.SpropReferenceIdeal.main_arg0)) (m ((c.tc : Thread Cert.SpropReferenceIdeal.nD Cert.SpropReferenceIdeal.τ).loc Cert.SpropReferenceIdeal.main_arg1)) (m ((c.tc : Thread Cert.SpropReferenceIdeal.nD Cert.SpropReferenceIdeal.τ).loc Cert.SpropReferenceIdeal.main_arg2)) (m ((c.tc : Thread Cert.SpropReferenceIdeal.nD Cert.SpropReferenceIdeal.τ).loc Cert.SpropReferenceIdeal.main_arg3)) (m ((c.tc : Thread Cert.SpropReferenceIdeal.nD Cert.SpropReferenceIdeal.τ).loc Cert.SpropReferenceIdeal.main_arg4))) = (fun _ => 1#1)

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsReferenceIdeal (m : (ℓ : Loc Cert.LogitsReferenceIdeal.nD Cert.LogitsReferenceIdeal.τ Cert.LogitsReferenceIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterReferenceIdeal (m : (ℓ : Loc Cert.ScatterReferenceIdeal.nD Cert.ScatterReferenceIdeal.τ Cert.ScatterReferenceIdeal.sig) → Buf (Elt Ideal) ℓ) : Prop :=
  True

def Pre_BtoS (m : (ℓ : Loc Cert.BtoS.nD Cert.BtoS.τ Cert.BtoS.sig) → Buf (Elt Bits) ℓ) : Prop :=
  True

def Pre_BtoSIdeal (m : (ℓ : Loc Cert.BtoSIdeal.nD Cert.BtoSIdeal.τ Cert.BtoSIdeal.sig) → Buf (Elt Ideal) ℓ) : Prop :=
  True

def Pre_BtoSReferenceIdeal (m : (ℓ : Loc Cert.BtoSReferenceIdeal.nD Cert.BtoSReferenceIdeal.τ Cert.BtoSReferenceIdeal.sig) → Buf (Elt Ideal) ℓ) : Prop :=
  True

def Pre_Comp (m : (ℓ : Loc Cert.Comp.nD Cert.Comp.τ Cert.Comp.sig) → Buf (Elt Bits) ℓ) : Prop :=
  True

def Pre_CompIdeal (m : (ℓ : Loc Cert.CompIdeal.nD Cert.CompIdeal.τ Cert.CompIdeal.sig) → Buf (Elt Ideal) ℓ) : Prop :=
  True

def Pre_CompReferenceIdeal (m : (ℓ : Loc Cert.CompReferenceIdeal.nD Cert.CompReferenceIdeal.τ Cert.CompReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Sprop [hSprop : Cert.Sprop.Facts] : Prop :=
  ∀ (m : (ℓ : Loc Cert.Sprop.nD Cert.Sprop.τ Cert.Sprop.sig) → Buf (Elt Bits) ℓ) (g : Dev Cert.Sprop.nD → PrngReg), Pre_Sprop m →
    θ_run (Cert.Sprop.defs (F := Bits)) (onTc (τ := Cert.Sprop.τ) (Cert.Sprop.main (F := Bits))) ⟨m, fun _ => 0, g⟩ (fun r => (∀ c : Dev Cert.Sprop.nD,
      r.2.mem ((c.tc : Thread Cert.Sprop.nD Cert.Sprop.τ).loc Cert.Sprop.main_arg0) = m ((c.tc : Thread Cert.Sprop.nD Cert.Sprop.τ).loc Cert.Sprop.main_arg0)
      ∧ r.2.mem ((c.tc : Thread Cert.Sprop.nD Cert.Sprop.τ).loc Cert.Sprop.main_arg1) = m ((c.tc : Thread Cert.Sprop.nD Cert.Sprop.τ).loc Cert.Sprop.main_arg1)
      ∧ r.2.mem ((c.tc : Thread Cert.Sprop.nD Cert.Sprop.τ).loc Cert.Sprop.main_arg2) = m ((c.tc : Thread Cert.Sprop.nD Cert.Sprop.τ).loc Cert.Sprop.main_arg2)
      ∧ r.2.mem ((c.tc : Thread Cert.Sprop.nD Cert.Sprop.τ).loc Cert.Sprop.main_arg3) = m ((c.tc : Thread Cert.Sprop.nD Cert.Sprop.τ).loc Cert.Sprop.main_arg3)
      ∧ r.2.mem ((c.tc : Thread Cert.Sprop.nD Cert.Sprop.τ).loc Cert.Sprop.main_arg4) = m ((c.tc : Thread Cert.Sprop.nD Cert.Sprop.τ).loc Cert.Sprop.main_arg4))
      ∧ r.2.sem = fun _ => 0)

def quiescent_SpropIdeal [hSpropIdeal : Cert.SpropIdeal.Facts] : Prop :=
  ∀ (m : (ℓ : Loc Cert.SpropIdeal.nD Cert.SpropIdeal.τ Cert.SpropIdeal.sig) → Buf (Elt Ideal) ℓ) (g : Dev Cert.SpropIdeal.nD → PrngReg), Pre_SpropIdeal m →
    θ_run (Cert.SpropIdeal.defs (F := Ideal)) (onTc (τ := Cert.SpropIdeal.τ) (Cert.SpropIdeal.main (F := Ideal))) ⟨m, fun _ => 0, g⟩ (fun r => (∀ c : Dev Cert.SpropIdeal.nD,
      r.2.mem ((c.tc : Thread Cert.SpropIdeal.nD Cert.SpropIdeal.τ).loc Cert.SpropIdeal.main_arg0) = m ((c.tc : Thread Cert.SpropIdeal.nD Cert.SpropIdeal.τ).loc Cert.SpropIdeal.main_arg0)
      ∧ r.2.mem ((c.tc : Thread Cert.SpropIdeal.nD Cert.SpropIdeal.τ).loc Cert.SpropIdeal.main_arg1) = m ((c.tc : Thread Cert.SpropIdeal.nD Cert.SpropIdeal.τ).loc Cert.SpropIdeal.main_arg1)
      ∧ r.2.mem ((c.tc : Thread Cert.SpropIdeal.nD Cert.SpropIdeal.τ).loc Cert.SpropIdeal.main_arg2) = m ((c.tc : Thread Cert.SpropIdeal.nD Cert.SpropIdeal.τ).loc Cert.SpropIdeal.main_arg2)
      ∧ r.2.mem ((c.tc : Thread Cert.SpropIdeal.nD Cert.SpropIdeal.τ).loc Cert.SpropIdeal.main_arg3) = m ((c.tc : Thread Cert.SpropIdeal.nD Cert.SpropIdeal.τ).loc Cert.SpropIdeal.main_arg3)
      ∧ r.2.mem ((c.tc : Thread Cert.SpropIdeal.nD Cert.SpropIdeal.τ).loc Cert.SpropIdeal.main_arg4) = m ((c.tc : Thread Cert.SpropIdeal.nD Cert.SpropIdeal.τ).loc Cert.SpropIdeal.main_arg4))
      ∧ r.2.sem = fun _ => 0)

def quiescent_SpropIdeal_pre_finite_s [hSpropIdeal : Cert.SpropIdeal.Facts] [hPre_finite_s : Cert.Pre_finite_s.Facts] : Prop :=
  ∀ (m : (ℓ : Loc Cert.SpropIdeal.nD Cert.SpropIdeal.τ Cert.SpropIdeal.sig) → Buf (Elt Ideal) ℓ) (g : Dev Cert.SpropIdeal.nD → PrngReg), Pre_SpropIdeal_finite_s m →
    θ_run (Cert.SpropIdeal.defs (F := Ideal)) (onTc (τ := Cert.SpropIdeal.τ) (Cert.SpropIdeal.main (F := Ideal))) ⟨m, fun _ => 0, g⟩ (fun r => (∀ c : Dev Cert.SpropIdeal.nD,
      r.2.mem ((c.tc : Thread Cert.SpropIdeal.nD Cert.SpropIdeal.τ).loc Cert.SpropIdeal.main_arg0) = m ((c.tc : Thread Cert.SpropIdeal.nD Cert.SpropIdeal.τ).loc Cert.SpropIdeal.main_arg0)
      ∧ r.2.mem ((c.tc : Thread Cert.SpropIdeal.nD Cert.SpropIdeal.τ).loc Cert.SpropIdeal.main_arg1) = m ((c.tc : Thread Cert.SpropIdeal.nD Cert.SpropIdeal.τ).loc Cert.SpropIdeal.main_arg1)
      ∧ r.2.mem ((c.tc : Thread Cert.SpropIdeal.nD Cert.SpropIdeal.τ).loc Cert.SpropIdeal.main_arg2) = m ((c.tc : Thread Cert.SpropIdeal.nD Cert.SpropIdeal.τ).loc Cert.SpropIdeal.main_arg2)
      ∧ r.2.mem ((c.tc : Thread Cert.SpropIdeal.nD Cert.SpropIdeal.τ).loc Cert.SpropIdeal.main_arg3) = m ((c.tc : Thread Cert.SpropIdeal.nD Cert.SpropIdeal.τ).loc Cert.SpropIdeal.main_arg3)
      ∧ r.2.mem ((c.tc : Thread Cert.SpropIdeal.nD Cert.SpropIdeal.τ).loc Cert.SpropIdeal.main_arg4) = m ((c.tc : Thread Cert.SpropIdeal.nD Cert.SpropIdeal.τ).loc Cert.SpropIdeal.main_arg4))
      ∧ r.2.sem = fun _ => 0)

def quiescent_SpropReferenceIdeal [hSpropReferenceIdeal : Cert.SpropReferenceIdeal.Facts] : Prop :=
  ∀ (m : (ℓ : Loc Cert.SpropReferenceIdeal.nD Cert.SpropReferenceIdeal.τ Cert.SpropReferenceIdeal.sig) → Buf (Elt Ideal) ℓ) (g : Dev Cert.SpropReferenceIdeal.nD → PrngReg), Pre_SpropReferenceIdeal m →
    θ_run (Cert.SpropReferenceIdeal.defs (F := Ideal)) (onTc (τ := Cert.SpropReferenceIdeal.τ) (Cert.SpropReferenceIdeal.main (F := Ideal))) ⟨m, fun _ => 0, g⟩ (fun r => (∀ c : Dev Cert.SpropReferenceIdeal.nD,
      r.2.mem ((c.tc : Thread Cert.SpropReferenceIdeal.nD Cert.SpropReferenceIdeal.τ).loc Cert.SpropReferenceIdeal.main_arg0) = m ((c.tc : Thread Cert.SpropReferenceIdeal.nD Cert.SpropReferenceIdeal.τ).loc Cert.SpropReferenceIdeal.main_arg0)
      ∧ r.2.mem ((c.tc : Thread Cert.SpropReferenceIdeal.nD Cert.SpropReferenceIdeal.τ).loc Cert.SpropReferenceIdeal.main_arg1) = m ((c.tc : Thread Cert.SpropReferenceIdeal.nD Cert.SpropReferenceIdeal.τ).loc Cert.SpropReferenceIdeal.main_arg1)
      ∧ r.2.mem ((c.tc : Thread Cert.SpropReferenceIdeal.nD Cert.SpropReferenceIdeal.τ).loc Cert.SpropReferenceIdeal.main_arg2) = m ((c.tc : Thread Cert.SpropReferenceIdeal.nD Cert.SpropReferenceIdeal.τ).loc Cert.SpropReferenceIdeal.main_arg2)
      ∧ r.2.mem ((c.tc : Thread Cert.SpropReferenceIdeal.nD Cert.SpropReferenceIdeal.τ).loc Cert.SpropReferenceIdeal.main_arg3) = m ((c.tc : Thread Cert.SpropReferenceIdeal.nD Cert.SpropReferenceIdeal.τ).loc Cert.SpropReferenceIdeal.main_arg3)
      ∧ r.2.mem ((c.tc : Thread Cert.SpropReferenceIdeal.nD Cert.SpropReferenceIdeal.τ).loc Cert.SpropReferenceIdeal.main_arg4) = m ((c.tc : Thread Cert.SpropReferenceIdeal.nD Cert.SpropReferenceIdeal.τ).loc Cert.SpropReferenceIdeal.main_arg4))
      ∧ r.2.sem = fun _ => 0)

def quiescent_SpropReferenceIdeal_pre_finite_s [hSpropReferenceIdeal : Cert.SpropReferenceIdeal.Facts] [hPre_finite_s : Cert.Pre_finite_s.Facts] : Prop :=
  ∀ (m : (ℓ : Loc Cert.SpropReferenceIdeal.nD Cert.SpropReferenceIdeal.τ Cert.SpropReferenceIdeal.sig) → Buf (Elt Ideal) ℓ) (g : Dev Cert.SpropReferenceIdeal.nD → PrngReg), Pre_SpropReferenceIdeal_finite_s m →
    θ_run (Cert.SpropReferenceIdeal.defs (F := Ideal)) (onTc (τ := Cert.SpropReferenceIdeal.τ) (Cert.SpropReferenceIdeal.main (F := Ideal))) ⟨m, fun _ => 0, g⟩ (fun r => (∀ c : Dev Cert.SpropReferenceIdeal.nD,
      r.2.mem ((c.tc : Thread Cert.SpropReferenceIdeal.nD Cert.SpropReferenceIdeal.τ).loc Cert.SpropReferenceIdeal.main_arg0) = m ((c.tc : Thread Cert.SpropReferenceIdeal.nD Cert.SpropReferenceIdeal.τ).loc Cert.SpropReferenceIdeal.main_arg0)
      ∧ r.2.mem ((c.tc : Thread Cert.SpropReferenceIdeal.nD Cert.SpropReferenceIdeal.τ).loc Cert.SpropReferenceIdeal.main_arg1) = m ((c.tc : Thread Cert.SpropReferenceIdeal.nD Cert.SpropReferenceIdeal.τ).loc Cert.SpropReferenceIdeal.main_arg1)
      ∧ r.2.mem ((c.tc : Thread Cert.SpropReferenceIdeal.nD Cert.SpropReferenceIdeal.τ).loc Cert.SpropReferenceIdeal.main_arg2) = m ((c.tc : Thread Cert.SpropReferenceIdeal.nD Cert.SpropReferenceIdeal.τ).loc Cert.SpropReferenceIdeal.main_arg2)
      ∧ r.2.mem ((c.tc : Thread Cert.SpropReferenceIdeal.nD Cert.SpropReferenceIdeal.τ).loc Cert.SpropReferenceIdeal.main_arg3) = m ((c.tc : Thread Cert.SpropReferenceIdeal.nD Cert.SpropReferenceIdeal.τ).loc Cert.SpropReferenceIdeal.main_arg3)
      ∧ r.2.mem ((c.tc : Thread Cert.SpropReferenceIdeal.nD Cert.SpropReferenceIdeal.τ).loc Cert.SpropReferenceIdeal.main_arg4) = m ((c.tc : Thread Cert.SpropReferenceIdeal.nD Cert.SpropReferenceIdeal.τ).loc Cert.SpropReferenceIdeal.main_arg4))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3)
      ∧ r.2.mem ((c.tc : Thread Cert.Logits.nD Cert.Logits.τ).loc Cert.Logits.main_arg4) = m ((c.tc : Thread Cert.Logits.nD Cert.Logits.τ).loc Cert.Logits.main_arg4))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
      ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4))
      ∧ r.2.sem = fun _ => 0)

def quiescent_LogitsReferenceIdeal [hLogitsReferenceIdeal : Cert.LogitsReferenceIdeal.Facts] : Prop :=
  ∀ (m : (ℓ : Loc Cert.LogitsReferenceIdeal.nD Cert.LogitsReferenceIdeal.τ Cert.LogitsReferenceIdeal.sig) → Buf (Elt Ideal) ℓ) (g : Dev Cert.LogitsReferenceIdeal.nD → PrngReg), Pre_LogitsReferenceIdeal m →
    θ_run (Cert.LogitsReferenceIdeal.defs (F := Ideal)) (onTc (τ := Cert.LogitsReferenceIdeal.τ) (Cert.LogitsReferenceIdeal.main (F := Ideal))) ⟨m, fun _ => 0, g⟩ (fun r => (∀ c : Dev Cert.LogitsReferenceIdeal.nD,
      r.2.mem ((c.tc : Thread Cert.LogitsReferenceIdeal.nD Cert.LogitsReferenceIdeal.τ).loc Cert.LogitsReferenceIdeal.main_arg0) = m ((c.tc : Thread Cert.LogitsReferenceIdeal.nD Cert.LogitsReferenceIdeal.τ).loc Cert.LogitsReferenceIdeal.main_arg0)
      ∧ r.2.mem ((c.tc : Thread Cert.LogitsReferenceIdeal.nD Cert.LogitsReferenceIdeal.τ).loc Cert.LogitsReferenceIdeal.main_arg1) = m ((c.tc : Thread Cert.LogitsReferenceIdeal.nD Cert.LogitsReferenceIdeal.τ).loc Cert.LogitsReferenceIdeal.main_arg1)
      ∧ r.2.mem ((c.tc : Thread Cert.LogitsReferenceIdeal.nD Cert.LogitsReferenceIdeal.τ).loc Cert.LogitsReferenceIdeal.main_arg2) = m ((c.tc : Thread Cert.LogitsReferenceIdeal.nD Cert.LogitsReferenceIdeal.τ).loc Cert.LogitsReferenceIdeal.main_arg2)
      ∧ r.2.mem ((c.tc : Thread Cert.LogitsReferenceIdeal.nD Cert.LogitsReferenceIdeal.τ).loc Cert.LogitsReferenceIdeal.main_arg3) = m ((c.tc : Thread Cert.LogitsReferenceIdeal.nD Cert.LogitsReferenceIdeal.τ).loc Cert.LogitsReferenceIdeal.main_arg3)
      ∧ r.2.mem ((c.tc : Thread Cert.LogitsReferenceIdeal.nD Cert.LogitsReferenceIdeal.τ).loc Cert.LogitsReferenceIdeal.main_arg4) = m ((c.tc : Thread Cert.LogitsReferenceIdeal.nD Cert.LogitsReferenceIdeal.τ).loc Cert.LogitsReferenceIdeal.main_arg4))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1)
      ∧ r.2.mem ((c.tc : Thread Cert.ScatterReferenceIdeal.nD Cert.ScatterReferenceIdeal.τ).loc Cert.ScatterReferenceIdeal.main_arg2) = m ((c.tc : Thread Cert.ScatterReferenceIdeal.nD Cert.ScatterReferenceIdeal.τ).loc Cert.ScatterReferenceIdeal.main_arg2))
      ∧ r.2.sem = fun _ => 0)

def quiescent_BtoS [hBtoS : Cert.BtoS.Facts] : Prop :=
  ∀ (m : (ℓ : Loc Cert.BtoS.nD Cert.BtoS.τ Cert.BtoS.sig) → Buf (Elt Bits) ℓ) (g : Dev Cert.BtoS.nD → PrngReg), Pre_BtoS m →
    θ_run (Cert.BtoS.defs (F := Bits)) (onTc (τ := Cert.BtoS.τ) (Cert.BtoS.main (F := Bits))) ⟨m, fun _ => 0, g⟩ (fun r => (∀ c : Dev Cert.BtoS.nD,
      r.2.mem ((c.tc : Thread Cert.BtoS.nD Cert.BtoS.τ).loc Cert.BtoS.main_arg0) = m ((c.tc : Thread Cert.BtoS.nD Cert.BtoS.τ).loc Cert.BtoS.main_arg0)
      ∧ r.2.mem ((c.tc : Thread Cert.BtoS.nD Cert.BtoS.τ).loc Cert.BtoS.main_arg1) = m ((c.tc : Thread Cert.BtoS.nD Cert.BtoS.τ).loc Cert.BtoS.main_arg1)
      ∧ r.2.mem ((c.tc : Thread Cert.BtoS.nD Cert.BtoS.τ).loc Cert.BtoS.main_arg2) = m ((c.tc : Thread Cert.BtoS.nD Cert.BtoS.τ).loc Cert.BtoS.main_arg2)
      ∧ r.2.mem ((c.tc : Thread Cert.BtoS.nD Cert.BtoS.τ).loc Cert.BtoS.main_arg3) = m ((c.tc : Thread Cert.BtoS.nD Cert.BtoS.τ).loc Cert.BtoS.main_arg3)
      ∧ r.2.mem ((c.tc : Thread Cert.BtoS.nD Cert.BtoS.τ).loc Cert.BtoS.main_arg4) = m ((c.tc : Thread Cert.BtoS.nD Cert.BtoS.τ).loc Cert.BtoS.main_arg4)
      ∧ r.2.mem ((c.tc : Thread Cert.BtoS.nD Cert.BtoS.τ).loc Cert.BtoS.main_arg5) = m ((c.tc : Thread Cert.BtoS.nD Cert.BtoS.τ).loc Cert.BtoS.main_arg5)
      ∧ r.2.mem ((c.tc : Thread Cert.BtoS.nD Cert.BtoS.τ).loc Cert.BtoS.main_arg6) = m ((c.tc : Thread Cert.BtoS.nD Cert.BtoS.τ).loc Cert.BtoS.main_arg6))
      ∧ r.2.sem = fun _ => 0)

def quiescent_BtoSIdeal [hBtoSIdeal : Cert.BtoSIdeal.Facts] : Prop :=
  ∀ (m : (ℓ : Loc Cert.BtoSIdeal.nD Cert.BtoSIdeal.τ Cert.BtoSIdeal.sig) → Buf (Elt Ideal) ℓ) (g : Dev Cert.BtoSIdeal.nD → PrngReg), Pre_BtoSIdeal m →
    θ_run (Cert.BtoSIdeal.defs (F := Ideal)) (onTc (τ := Cert.BtoSIdeal.τ) (Cert.BtoSIdeal.main (F := Ideal))) ⟨m, fun _ => 0, g⟩ (fun r => (∀ c : Dev Cert.BtoSIdeal.nD,
      r.2.mem ((c.tc : Thread Cert.BtoSIdeal.nD Cert.BtoSIdeal.τ).loc Cert.BtoSIdeal.main_arg0) = m ((c.tc : Thread Cert.BtoSIdeal.nD Cert.BtoSIdeal.τ).loc Cert.BtoSIdeal.main_arg0)
      ∧ r.2.mem ((c.tc : Thread Cert.BtoSIdeal.nD Cert.BtoSIdeal.τ).loc Cert.BtoSIdeal.main_arg1) = m ((c.tc : Thread Cert.BtoSIdeal.nD Cert.BtoSIdeal.τ).loc Cert.BtoSIdeal.main_arg1)
      ∧ r.2.mem ((c.tc : Thread Cert.BtoSIdeal.nD Cert.BtoSIdeal.τ).loc Cert.BtoSIdeal.main_arg2) = m ((c.tc : Thread Cert.BtoSIdeal.nD Cert.BtoSIdeal.τ).loc Cert.BtoSIdeal.main_arg2)
      ∧ r.2.mem ((c.tc : Thread Cert.BtoSIdeal.nD Cert.BtoSIdeal.τ).loc Cert.BtoSIdeal.main_arg3) = m ((c.tc : Thread Cert.BtoSIdeal.nD Cert.BtoSIdeal.τ).loc Cert.BtoSIdeal.main_arg3)
      ∧ r.2.mem ((c.tc : Thread Cert.BtoSIdeal.nD Cert.BtoSIdeal.τ).loc Cert.BtoSIdeal.main_arg4) = m ((c.tc : Thread Cert.BtoSIdeal.nD Cert.BtoSIdeal.τ).loc Cert.BtoSIdeal.main_arg4)
      ∧ r.2.mem ((c.tc : Thread Cert.BtoSIdeal.nD Cert.BtoSIdeal.τ).loc Cert.BtoSIdeal.main_arg5) = m ((c.tc : Thread Cert.BtoSIdeal.nD Cert.BtoSIdeal.τ).loc Cert.BtoSIdeal.main_arg5)
      ∧ r.2.mem ((c.tc : Thread Cert.BtoSIdeal.nD Cert.BtoSIdeal.τ).loc Cert.BtoSIdeal.main_arg6) = m ((c.tc : Thread Cert.BtoSIdeal.nD Cert.BtoSIdeal.τ).loc Cert.BtoSIdeal.main_arg6))
      ∧ r.2.sem = fun _ => 0)

def quiescent_BtoSReferenceIdeal [hBtoSReferenceIdeal : Cert.BtoSReferenceIdeal.Facts] : Prop :=
  ∀ (m : (ℓ : Loc Cert.BtoSReferenceIdeal.nD Cert.BtoSReferenceIdeal.τ Cert.BtoSReferenceIdeal.sig) → Buf (Elt Ideal) ℓ) (g : Dev Cert.BtoSReferenceIdeal.nD → PrngReg), Pre_BtoSReferenceIdeal m →
    θ_run (Cert.BtoSReferenceIdeal.defs (F := Ideal)) (onTc (τ := Cert.BtoSReferenceIdeal.τ) (Cert.BtoSReferenceIdeal.main (F := Ideal))) ⟨m, fun _ => 0, g⟩ (fun r => (∀ c : Dev Cert.BtoSReferenceIdeal.nD,
      r.2.mem ((c.tc : Thread Cert.BtoSReferenceIdeal.nD Cert.BtoSReferenceIdeal.τ).loc Cert.BtoSReferenceIdeal.main_arg0) = m ((c.tc : Thread Cert.BtoSReferenceIdeal.nD Cert.BtoSReferenceIdeal.τ).loc Cert.BtoSReferenceIdeal.main_arg0)
      ∧ r.2.mem ((c.tc : Thread Cert.BtoSReferenceIdeal.nD Cert.BtoSReferenceIdeal.τ).loc Cert.BtoSReferenceIdeal.main_arg1) = m ((c.tc : Thread Cert.BtoSReferenceIdeal.nD Cert.BtoSReferenceIdeal.τ).loc Cert.BtoSReferenceIdeal.main_arg1)
      ∧ r.2.mem ((c.tc : Thread Cert.BtoSReferenceIdeal.nD Cert.BtoSReferenceIdeal.τ).loc Cert.BtoSReferenceIdeal.main_arg2) = m ((c.tc : Thread Cert.BtoSReferenceIdeal.nD Cert.BtoSReferenceIdeal.τ).loc Cert.BtoSReferenceIdeal.main_arg2)
      ∧ r.2.mem ((c.tc : Thread Cert.BtoSReferenceIdeal.nD Cert.BtoSReferenceIdeal.τ).loc Cert.BtoSReferenceIdeal.main_arg3) = m ((c.tc : Thread Cert.BtoSReferenceIdeal.nD Cert.BtoSReferenceIdeal.τ).loc Cert.BtoSReferenceIdeal.main_arg3)
      ∧ r.2.mem ((c.tc : Thread Cert.BtoSReferenceIdeal.nD Cert.BtoSReferenceIdeal.τ).loc Cert.BtoSReferenceIdeal.main_arg4) = m ((c.tc : Thread Cert.BtoSReferenceIdeal.nD Cert.BtoSReferenceIdeal.τ).loc Cert.BtoSReferenceIdeal.main_arg4)
      ∧ r.2.mem ((c.tc : Thread Cert.BtoSReferenceIdeal.nD Cert.BtoSReferenceIdeal.τ).loc Cert.BtoSReferenceIdeal.main_arg5) = m ((c.tc : Thread Cert.BtoSReferenceIdeal.nD Cert.BtoSReferenceIdeal.τ).loc Cert.BtoSReferenceIdeal.main_arg5)
      ∧ r.2.mem ((c.tc : Thread Cert.BtoSReferenceIdeal.nD Cert.BtoSReferenceIdeal.τ).loc Cert.BtoSReferenceIdeal.main_arg6) = m ((c.tc : Thread Cert.BtoSReferenceIdeal.nD Cert.BtoSReferenceIdeal.τ).loc Cert.BtoSReferenceIdeal.main_arg6))
      ∧ r.2.sem = fun _ => 0)

def quiescent_Comp [hComp : Cert.Comp.Facts] : Prop :=
  ∀ (m : (ℓ : Loc Cert.Comp.nD Cert.Comp.τ Cert.Comp.sig) → Buf (Elt Bits) ℓ) (g : Dev Cert.Comp.nD → PrngReg), Pre_Comp m →
    θ_run (Cert.Comp.defs (F := Bits)) (onTc (τ := Cert.Comp.τ) (Cert.Comp.main (F := Bits))) ⟨m, fun _ => 0, g⟩ (fun r => (∀ c : Dev Cert.Comp.nD,
      r.2.mem ((c.tc : Thread Cert.Comp.nD Cert.Comp.τ).loc Cert.Comp.main_arg0) = m ((c.tc : Thread Cert.Comp.nD Cert.Comp.τ).loc Cert.Comp.main_arg0)
      ∧ r.2.mem ((c.tc : Thread Cert.Comp.nD Cert.Comp.τ).loc Cert.Comp.main_arg1) = m ((c.tc : Thread Cert.Comp.nD Cert.Comp.τ).loc Cert.Comp.main_arg1)
      ∧ r.2.mem ((c.tc : Thread Cert.Comp.nD Cert.Comp.τ).loc Cert.Comp.main_arg2) = m ((c.tc : Thread Cert.Comp.nD Cert.Comp.τ).loc Cert.Comp.main_arg2))
      ∧ r.2.sem = fun _ => 0)

def quiescent_CompIdeal [hCompIdeal : Cert.CompIdeal.Facts] : Prop :=
  ∀ (m : (ℓ : Loc Cert.CompIdeal.nD Cert.CompIdeal.τ Cert.CompIdeal.sig) → Buf (Elt Ideal) ℓ) (g : Dev Cert.CompIdeal.nD → PrngReg), Pre_CompIdeal m →
    θ_run (Cert.CompIdeal.defs (F := Ideal)) (onTc (τ := Cert.CompIdeal.τ) (Cert.CompIdeal.main (F := Ideal))) ⟨m, fun _ => 0, g⟩ (fun r => (∀ c : Dev Cert.CompIdeal.nD,
      r.2.mem ((c.tc : Thread Cert.CompIdeal.nD Cert.CompIdeal.τ).loc Cert.CompIdeal.main_arg0) = m ((c.tc : Thread Cert.CompIdeal.nD Cert.CompIdeal.τ).loc Cert.CompIdeal.main_arg0)
      ∧ r.2.mem ((c.tc : Thread Cert.CompIdeal.nD Cert.CompIdeal.τ).loc Cert.CompIdeal.main_arg1) = m ((c.tc : Thread Cert.CompIdeal.nD Cert.CompIdeal.τ).loc Cert.CompIdeal.main_arg1)
      ∧ r.2.mem ((c.tc : Thread Cert.CompIdeal.nD Cert.CompIdeal.τ).loc Cert.CompIdeal.main_arg2) = m ((c.tc : Thread Cert.CompIdeal.nD Cert.CompIdeal.τ).loc Cert.CompIdeal.main_arg2))
      ∧ r.2.sem = fun _ => 0)

def quiescent_CompReferenceIdeal [hCompReferenceIdeal : Cert.CompReferenceIdeal.Facts] : Prop :=
  ∀ (m : (ℓ : Loc Cert.CompReferenceIdeal.nD Cert.CompReferenceIdeal.τ Cert.CompReferenceIdeal.sig) → Buf (Elt Ideal) ℓ) (g : Dev Cert.CompReferenceIdeal.nD → PrngReg), Pre_CompReferenceIdeal m →
    θ_run (Cert.CompReferenceIdeal.defs (F := Ideal)) (onTc (τ := Cert.CompReferenceIdeal.τ) (Cert.CompReferenceIdeal.main (F := Ideal))) ⟨m, fun _ => 0, g⟩ (fun r => (∀ c : Dev Cert.CompReferenceIdeal.nD,
      r.2.mem ((c.tc : Thread Cert.CompReferenceIdeal.nD Cert.CompReferenceIdeal.τ).loc Cert.CompReferenceIdeal.main_arg0) = m ((c.tc : Thread Cert.CompReferenceIdeal.nD Cert.CompReferenceIdeal.τ).loc Cert.CompReferenceIdeal.main_arg0)
      ∧ r.2.mem ((c.tc : Thread Cert.CompReferenceIdeal.nD Cert.CompReferenceIdeal.τ).loc Cert.CompReferenceIdeal.main_arg1) = m ((c.tc : Thread Cert.CompReferenceIdeal.nD Cert.CompReferenceIdeal.τ).loc Cert.CompReferenceIdeal.main_arg1)
      ∧ r.2.mem ((c.tc : Thread Cert.CompReferenceIdeal.nD Cert.CompReferenceIdeal.τ).loc Cert.CompReferenceIdeal.main_arg2) = m ((c.tc : Thread Cert.CompReferenceIdeal.nD Cert.CompReferenceIdeal.τ).loc Cert.CompReferenceIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7)
      ∧ r.2.mem ((c.tc : Thread Cert.Final.nD Cert.Final.τ).loc Cert.Final.main_arg8) = m ((c.tc : Thread Cert.Final.nD Cert.Final.τ).loc Cert.Final.main_arg8)
      ∧ r.2.mem ((c.tc : Thread Cert.Final.nD Cert.Final.τ).loc Cert.Final.main_arg9) = m ((c.tc : Thread Cert.Final.nD Cert.Final.τ).loc Cert.Final.main_arg9))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
      ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
      ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6)
      ∧ r.2.mem ((c.tc : Thread Cert.FinalReferenceIdeal.nD Cert.FinalReferenceIdeal.τ).loc Cert.FinalReferenceIdeal.main_arg7) = m ((c.tc : Thread Cert.FinalReferenceIdeal.nD Cert.FinalReferenceIdeal.τ).loc Cert.FinalReferenceIdeal.main_arg7)
      ∧ r.2.mem ((c.tc : Thread Cert.FinalReferenceIdeal.nD Cert.FinalReferenceIdeal.τ).loc Cert.FinalReferenceIdeal.main_arg8) = m ((c.tc : Thread Cert.FinalReferenceIdeal.nD Cert.FinalReferenceIdeal.τ).loc Cert.FinalReferenceIdeal.main_arg8)
      ∧ r.2.mem ((c.tc : Thread Cert.FinalReferenceIdeal.nD Cert.FinalReferenceIdeal.τ).loc Cert.FinalReferenceIdeal.main_arg9) = m ((c.tc : Thread Cert.FinalReferenceIdeal.nD Cert.FinalReferenceIdeal.τ).loc Cert.FinalReferenceIdeal.main_arg9))
      ∧ r.2.sem = fun _ => 0)

def preserves_Kernel_KernelIdeal : Prop :=
  IdealRules.named_const.Statement Cert.KernelIdeal.κ "sqrt_dim" .f32 0x41DDB3D7#32 ((Real.sqrt 768 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Sprop_SpropIdeal : Prop :=
  IdealRules.named_const.Statement Cert.SpropIdeal.κ "sqrt_dim" .f32 0x41DDB3D7#32 ((Real.sqrt 768 : ℝ) : EReal)

def algebraic_SpropIdeal_SpropReferenceIdeal_pre_finite_s [hSpropIdeal : Cert.SpropIdeal.Facts] [hSpropReferenceIdeal : Cert.SpropReferenceIdeal.Facts] [hPre_finite_s : Cert.Pre_finite_s.Facts] : Prop :=
  ∀ (m : (ℓ : Loc Cert.SpropIdeal.nD Cert.SpropIdeal.τ Cert.SpropIdeal.sig) → Buf (Elt Ideal) ℓ) (g : Dev Cert.SpropIdeal.nD → PrngReg)
    (m' : (ℓ : Loc Cert.SpropReferenceIdeal.nD Cert.SpropReferenceIdeal.τ Cert.SpropReferenceIdeal.sig) → Buf (Elt Ideal) ℓ) (g' : Dev Cert.SpropReferenceIdeal.nD → PrngReg), Pre_SpropIdeal_finite_s m →
    (∀ c : Dev Cert.SpropIdeal.nD,
      m' ((c.tc : Thread Cert.SpropReferenceIdeal.nD Cert.SpropReferenceIdeal.τ).loc Cert.SpropReferenceIdeal.main_arg0) = m ((c.tc : Thread Cert.SpropIdeal.nD Cert.SpropIdeal.τ).loc Cert.SpropIdeal.main_arg0)
      ∧ m' ((c.tc : Thread Cert.SpropReferenceIdeal.nD Cert.SpropReferenceIdeal.τ).loc Cert.SpropReferenceIdeal.main_arg1) = m ((c.tc : Thread Cert.SpropIdeal.nD Cert.SpropIdeal.τ).loc Cert.SpropIdeal.main_arg1)
      ∧ m' ((c.tc : Thread Cert.SpropReferenceIdeal.nD Cert.SpropReferenceIdeal.τ).loc Cert.SpropReferenceIdeal.main_arg2) = m ((c.tc : Thread Cert.SpropIdeal.nD Cert.SpropIdeal.τ).loc Cert.SpropIdeal.main_arg2)
      ∧ m' ((c.tc : Thread Cert.SpropReferenceIdeal.nD Cert.SpropReferenceIdeal.τ).loc Cert.SpropReferenceIdeal.main_arg3) = m ((c.tc : Thread Cert.SpropIdeal.nD Cert.SpropIdeal.τ).loc Cert.SpropIdeal.main_arg3)
      ∧ m' ((c.tc : Thread Cert.SpropReferenceIdeal.nD Cert.SpropReferenceIdeal.τ).loc Cert.SpropReferenceIdeal.main_arg4) = m ((c.tc : Thread Cert.SpropIdeal.nD Cert.SpropIdeal.τ).loc Cert.SpropIdeal.main_arg4)) →
    ∃ (v0 : (c : Dev Cert.SpropIdeal.nD) → Buf (Elt Ideal) ((c.tc : Thread Cert.SpropIdeal.nD Cert.SpropIdeal.τ).loc Cert.SpropIdeal.main_v6_0)) (v1 : (c : Dev Cert.SpropIdeal.nD) → Buf (Elt Ideal) ((c.tc : Thread Cert.SpropIdeal.nD Cert.SpropIdeal.τ).loc Cert.SpropIdeal.main_v6_1)),
      θ_run (Cert.SpropIdeal.defs (F := Ideal)) (onTc (τ := Cert.SpropIdeal.τ) (Cert.SpropIdeal.main (F := Ideal))) ⟨m, fun _ => 0, g⟩ (fun r => ∀ c : Dev Cert.SpropIdeal.nD,
          r.2.mem ((c.tc : Thread Cert.SpropIdeal.nD Cert.SpropIdeal.τ).loc Cert.SpropIdeal.main_v6_0) = v0 c
          ∧ r.2.mem ((c.tc : Thread Cert.SpropIdeal.nD Cert.SpropIdeal.τ).loc Cert.SpropIdeal.main_v6_1) = v1 c
          ∧ r.2.mem ((c.tc : Thread Cert.SpropIdeal.nD Cert.SpropIdeal.τ).loc Cert.SpropIdeal.main_arg0) = m ((c.tc : Thread Cert.SpropIdeal.nD Cert.SpropIdeal.τ).loc Cert.SpropIdeal.main_arg0)
          ∧ r.2.mem ((c.tc : Thread Cert.SpropIdeal.nD Cert.SpropIdeal.τ).loc Cert.SpropIdeal.main_arg1) = m ((c.tc : Thread Cert.SpropIdeal.nD Cert.SpropIdeal.τ).loc Cert.SpropIdeal.main_arg1)
          ∧ r.2.mem ((c.tc : Thread Cert.SpropIdeal.nD Cert.SpropIdeal.τ).loc Cert.SpropIdeal.main_arg2) = m ((c.tc : Thread Cert.SpropIdeal.nD Cert.SpropIdeal.τ).loc Cert.SpropIdeal.main_arg2)
          ∧ r.2.mem ((c.tc : Thread Cert.SpropIdeal.nD Cert.SpropIdeal.τ).loc Cert.SpropIdeal.main_arg3) = m ((c.tc : Thread Cert.SpropIdeal.nD Cert.SpropIdeal.τ).loc Cert.SpropIdeal.main_arg3)
          ∧ r.2.mem ((c.tc : Thread Cert.SpropIdeal.nD Cert.SpropIdeal.τ).loc Cert.SpropIdeal.main_arg4) = m ((c.tc : Thread Cert.SpropIdeal.nD Cert.SpropIdeal.τ).loc Cert.SpropIdeal.main_arg4))
      ∧ θ_run (Cert.SpropReferenceIdeal.defs (F := Ideal)) (onTc (τ := Cert.SpropReferenceIdeal.τ) (Cert.SpropReferenceIdeal.main (F := Ideal))) ⟨m', fun _ => 0, g'⟩ (fun r => ∀ c : Dev Cert.SpropReferenceIdeal.nD,
          r.2.mem ((c.tc : Thread Cert.SpropReferenceIdeal.nD Cert.SpropReferenceIdeal.τ).loc Cert.SpropReferenceIdeal.main_v33) = v0 c
          ∧ r.2.mem ((c.tc : Thread Cert.SpropReferenceIdeal.nD Cert.SpropReferenceIdeal.τ).loc Cert.SpropReferenceIdeal.main_v60) = v1 c
          ∧ r.2.mem ((c.tc : Thread Cert.SpropReferenceIdeal.nD Cert.SpropReferenceIdeal.τ).loc Cert.SpropReferenceIdeal.main_arg0) = m' ((c.tc : Thread Cert.SpropReferenceIdeal.nD Cert.SpropReferenceIdeal.τ).loc Cert.SpropReferenceIdeal.main_arg0)
          ∧ r.2.mem ((c.tc : Thread Cert.SpropReferenceIdeal.nD Cert.SpropReferenceIdeal.τ).loc Cert.SpropReferenceIdeal.main_arg1) = m' ((c.tc : Thread Cert.SpropReferenceIdeal.nD Cert.SpropReferenceIdeal.τ).loc Cert.SpropReferenceIdeal.main_arg1)
          ∧ r.2.mem ((c.tc : Thread Cert.SpropReferenceIdeal.nD Cert.SpropReferenceIdeal.τ).loc Cert.SpropReferenceIdeal.main_arg2) = m' ((c.tc : Thread Cert.SpropReferenceIdeal.nD Cert.SpropReferenceIdeal.τ).loc Cert.SpropReferenceIdeal.main_arg2)
          ∧ r.2.mem ((c.tc : Thread Cert.SpropReferenceIdeal.nD Cert.SpropReferenceIdeal.τ).loc Cert.SpropReferenceIdeal.main_arg3) = m' ((c.tc : Thread Cert.SpropReferenceIdeal.nD Cert.SpropReferenceIdeal.τ).loc Cert.SpropReferenceIdeal.main_arg3)
          ∧ r.2.mem ((c.tc : Thread Cert.SpropReferenceIdeal.nD Cert.SpropReferenceIdeal.τ).loc Cert.SpropReferenceIdeal.main_arg4) = m' ((c.tc : Thread Cert.SpropReferenceIdeal.nD Cert.SpropReferenceIdeal.τ).loc Cert.SpropReferenceIdeal.main_arg4))

def preserves_Logits_LogitsIdeal : Prop :=
  True

def algebraic_LogitsIdeal_LogitsReferenceIdeal [hLogitsIdeal : Cert.LogitsIdeal.Facts] [hLogitsReferenceIdeal : Cert.LogitsReferenceIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsReferenceIdeal.nD Cert.LogitsReferenceIdeal.τ Cert.LogitsReferenceIdeal.sig) → Buf (Elt Ideal) ℓ) (g' : Dev Cert.LogitsReferenceIdeal.nD → PrngReg), Pre_LogitsIdeal m →
    (∀ c : Dev Cert.LogitsIdeal.nD,
      m' ((c.tc : Thread Cert.LogitsReferenceIdeal.nD Cert.LogitsReferenceIdeal.τ).loc Cert.LogitsReferenceIdeal.main_arg0) = m ((c.tc : Thread Cert.LogitsIdeal.nD Cert.LogitsIdeal.τ).loc Cert.LogitsIdeal.main_arg0)
      ∧ m' ((c.tc : Thread Cert.LogitsReferenceIdeal.nD Cert.LogitsReferenceIdeal.τ).loc Cert.LogitsReferenceIdeal.main_arg1) = m ((c.tc : Thread Cert.LogitsIdeal.nD Cert.LogitsIdeal.τ).loc Cert.LogitsIdeal.main_arg1)
      ∧ m' ((c.tc : Thread Cert.LogitsReferenceIdeal.nD Cert.LogitsReferenceIdeal.τ).loc Cert.LogitsReferenceIdeal.main_arg2) = m ((c.tc : Thread Cert.LogitsIdeal.nD Cert.LogitsIdeal.τ).loc Cert.LogitsIdeal.main_arg2)
      ∧ m' ((c.tc : Thread Cert.LogitsReferenceIdeal.nD Cert.LogitsReferenceIdeal.τ).loc Cert.LogitsReferenceIdeal.main_arg3) = m ((c.tc : Thread Cert.LogitsIdeal.nD Cert.LogitsIdeal.τ).loc Cert.LogitsIdeal.main_arg3)
      ∧ m' ((c.tc : Thread Cert.LogitsReferenceIdeal.nD Cert.LogitsReferenceIdeal.τ).loc Cert.LogitsReferenceIdeal.main_arg4) = m ((c.tc : Thread Cert.LogitsIdeal.nD Cert.LogitsIdeal.τ).loc Cert.LogitsIdeal.main_arg4)) →
    ∃ (v0 : (c : Dev Cert.LogitsIdeal.nD) → Buf (Elt Ideal) ((c.tc : Thread Cert.LogitsIdeal.nD Cert.LogitsIdeal.τ).loc Cert.LogitsIdeal.main_v2_0)) (v1 : (c : Dev Cert.LogitsIdeal.nD) → Buf (Elt Ideal) ((c.tc : Thread Cert.LogitsIdeal.nD Cert.LogitsIdeal.τ).loc Cert.LogitsIdeal.main_v2_1)) (v2 : (c : Dev Cert.LogitsIdeal.nD) → Buf (Elt Ideal) ((c.tc : Thread Cert.LogitsIdeal.nD Cert.LogitsIdeal.τ).loc Cert.LogitsIdeal.main_v2_2)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v2_0) = v0 c
          ∧ r.2.mem ((c.tc : Thread Cert.LogitsIdeal.nD Cert.LogitsIdeal.τ).loc Cert.LogitsIdeal.main_v2_1) = v1 c
          ∧ r.2.mem ((c.tc : Thread Cert.LogitsIdeal.nD Cert.LogitsIdeal.τ).loc Cert.LogitsIdeal.main_v2_2) = v2 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
          ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4))
      ∧ θ_run (Cert.LogitsReferenceIdeal.defs (F := Ideal)) (onTc (τ := Cert.LogitsReferenceIdeal.τ) (Cert.LogitsReferenceIdeal.main (F := Ideal))) ⟨m', fun _ => 0, g'⟩ (fun r => ∀ c : Dev Cert.LogitsReferenceIdeal.nD,
          r.2.mem ((c.tc : Thread Cert.LogitsReferenceIdeal.nD Cert.LogitsReferenceIdeal.τ).loc Cert.LogitsReferenceIdeal.main_v25) = v0 c
          ∧ r.2.mem ((c.tc : Thread Cert.LogitsReferenceIdeal.nD Cert.LogitsReferenceIdeal.τ).loc Cert.LogitsReferenceIdeal.main_v0) = v1 c
          ∧ r.2.mem ((c.tc : Thread Cert.LogitsReferenceIdeal.nD Cert.LogitsReferenceIdeal.τ).loc Cert.LogitsReferenceIdeal.main_v24) = v2 c
          ∧ r.2.mem ((c.tc : Thread Cert.LogitsReferenceIdeal.nD Cert.LogitsReferenceIdeal.τ).loc Cert.LogitsReferenceIdeal.main_arg0) = m' ((c.tc : Thread Cert.LogitsReferenceIdeal.nD Cert.LogitsReferenceIdeal.τ).loc Cert.LogitsReferenceIdeal.main_arg0)
          ∧ r.2.mem ((c.tc : Thread Cert.LogitsReferenceIdeal.nD Cert.LogitsReferenceIdeal.τ).loc Cert.LogitsReferenceIdeal.main_arg1) = m' ((c.tc : Thread Cert.LogitsReferenceIdeal.nD Cert.LogitsReferenceIdeal.τ).loc Cert.LogitsReferenceIdeal.main_arg1)
          ∧ r.2.mem ((c.tc : Thread Cert.LogitsReferenceIdeal.nD Cert.LogitsReferenceIdeal.τ).loc Cert.LogitsReferenceIdeal.main_arg2) = m' ((c.tc : Thread Cert.LogitsReferenceIdeal.nD Cert.LogitsReferenceIdeal.τ).loc Cert.LogitsReferenceIdeal.main_arg2)
          ∧ r.2.mem ((c.tc : Thread Cert.LogitsReferenceIdeal.nD Cert.LogitsReferenceIdeal.τ).loc Cert.LogitsReferenceIdeal.main_arg3) = m' ((c.tc : Thread Cert.LogitsReferenceIdeal.nD Cert.LogitsReferenceIdeal.τ).loc Cert.LogitsReferenceIdeal.main_arg3)
          ∧ r.2.mem ((c.tc : Thread Cert.LogitsReferenceIdeal.nD Cert.LogitsReferenceIdeal.τ).loc Cert.LogitsReferenceIdeal.main_arg4) = m' ((c.tc : Thread Cert.LogitsReferenceIdeal.nD Cert.LogitsReferenceIdeal.τ).loc Cert.LogitsReferenceIdeal.main_arg4))

def preserves_Scatter_ScatterIdeal : Prop :=
  True

def algebraic_ScatterIdeal_ScatterReferenceIdeal [hScatterIdeal : Cert.ScatterIdeal.Facts] [hScatterReferenceIdeal : Cert.ScatterReferenceIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m' ((c.tc : Thread Cert.ScatterReferenceIdeal.nD Cert.ScatterReferenceIdeal.τ).loc Cert.ScatterReferenceIdeal.main_arg0) = m ((c.tc : Thread Cert.ScatterIdeal.nD Cert.ScatterIdeal.τ).loc Cert.ScatterIdeal.main_arg0)
      ∧ m' ((c.tc : Thread Cert.ScatterReferenceIdeal.nD Cert.ScatterReferenceIdeal.τ).loc Cert.ScatterReferenceIdeal.main_arg1) = m ((c.tc : Thread Cert.ScatterIdeal.nD Cert.ScatterIdeal.τ).loc Cert.ScatterIdeal.main_arg1)
      ∧ m' ((c.tc : Thread Cert.ScatterReferenceIdeal.nD Cert.ScatterReferenceIdeal.τ).loc Cert.ScatterReferenceIdeal.main_arg2) = m ((c.tc : Thread Cert.ScatterIdeal.nD Cert.ScatterIdeal.τ).loc Cert.ScatterIdeal.main_arg2)) →
    ∃ (v0 : (c : Dev Cert.ScatterIdeal.nD) → Buf (Elt Ideal) ((c.tc : Thread Cert.ScatterIdeal.nD Cert.ScatterIdeal.τ).loc Cert.ScatterIdeal.main_v0_0)) (v1 : (c : Dev Cert.ScatterIdeal.nD) → Buf (Elt Ideal) ((c.tc : Thread Cert.ScatterIdeal.nD Cert.ScatterIdeal.τ).loc Cert.ScatterIdeal.main_v0_1)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v0_0) = v0 c
          ∧ r.2.mem ((c.tc : Thread Cert.ScatterIdeal.nD Cert.ScatterIdeal.τ).loc Cert.ScatterIdeal.main_v0_1) = v1 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ θ_run (Cert.ScatterReferenceIdeal.defs (F := Ideal)) (onTc (τ := Cert.ScatterReferenceIdeal.τ) (Cert.ScatterReferenceIdeal.main (F := Ideal))) ⟨m', fun _ => 0, g'⟩ (fun r => ∀ c : Dev Cert.ScatterReferenceIdeal.nD,
          r.2.mem ((c.tc : Thread Cert.ScatterReferenceIdeal.nD Cert.ScatterReferenceIdeal.τ).loc Cert.ScatterReferenceIdeal.main_v21) = v0 c
          ∧ r.2.mem ((c.tc : Thread Cert.ScatterReferenceIdeal.nD Cert.ScatterReferenceIdeal.τ).loc Cert.ScatterReferenceIdeal.main_v24) = v1 c
          ∧ r.2.mem ((c.tc : Thread Cert.ScatterReferenceIdeal.nD Cert.ScatterReferenceIdeal.τ).loc Cert.ScatterReferenceIdeal.main_arg0) = m' ((c.tc : Thread Cert.ScatterReferenceIdeal.nD Cert.ScatterReferenceIdeal.τ).loc Cert.ScatterReferenceIdeal.main_arg0)
          ∧ r.2.mem ((c.tc : Thread Cert.ScatterReferenceIdeal.nD Cert.ScatterReferenceIdeal.τ).loc Cert.ScatterReferenceIdeal.main_arg1) = m' ((c.tc : Thread Cert.ScatterReferenceIdeal.nD Cert.ScatterReferenceIdeal.τ).loc Cert.ScatterReferenceIdeal.main_arg1)
          ∧ r.2.mem ((c.tc : Thread Cert.ScatterReferenceIdeal.nD Cert.ScatterReferenceIdeal.τ).loc Cert.ScatterReferenceIdeal.main_arg2) = m' ((c.tc : Thread Cert.ScatterReferenceIdeal.nD Cert.ScatterReferenceIdeal.τ).loc Cert.ScatterReferenceIdeal.main_arg2))

def preserves_BtoS_BtoSIdeal : Prop :=
  True

def algebraic_BtoSIdeal_BtoSReferenceIdeal [hBtoSIdeal : Cert.BtoSIdeal.Facts] [hBtoSReferenceIdeal : Cert.BtoSReferenceIdeal.Facts] : Prop :=
  ∀ (m : (ℓ : Loc Cert.BtoSIdeal.nD Cert.BtoSIdeal.τ Cert.BtoSIdeal.sig) → Buf (Elt Ideal) ℓ) (g : Dev Cert.BtoSIdeal.nD → PrngReg)
    (m' : (ℓ : Loc Cert.BtoSReferenceIdeal.nD Cert.BtoSReferenceIdeal.τ Cert.BtoSReferenceIdeal.sig) → Buf (Elt Ideal) ℓ) (g' : Dev Cert.BtoSReferenceIdeal.nD → PrngReg), Pre_BtoSIdeal m →
    (∀ c : Dev Cert.BtoSIdeal.nD,
      m' ((c.tc : Thread Cert.BtoSReferenceIdeal.nD Cert.BtoSReferenceIdeal.τ).loc Cert.BtoSReferenceIdeal.main_arg0) = m ((c.tc : Thread Cert.BtoSIdeal.nD Cert.BtoSIdeal.τ).loc Cert.BtoSIdeal.main_arg0)
      ∧ m' ((c.tc : Thread Cert.BtoSReferenceIdeal.nD Cert.BtoSReferenceIdeal.τ).loc Cert.BtoSReferenceIdeal.main_arg1) = m ((c.tc : Thread Cert.BtoSIdeal.nD Cert.BtoSIdeal.τ).loc Cert.BtoSIdeal.main_arg1)
      ∧ m' ((c.tc : Thread Cert.BtoSReferenceIdeal.nD Cert.BtoSReferenceIdeal.τ).loc Cert.BtoSReferenceIdeal.main_arg2) = m ((c.tc : Thread Cert.BtoSIdeal.nD Cert.BtoSIdeal.τ).loc Cert.BtoSIdeal.main_arg2)
      ∧ m' ((c.tc : Thread Cert.BtoSReferenceIdeal.nD Cert.BtoSReferenceIdeal.τ).loc Cert.BtoSReferenceIdeal.main_arg3) = m ((c.tc : Thread Cert.BtoSIdeal.nD Cert.BtoSIdeal.τ).loc Cert.BtoSIdeal.main_arg3)
      ∧ m' ((c.tc : Thread Cert.BtoSReferenceIdeal.nD Cert.BtoSReferenceIdeal.τ).loc Cert.BtoSReferenceIdeal.main_arg4) = m ((c.tc : Thread Cert.BtoSIdeal.nD Cert.BtoSIdeal.τ).loc Cert.BtoSIdeal.main_arg4)
      ∧ m' ((c.tc : Thread Cert.BtoSReferenceIdeal.nD Cert.BtoSReferenceIdeal.τ).loc Cert.BtoSReferenceIdeal.main_arg5) = m ((c.tc : Thread Cert.BtoSIdeal.nD Cert.BtoSIdeal.τ).loc Cert.BtoSIdeal.main_arg5)
      ∧ m' ((c.tc : Thread Cert.BtoSReferenceIdeal.nD Cert.BtoSReferenceIdeal.τ).loc Cert.BtoSReferenceIdeal.main_arg6) = m ((c.tc : Thread Cert.BtoSIdeal.nD Cert.BtoSIdeal.τ).loc Cert.BtoSIdeal.main_arg6)) →
    ∃ (v0 : (c : Dev Cert.BtoSIdeal.nD) → Buf (Elt Ideal) ((c.tc : Thread Cert.BtoSIdeal.nD Cert.BtoSIdeal.τ).loc Cert.BtoSIdeal.main_v2_0)) (v1 : (c : Dev Cert.BtoSIdeal.nD) → Buf (Elt Ideal) ((c.tc : Thread Cert.BtoSIdeal.nD Cert.BtoSIdeal.τ).loc Cert.BtoSIdeal.main_v2_1)),
      θ_run (Cert.BtoSIdeal.defs (F := Ideal)) (onTc (τ := Cert.BtoSIdeal.τ) (Cert.BtoSIdeal.main (F := Ideal))) ⟨m, fun _ => 0, g⟩ (fun r => ∀ c : Dev Cert.BtoSIdeal.nD,
          r.2.mem ((c.tc : Thread Cert.BtoSIdeal.nD Cert.BtoSIdeal.τ).loc Cert.BtoSIdeal.main_v2_0) = v0 c
          ∧ r.2.mem ((c.tc : Thread Cert.BtoSIdeal.nD Cert.BtoSIdeal.τ).loc Cert.BtoSIdeal.main_v2_1) = v1 c
          ∧ r.2.mem ((c.tc : Thread Cert.BtoSIdeal.nD Cert.BtoSIdeal.τ).loc Cert.BtoSIdeal.main_arg0) = m ((c.tc : Thread Cert.BtoSIdeal.nD Cert.BtoSIdeal.τ).loc Cert.BtoSIdeal.main_arg0)
          ∧ r.2.mem ((c.tc : Thread Cert.BtoSIdeal.nD Cert.BtoSIdeal.τ).loc Cert.BtoSIdeal.main_arg1) = m ((c.tc : Thread Cert.BtoSIdeal.nD Cert.BtoSIdeal.τ).loc Cert.BtoSIdeal.main_arg1)
          ∧ r.2.mem ((c.tc : Thread Cert.BtoSIdeal.nD Cert.BtoSIdeal.τ).loc Cert.BtoSIdeal.main_arg2) = m ((c.tc : Thread Cert.BtoSIdeal.nD Cert.BtoSIdeal.τ).loc Cert.BtoSIdeal.main_arg2)
          ∧ r.2.mem ((c.tc : Thread Cert.BtoSIdeal.nD Cert.BtoSIdeal.τ).loc Cert.BtoSIdeal.main_arg3) = m ((c.tc : Thread Cert.BtoSIdeal.nD Cert.BtoSIdeal.τ).loc Cert.BtoSIdeal.main_arg3)
          ∧ r.2.mem ((c.tc : Thread Cert.BtoSIdeal.nD Cert.BtoSIdeal.τ).loc Cert.BtoSIdeal.main_arg4) = m ((c.tc : Thread Cert.BtoSIdeal.nD Cert.BtoSIdeal.τ).loc Cert.BtoSIdeal.main_arg4)
          ∧ r.2.mem ((c.tc : Thread Cert.BtoSIdeal.nD Cert.BtoSIdeal.τ).loc Cert.BtoSIdeal.main_arg5) = m ((c.tc : Thread Cert.BtoSIdeal.nD Cert.BtoSIdeal.τ).loc Cert.BtoSIdeal.main_arg5)
          ∧ r.2.mem ((c.tc : Thread Cert.BtoSIdeal.nD Cert.BtoSIdeal.τ).loc Cert.BtoSIdeal.main_arg6) = m ((c.tc : Thread Cert.BtoSIdeal.nD Cert.BtoSIdeal.τ).loc Cert.BtoSIdeal.main_arg6))
      ∧ θ_run (Cert.BtoSReferenceIdeal.defs (F := Ideal)) (onTc (τ := Cert.BtoSReferenceIdeal.τ) (Cert.BtoSReferenceIdeal.main (F := Ideal))) ⟨m', fun _ => 0, g'⟩ (fun r => ∀ c : Dev Cert.BtoSReferenceIdeal.nD,
          r.2.mem ((c.tc : Thread Cert.BtoSReferenceIdeal.nD Cert.BtoSReferenceIdeal.τ).loc Cert.BtoSReferenceIdeal.main_v21) = v0 c
          ∧ r.2.mem ((c.tc : Thread Cert.BtoSReferenceIdeal.nD Cert.BtoSReferenceIdeal.τ).loc Cert.BtoSReferenceIdeal.main_v48) = v1 c
          ∧ r.2.mem ((c.tc : Thread Cert.BtoSReferenceIdeal.nD Cert.BtoSReferenceIdeal.τ).loc Cert.BtoSReferenceIdeal.main_arg0) = m' ((c.tc : Thread Cert.BtoSReferenceIdeal.nD Cert.BtoSReferenceIdeal.τ).loc Cert.BtoSReferenceIdeal.main_arg0)
          ∧ r.2.mem ((c.tc : Thread Cert.BtoSReferenceIdeal.nD Cert.BtoSReferenceIdeal.τ).loc Cert.BtoSReferenceIdeal.main_arg1) = m' ((c.tc : Thread Cert.BtoSReferenceIdeal.nD Cert.BtoSReferenceIdeal.τ).loc Cert.BtoSReferenceIdeal.main_arg1)
          ∧ r.2.mem ((c.tc : Thread Cert.BtoSReferenceIdeal.nD Cert.BtoSReferenceIdeal.τ).loc Cert.BtoSReferenceIdeal.main_arg2) = m' ((c.tc : Thread Cert.BtoSReferenceIdeal.nD Cert.BtoSReferenceIdeal.τ).loc Cert.BtoSReferenceIdeal.main_arg2)
          ∧ r.2.mem ((c.tc : Thread Cert.BtoSReferenceIdeal.nD Cert.BtoSReferenceIdeal.τ).loc Cert.BtoSReferenceIdeal.main_arg3) = m' ((c.tc : Thread Cert.BtoSReferenceIdeal.nD Cert.BtoSReferenceIdeal.τ).loc Cert.BtoSReferenceIdeal.main_arg3)
          ∧ r.2.mem ((c.tc : Thread Cert.BtoSReferenceIdeal.nD Cert.BtoSReferenceIdeal.τ).loc Cert.BtoSReferenceIdeal.main_arg4) = m' ((c.tc : Thread Cert.BtoSReferenceIdeal.nD Cert.BtoSReferenceIdeal.τ).loc Cert.BtoSReferenceIdeal.main_arg4)
          ∧ r.2.mem ((c.tc : Thread Cert.BtoSReferenceIdeal.nD Cert.BtoSReferenceIdeal.τ).loc Cert.BtoSReferenceIdeal.main_arg5) = m' ((c.tc : Thread Cert.BtoSReferenceIdeal.nD Cert.BtoSReferenceIdeal.τ).loc Cert.BtoSReferenceIdeal.main_arg5)
          ∧ r.2.mem ((c.tc : Thread Cert.BtoSReferenceIdeal.nD Cert.BtoSReferenceIdeal.τ).loc Cert.BtoSReferenceIdeal.main_arg6) = m' ((c.tc : Thread Cert.BtoSReferenceIdeal.nD Cert.BtoSReferenceIdeal.τ).loc Cert.BtoSReferenceIdeal.main_arg6))

def preserves_Comp_CompIdeal : Prop :=
  True

def algebraic_CompIdeal_CompReferenceIdeal [hCompIdeal : Cert.CompIdeal.Facts] [hCompReferenceIdeal : Cert.CompReferenceIdeal.Facts] : Prop :=
  ∀ (m : (ℓ : Loc Cert.CompIdeal.nD Cert.CompIdeal.τ Cert.CompIdeal.sig) → Buf (Elt Ideal) ℓ) (g : Dev Cert.CompIdeal.nD → PrngReg)
    (m' : (ℓ : Loc Cert.CompReferenceIdeal.nD Cert.CompReferenceIdeal.τ Cert.CompReferenceIdeal.sig) → Buf (Elt Ideal) ℓ) (g' : Dev Cert.CompReferenceIdeal.nD → PrngReg), Pre_CompIdeal m →
    (∀ c : Dev Cert.CompIdeal.nD,
      m' ((c.tc : Thread Cert.CompReferenceIdeal.nD Cert.CompReferenceIdeal.τ).loc Cert.CompReferenceIdeal.main_arg0) = m ((c.tc : Thread Cert.CompIdeal.nD Cert.CompIdeal.τ).loc Cert.CompIdeal.main_arg0)
      ∧ m' ((c.tc : Thread Cert.CompReferenceIdeal.nD Cert.CompReferenceIdeal.τ).loc Cert.CompReferenceIdeal.main_arg1) = m ((c.tc : Thread Cert.CompIdeal.nD Cert.CompIdeal.τ).loc Cert.CompIdeal.main_arg1)
      ∧ m' ((c.tc : Thread Cert.CompReferenceIdeal.nD Cert.CompReferenceIdeal.τ).loc Cert.CompReferenceIdeal.main_arg2) = m ((c.tc : Thread Cert.CompIdeal.nD Cert.CompIdeal.τ).loc Cert.CompIdeal.main_arg2)) →
    ∃ (v0 : (c : Dev Cert.CompIdeal.nD) → Buf (Elt Ideal) ((c.tc : Thread Cert.CompIdeal.nD Cert.CompIdeal.τ).loc Cert.CompIdeal.main_v0_0)) (v1 : (c : Dev Cert.CompIdeal.nD) → Buf (Elt Ideal) ((c.tc : Thread Cert.CompIdeal.nD Cert.CompIdeal.τ).loc Cert.CompIdeal.main_v0_1)),
      θ_run (Cert.CompIdeal.defs (F := Ideal)) (onTc (τ := Cert.CompIdeal.τ) (Cert.CompIdeal.main (F := Ideal))) ⟨m, fun _ => 0, g⟩ (fun r => ∀ c : Dev Cert.CompIdeal.nD,
          r.2.mem ((c.tc : Thread Cert.CompIdeal.nD Cert.CompIdeal.τ).loc Cert.CompIdeal.main_v0_0) = v0 c
          ∧ r.2.mem ((c.tc : Thread Cert.CompIdeal.nD Cert.CompIdeal.τ).loc Cert.CompIdeal.main_v0_1) = v1 c
          ∧ r.2.mem ((c.tc : Thread Cert.CompIdeal.nD Cert.CompIdeal.τ).loc Cert.CompIdeal.main_arg0) = m ((c.tc : Thread Cert.CompIdeal.nD Cert.CompIdeal.τ).loc Cert.CompIdeal.main_arg0)
          ∧ r.2.mem ((c.tc : Thread Cert.CompIdeal.nD Cert.CompIdeal.τ).loc Cert.CompIdeal.main_arg1) = m ((c.tc : Thread Cert.CompIdeal.nD Cert.CompIdeal.τ).loc Cert.CompIdeal.main_arg1)
          ∧ r.2.mem ((c.tc : Thread Cert.CompIdeal.nD Cert.CompIdeal.τ).loc Cert.CompIdeal.main_arg2) = m ((c.tc : Thread Cert.CompIdeal.nD Cert.CompIdeal.τ).loc Cert.CompIdeal.main_arg2))
      ∧ θ_run (Cert.CompReferenceIdeal.defs (F := Ideal)) (onTc (τ := Cert.CompReferenceIdeal.τ) (Cert.CompReferenceIdeal.main (F := Ideal))) ⟨m', fun _ => 0, g'⟩ (fun r => ∀ c : Dev Cert.CompReferenceIdeal.nD,
          r.2.mem ((c.tc : Thread Cert.CompReferenceIdeal.nD Cert.CompReferenceIdeal.τ).loc Cert.CompReferenceIdeal.main_v16) = v0 c
          ∧ r.2.mem ((c.tc : Thread Cert.CompReferenceIdeal.nD Cert.CompReferenceIdeal.τ).loc Cert.CompReferenceIdeal.main_v17) = v1 c
          ∧ r.2.mem ((c.tc : Thread Cert.CompReferenceIdeal.nD Cert.CompReferenceIdeal.τ).loc Cert.CompReferenceIdeal.main_arg0) = m' ((c.tc : Thread Cert.CompReferenceIdeal.nD Cert.CompReferenceIdeal.τ).loc Cert.CompReferenceIdeal.main_arg0)
          ∧ r.2.mem ((c.tc : Thread Cert.CompReferenceIdeal.nD Cert.CompReferenceIdeal.τ).loc Cert.CompReferenceIdeal.main_arg1) = m' ((c.tc : Thread Cert.CompReferenceIdeal.nD Cert.CompReferenceIdeal.τ).loc Cert.CompReferenceIdeal.main_arg1)
          ∧ r.2.mem ((c.tc : Thread Cert.CompReferenceIdeal.nD Cert.CompReferenceIdeal.τ).loc Cert.CompReferenceIdeal.main_arg2) = m' ((c.tc : Thread Cert.CompReferenceIdeal.nD Cert.CompReferenceIdeal.τ).loc Cert.CompReferenceIdeal.main_arg2))

def preserves_Final_FinalIdeal : Prop :=
  IdealRules.named_const.Statement Cert.FinalIdeal.κ "sqrt_dim" .f32 0x41DDB3D7#32 ((Real.sqrt 768 : ℝ) : EReal)

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)
      ∧ m' ((c.tc : Thread Cert.FinalReferenceIdeal.nD Cert.FinalReferenceIdeal.τ).loc Cert.FinalReferenceIdeal.main_arg6) = m ((c.tc : Thread Cert.FinalIdeal.nD Cert.FinalIdeal.τ).loc Cert.FinalIdeal.main_arg6)
      ∧ m' ((c.tc : Thread Cert.FinalReferenceIdeal.nD Cert.FinalReferenceIdeal.τ).loc Cert.FinalReferenceIdeal.main_arg7) = m ((c.tc : Thread Cert.FinalIdeal.nD Cert.FinalIdeal.τ).loc Cert.FinalIdeal.main_arg7)
      ∧ m' ((c.tc : Thread Cert.FinalReferenceIdeal.nD Cert.FinalReferenceIdeal.τ).loc Cert.FinalReferenceIdeal.main_arg8) = m ((c.tc : Thread Cert.FinalIdeal.nD Cert.FinalIdeal.τ).loc Cert.FinalIdeal.main_arg8)
      ∧ m' ((c.tc : Thread Cert.FinalReferenceIdeal.nD Cert.FinalReferenceIdeal.τ).loc Cert.FinalReferenceIdeal.main_arg9) = m ((c.tc : Thread Cert.FinalIdeal.nD Cert.FinalIdeal.τ).loc Cert.FinalIdeal.main_arg9)) →
    ∃ (v0 : (c : Dev Cert.FinalIdeal.nD) → Buf (Elt Ideal) ((c.tc : Thread Cert.FinalIdeal.nD Cert.FinalIdeal.τ).loc Cert.FinalIdeal.main_v3_0)) (v1 : (c : Dev Cert.FinalIdeal.nD) → Buf (Elt Ideal) ((c.tc : Thread Cert.FinalIdeal.nD Cert.FinalIdeal.τ).loc Cert.FinalIdeal.main_v3_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3_0) = v0 c
          ∧ r.2.mem ((c.tc : Thread Cert.FinalIdeal.nD Cert.FinalIdeal.τ).loc Cert.FinalIdeal.main_v3_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
          ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
          ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v57) = v0 c
          ∧ r.2.mem ((c.tc : Thread Cert.FinalReferenceIdeal.nD Cert.FinalReferenceIdeal.τ).loc Cert.FinalReferenceIdeal.main_v84) = v1 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5)
          ∧ r.2.mem ((c.tc : Thread Cert.FinalReferenceIdeal.nD Cert.FinalReferenceIdeal.τ).loc Cert.FinalReferenceIdeal.main_arg6) = m' ((c.tc : Thread Cert.FinalReferenceIdeal.nD Cert.FinalReferenceIdeal.τ).loc Cert.FinalReferenceIdeal.main_arg6)
          ∧ r.2.mem ((c.tc : Thread Cert.FinalReferenceIdeal.nD Cert.FinalReferenceIdeal.τ).loc Cert.FinalReferenceIdeal.main_arg7) = m' ((c.tc : Thread Cert.FinalReferenceIdeal.nD Cert.FinalReferenceIdeal.τ).loc Cert.FinalReferenceIdeal.main_arg7)
          ∧ r.2.mem ((c.tc : Thread Cert.FinalReferenceIdeal.nD Cert.FinalReferenceIdeal.τ).loc Cert.FinalReferenceIdeal.main_arg8) = m' ((c.tc : Thread Cert.FinalReferenceIdeal.nD Cert.FinalReferenceIdeal.τ).loc Cert.FinalReferenceIdeal.main_arg8)
          ∧ r.2.mem ((c.tc : Thread Cert.FinalReferenceIdeal.nD Cert.FinalReferenceIdeal.τ).loc Cert.FinalReferenceIdeal.main_arg9) = m' ((c.tc : Thread Cert.FinalReferenceIdeal.nD Cert.FinalReferenceIdeal.τ).loc Cert.FinalReferenceIdeal.main_arg9))

def Claim : Prop :=
  ∃ (hKernel : Cert.Kernel.Facts) (hKernelIdeal : Cert.KernelIdeal.Facts) (hReferenceIdeal : Cert.ReferenceIdeal.Facts) (hSprop : Cert.Sprop.Facts) (hSpropIdeal : Cert.SpropIdeal.Facts) (hSpropReferenceIdeal : Cert.SpropReferenceIdeal.Facts) (hLogits : Cert.Logits.Facts) (hLogitsIdeal : Cert.LogitsIdeal.Facts) (hLogitsReferenceIdeal : Cert.LogitsReferenceIdeal.Facts) (hScatter : Cert.Scatter.Facts) (hScatterIdeal : Cert.ScatterIdeal.Facts) (hScatterReferenceIdeal : Cert.ScatterReferenceIdeal.Facts) (hBtoS : Cert.BtoS.Facts) (hBtoSIdeal : Cert.BtoSIdeal.Facts) (hBtoSReferenceIdeal : Cert.BtoSReferenceIdeal.Facts) (hComp : Cert.Comp.Facts) (hCompIdeal : Cert.CompIdeal.Facts) (hCompReferenceIdeal : Cert.CompReferenceIdeal.Facts) (hFinal : Cert.Final.Facts) (hFinalIdeal : Cert.FinalIdeal.Facts) (hFinalReferenceIdeal : Cert.FinalReferenceIdeal.Facts) (hPre_finite : Cert.Pre_finite.Facts) (hPre_finite_s : Cert.Pre_finite_s.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Sprop (hSprop := hSprop)
    ∧ quiescent_SpropIdeal (hSpropIdeal := hSpropIdeal)
    ∧ quiescent_SpropIdeal_pre_finite_s (hSpropIdeal := hSpropIdeal) (hPre_finite_s := hPre_finite_s)
    ∧ quiescent_SpropReferenceIdeal (hSpropReferenceIdeal := hSpropReferenceIdeal)
    ∧ quiescent_SpropReferenceIdeal_pre_finite_s (hSpropReferenceIdeal := hSpropReferenceIdeal) (hPre_finite_s := hPre_finite_s)
    ∧ quiescent_Logits (hLogits := hLogits)
    ∧ quiescent_LogitsIdeal (hLogitsIdeal := hLogitsIdeal)
    ∧ quiescent_LogitsReferenceIdeal (hLogitsReferenceIdeal := hLogitsReferenceIdeal)
    ∧ quiescent_Scatter (hScatter := hScatter)
    ∧ quiescent_ScatterIdeal (hScatterIdeal := hScatterIdeal)
    ∧ quiescent_ScatterReferenceIdeal (hScatterReferenceIdeal := hScatterReferenceIdeal)
    ∧ quiescent_BtoS (hBtoS := hBtoS)
    ∧ quiescent_BtoSIdeal (hBtoSIdeal := hBtoSIdeal)
    ∧ quiescent_BtoSReferenceIdeal (hBtoSReferenceIdeal := hBtoSReferenceIdeal)
    ∧ quiescent_Comp (hComp := hComp)
    ∧ quiescent_CompIdeal (hCompIdeal := hCompIdeal)
    ∧ quiescent_CompReferenceIdeal (hCompReferenceIdeal := hCompReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Sprop_SpropIdeal
    ∧ algebraic_SpropIdeal_SpropReferenceIdeal_pre_finite_s (hSpropIdeal := hSpropIdeal) (hSpropReferenceIdeal := hSpropReferenceIdeal) (hPre_finite_s := hPre_finite_s)
    ∧ preserves_Logits_LogitsIdeal
    ∧ algebraic_LogitsIdeal_LogitsReferenceIdeal (hLogitsIdeal := hLogitsIdeal) (hLogitsReferenceIdeal := hLogitsReferenceIdeal)
    ∧ preserves_Scatter_ScatterIdeal
    ∧ algebraic_ScatterIdeal_ScatterReferenceIdeal (hScatterIdeal := hScatterIdeal) (hScatterReferenceIdeal := hScatterReferenceIdeal)
    ∧ preserves_BtoS_BtoSIdeal
    ∧ algebraic_BtoSIdeal_BtoSReferenceIdeal (hBtoSIdeal := hBtoSIdeal) (hBtoSReferenceIdeal := hBtoSReferenceIdeal)
    ∧ preserves_Comp_CompIdeal
    ∧ algebraic_CompIdeal_CompReferenceIdeal (hCompIdeal := hCompIdeal) (hCompReferenceIdeal := hCompReferenceIdeal)
    ∧ preserves_Final_FinalIdeal
    ∧ algebraic_FinalIdeal_FinalReferenceIdeal (hFinalIdeal := hFinalIdeal) (hFinalReferenceIdeal := hFinalReferenceIdeal)
-- ==== Pre_finite.lean ====
abbrev S4096x768 : Shape := ⟨2, ![4096, 768]⟩
abbrev S768 : Shape := ⟨1, ![768]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768 : S_.BroadcastsInDim S768 (![] : Fin 0 → Fin S768.rank)
  reducesTo_S768_S_d0 : S768.ReducesTo [0] S_

variable [Facts]

def fn {F : FTy → Type} [FloatOps F] (main_arg0 : FVec F S4096x768 .f32) (main_arg1 : FVec F S4096x768 .f32) (main_arg2 : FVec F S768 .f32) (main_arg3 : FVec F S768 .f32) (main_arg4 : FVec F S768 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S768 .f32 := Host.absf main_arg2
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  main_v8
-- ==== Pre_finite_s.lean ====
abbrev S2048x768 : Shape := ⟨2, ![2048, 768]⟩
abbrev S768 : Shape := ⟨1, ![768]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S768 : S_.BroadcastsInDim S768 (![] : Fin 0 → Fin S768.rank)
  reducesTo_S768_S_d0 : S768.ReducesTo [0] S_

variable [Facts]

def fn {F : FTy → Type} [FloatOps F] (main_arg0 : FVec F S2048x768 .f32) (main_arg1 : FVec F S2048x768 .f32) (main_arg2 : FVec F S768 .f32) (main_arg3 : FVec F S768 .f32) (main_arg4 : FVec F S768 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S768 .f32 := Host.absf main_arg2
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  main_v8
-- ==== Kernel.lean ====
abbrev S4096x768 : Shape := ⟨2, ![4096, 768]⟩
abbrev S768 : Shape := ⟨1, ![768]⟩
abbrev S1x768 : Shape := ⟨2, ![1, 768]⟩
abbrev S256x768 : Shape := ⟨2, ![256, 768]⟩
abbrev S512x768 : Shape := ⟨2, ![512, 768]⟩
abbrev S256x512 : Shape := ⟨2, ![256, 512]⟩
abbrev S256 : Shape := ⟨1, ![256]⟩
abbrev S256x1 : Shape := ⟨2, ![256, 1]⟩
abbrev S256x4 : Shape := ⟨2, ![256, 4]⟩
abbrev S256x8 : Shape := ⟨2, ![256, 8]⟩

abbrev nBuf : Space → Nat
  | .hbm => 10
  | .vmem => 9
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S1x768, .f32⟩
  | .hbm, ⟨6, _⟩ => ⟨S1x768, .f32⟩
  | .hbm, ⟨7, _⟩ => ⟨S1x768, .f32⟩
  | .hbm, ⟨8, _⟩ => ⟨S4096x768, .f32⟩
  | .hbm, ⟨9, _⟩ => ⟨S4096x768, .f32⟩
  | .local _ .vmem, ⟨0, _⟩ => ⟨S4096x768, .f32⟩
  | .local _ .vmem, ⟨1, _⟩ => ⟨S4096x768, .f32⟩
  | .local _ .vmem, ⟨2, _⟩ => ⟨S1x768, .f32⟩
  | .local _ .vmem, ⟨3, _⟩ => ⟨S1x768, .f32⟩
  | .local _ .vmem, ⟨4, _⟩ => ⟨S1x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "sqrt_dim" => some ((Real.sqrt 768 : ℝ) : EReal)
  | _ => none
-- ==== ReferenceIdeal.lean ====
abbrev S4096x768 : Shape := ⟨2, ![4096, 768]⟩
abbrev S768 : Shape := ⟨1, ![768]⟩
abbrev S1x768 : Shape := ⟨2, ![1, 768]⟩
abbrev S4096x4096 : Shape := ⟨2, ![4096, 4096]⟩
abbrev S_ : Shape := ⟨0, ![]⟩
abbrev S4096x4 : Shape := ⟨2, ![4096, 4]⟩
abbrev S4096x1 : Shape := ⟨2, ![4096, 1]⟩
abbrev S4096 : Shape := ⟨1, ![4096]⟩

abbrev nBuf : Space → Nat
  | .hbm => 76
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S1x768, .f32⟩
  | .hbm, ⟨6, _⟩ => ⟨S4096x768, .f32⟩
  | .hbm, ⟨7, _⟩ => ⟨S4096x768, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4, .f32⟩
  | .hbm, ⟨14, _⟩ => ⟨S4096x4, .i32⟩
  | .hbm, ⟨15, _⟩ => ⟨S4096x1, .f32⟩
  | .hbm, ⟨16, _⟩ => ⟨S4096x4096, .f32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x768, .f32⟩
  | .hbm, ⟨37, _⟩ => ⟨S4096x768, .f32⟩
  | .hbm, ⟨38, _⟩ => ⟨S_, .f32⟩
  | .hbm, ⟨39, _⟩ => ⟨S4096x768, .f32⟩
  | .hbm, ⟨40, _⟩ => ⟨S4096x768, .f32⟩
  | .hbm, ⟨41, _⟩ => ⟨S4096x768, .f32⟩
  | .hbm, ⟨42, _⟩ => ⟨S4096x768, .f32⟩
  | .hbm, ⟨43, _⟩ => ⟨S_, .f32⟩
  | .hbm, ⟨44, _⟩ => ⟨S4096x768, .f32⟩
  | .hbm, ⟨45, _⟩ => ⟨S4096x768, .f32⟩
  | .hbm, ⟨46, _⟩ => ⟨S4096x768, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x768, .f32⟩
  | .hbm, ⟨54, _⟩ => ⟨S4096x768, .f32⟩
  | .hbm, ⟨55, _⟩ => ⟨S4096x768, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x768, .f32⟩
  | .hbm, ⟨63, _⟩ => ⟨S4096x768, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x768, .f32⟩
  | .hbm, ⟨69, _⟩ => ⟨S4096x768, .f32⟩
  | .hbm, ⟨70, _⟩ => ⟨S1x768, .f32⟩
  | .hbm, ⟨71, _⟩ => ⟨S4096x768, .f32⟩
  | .hbm, ⟨72, _⟩ => ⟨S4096x768, .f32⟩
  | .hbm, ⟨73, _⟩ => ⟨S1x768, .f32⟩
  | .hbm, ⟨74, _⟩ => ⟨S4096x768, .f32⟩
  | .hbm, ⟨75, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Sprop.lean ====
abbrev S2048x768 : Shape := ⟨2, ![2048, 768]⟩
abbrev S768 : Shape := ⟨1, ![768]⟩
abbrev S1x768 : Shape := ⟨2, ![1, 768]⟩
abbrev S_ : Shape := ⟨0, ![]⟩
abbrev S4x768 : Shape := ⟨2, ![4, 768]⟩
abbrev S2056x768 : Shape := ⟨2, ![2056, 768]⟩
abbrev S256x768 : Shape := ⟨2, ![256, 768]⟩
abbrev S264x768 : Shape := ⟨2, ![264, 768]⟩
abbrev S256x264 : Shape := ⟨2, ![256, 264]⟩
abbrev S256x1 : Shape := ⟨2, ![256, 1]⟩
abbrev S256 : Shape := ⟨1, ![256]⟩

abbrev nBuf : Space → Nat
  | .hbm => 14
  | .vmem => 9
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S1x768, .f32⟩
  | .hbm, ⟨6, _⟩ => ⟨S1x768, .f32⟩
  | .hbm, ⟨7, _⟩ => ⟨S1x768, .f32⟩
  | .hbm, ⟨8, _⟩ => ⟨S_, .f32⟩
  | .hbm, ⟨9, _⟩ => ⟨S4x768, .f32⟩
  | .hbm, ⟨10, _⟩ => ⟨S2056x768, .f32⟩
  | .hbm, ⟨11, _⟩ => ⟨S2056x768, .f32⟩
  | .hbm, ⟨12, _⟩ => ⟨S2048x768, .f32⟩
  | .hbm, ⟨13, _⟩ => ⟨S2048x768, .f32⟩
  | .local _ .vmem, ⟨0, _⟩ => ⟨S2056x768, .f32⟩
  | .local _ .vmem, ⟨1, _⟩ => ⟨S2056x768, .f32⟩
  | .local _ .vmem, ⟨2, _⟩ => ⟨S1x768, .f32⟩
  | .local _ .vmem, ⟨3, _⟩ => ⟨S1x768, .f32⟩
  | .local _ .vmem, ⟨4, _⟩ => ⟨S1x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2056x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2056x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SpropIdeal.lean ====
variable {F : FTy → Type} [FloatOps F] [Named F]
def κ : String → Option EReal := fun
  | "sqrt_dim" => some ((Real.sqrt 768 : ℝ) : EReal)
  | _ => none
-- ==== SpropReferenceIdeal.lean ====
abbrev S2048x768 : Shape := ⟨2, ![2048, 768]⟩
abbrev S768 : Shape := ⟨1, ![768]⟩
abbrev S1x768 : Shape := ⟨2, ![1, 768]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S1x768, .f32⟩
  | .hbm, ⟨6, _⟩ => ⟨S2048x768, .f32⟩
  | .hbm, ⟨7, _⟩ => ⟨S2048x768, .f32⟩
  | .hbm, ⟨8, _⟩ => ⟨S2048x2048, .f32⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048, .i32⟩
  | .hbm, ⟨14, _⟩ => ⟨S2048x1, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x768, .f32⟩
  | .hbm, ⟨42, _⟩ => ⟨S2048x768, .f32⟩
  | .hbm, ⟨43, _⟩ => ⟨S_, .f32⟩
  | .hbm, ⟨44, _⟩ => ⟨S2048x768, .f32⟩
  | .hbm, ⟨45, _⟩ => ⟨S2048x768, .f32⟩
  | .hbm, ⟨46, _⟩ => ⟨S2048x768, .f32⟩
  | .hbm, ⟨47, _⟩ => ⟨S2048x768, .f32⟩
  | .hbm, ⟨48, _⟩ => ⟨S_, .f32⟩
  | .hbm, ⟨49, _⟩ => ⟨S2048x768, .f32⟩
  | .hbm, ⟨50, _⟩ => ⟨S2048x768, .f32⟩
  | .hbm, ⟨51, _⟩ => ⟨S2048x768, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S2048x768, .f32⟩
  | .hbm, ⟨59, _⟩ => ⟨S2048x768, .f32⟩
  | .hbm, ⟨60, _⟩ => ⟨S2048x768, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x768, .f32⟩
  | .hbm, ⟨68, _⟩ => ⟨S2048x768, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S2048x1, .f32⟩
  | .hbm, ⟨73, _⟩ => ⟨S2048x768, .f32⟩
  | .hbm, ⟨74, _⟩ => ⟨S2048x768, .f32⟩
  | .hbm, ⟨75, _⟩ => ⟨S1x768, .f32⟩
  | .hbm, ⟨76, _⟩ => ⟨S2048x768, .f32⟩
  | .hbm, ⟨77, _⟩ => ⟨S2048x768, .f32⟩
  | .hbm, ⟨78, _⟩ => ⟨S1x768, .f32⟩
  | .hbm, ⟨79, _⟩ => ⟨S2048x768, .f32⟩
  | .hbm, ⟨80, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Logits.lean ====
abbrev S512x768 : Shape := ⟨2, ![512, 768]⟩
abbrev S768x4096 : Shape := ⟨2, ![768, 4096]⟩
abbrev S768 : Shape := ⟨1, ![768]⟩
abbrev S1x768 : Shape := ⟨2, ![1, 768]⟩
abbrev S512x4096 : Shape := ⟨2, ![512, 4096]⟩
abbrev S768x1024 : Shape := ⟨2, ![768, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S768x4096, .f32⟩
  | .hbm, ⟨3, _⟩ => ⟨S768, .f32⟩
  | .hbm, ⟨4, _⟩ => ⟨S768, .f32⟩
  | .hbm, ⟨5, _⟩ => ⟨S1x768, .f32⟩
  | .hbm, ⟨6, _⟩ => ⟨S1x768, .f32⟩
  | .hbm, ⟨7, _⟩ => ⟨S512x4096, .f32⟩
  | .hbm, ⟨8, _⟩ => ⟨S512x768, .f32⟩
  | .hbm, ⟨9, _⟩ => ⟨S512x768, .f32⟩
  | .local _ .vmem, ⟨0, _⟩ => ⟨S512x768, .f32⟩
  | .local _ .vmem, ⟨1, _⟩ => ⟨S512x768, .f32⟩
  | .local _ .vmem, ⟨2, _⟩ => ⟨S768x1024, .f32⟩
  | .local _ .vmem, ⟨3, _⟩ => ⟨S768x1024, .f32⟩
  | .local _ .vmem, ⟨4, _⟩ => ⟨S1x768, .f32⟩
  | .local _ .vmem, ⟨5, _⟩ => ⟨S1x768, .f32⟩
  | .local _ .vmem, ⟨6, _⟩ => ⟨S512x1024, .f32⟩
  | .local _ .vmem, ⟨7, _⟩ => ⟨S512x1024, .f32⟩
  | .local _ .vmem, ⟨8, _⟩ => ⟨S512x768, .f32⟩
  | .local _ .vmem, ⟨9, _⟩ => ⟨S512x768, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LogitsReferenceIdeal.lean ====
abbrev S512x768 : Shape := ⟨2, ![512, 768]⟩
abbrev S768x4096 : Shape := ⟨2, ![768, 4096]⟩
abbrev S768 : Shape := ⟨1, ![768]⟩
abbrev S_ : Shape := ⟨0, ![]⟩
abbrev S512 : Shape := ⟨1, ![512]⟩
abbrev S512x1 : Shape := ⟨2, ![512, 1]⟩
abbrev S1x768 : Shape := ⟨2, ![1, 768]⟩
abbrev S512x4096 : Shape := ⟨2, ![512, 4096]⟩

abbrev nBuf : Space → Nat
  | .hbm => 36
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S768x4096, .f32⟩
  | .hbm, ⟨3, _⟩ => ⟨S768, .f32⟩
  | .hbm, ⟨4, _⟩ => ⟨S768, .f32⟩
  | .hbm, ⟨5, _⟩ => ⟨S512x768, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x768, .f32⟩
  | .hbm, ⟨13, _⟩ => ⟨S512x768, .f32⟩
  | .hbm, ⟨14, _⟩ => ⟨S512x768, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x768, .f32⟩
  | .hbm, ⟨22, _⟩ => ⟨S512x768, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x768, .f32⟩
  | .hbm, ⟨28, _⟩ => ⟨S512x768, .f32⟩
  | .hbm, ⟨29, _⟩ => ⟨S1x768, .f32⟩
  | .hbm, ⟨30, _⟩ => ⟨S512x768, .f32⟩
  | .hbm, ⟨31, _⟩ => ⟨S512x768, .f32⟩
  | .hbm, ⟨32, _⟩ => ⟨S1x768, .f32⟩
  | .hbm, ⟨33, _⟩ => ⟨S512x768, .f32⟩
  | .hbm, ⟨34, _⟩ => ⟨S512x768, .f32⟩
  | .hbm, ⟨35, _⟩ => ⟨S512x4096, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Scatter.lean ====
abbrev S512x4096 : Shape := ⟨2, ![512, 4096]⟩
abbrev S512x768 : Shape := ⟨2, ![512, 768]⟩
abbrev S4096x768 : Shape := ⟨2, ![4096, 768]⟩
abbrev S1024x768 : Shape := ⟨2, ![1024, 768]⟩
abbrev S512x1024 : Shape := ⟨2, ![512, 1024]⟩
abbrev S512 : Shape := ⟨1, ![512]⟩
abbrev S512x1 : Shape := ⟨2, ![512, 1]⟩
abbrev S512x4 : Shape := ⟨2, ![512, 4]⟩
abbrev S512x8 : Shape := ⟨2, ![512, 8]⟩

abbrev nBuf : Space → Nat
  | .hbm => 5
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S512x768, .f32⟩
  | .hbm, ⟨2, _⟩ => ⟨S512x768, .f32⟩
  | .hbm, ⟨3, _⟩ => ⟨S4096x768, .f32⟩
  | .hbm, ⟨4, _⟩ => ⟨S4096x768, .f32⟩
  | .local _ .vmem, ⟨0, _⟩ => ⟨S512x4096, .f32⟩
  | .local _ .vmem, ⟨1, _⟩ => ⟨S512x768, .f32⟩
  | .local _ .vmem, ⟨2, _⟩ => ⟨S512x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_121 : Index := 0#32
  let arg0 : BitVec 32 := BitVec.ofNat 32 (i 0).val
  let c1024_i32 : BitVec 32 := 1024#32
  let v442 : BitVec 32 := Scalar.muli arg0 c1024_i32
  let v443 : Index := Scalar.indexCast v442
  ![0, v443.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScatterReferenceIdeal.lean ====
abbrev S512x4096 : Shape := ⟨2, ![512, 4096]⟩
abbrev S512x768 : Shape := ⟨2, ![512, 768]⟩
abbrev S_ : Shape := ⟨0, ![]⟩
abbrev S4096x768 : Shape := ⟨2, ![4096, 768]⟩
abbrev S512x4 : Shape := ⟨2, ![512, 4]⟩
abbrev S512x1 : Shape := ⟨2, ![512, 1]⟩
abbrev S512 : Shape := ⟨1, ![512]⟩

abbrev nBuf : Space → Nat
  | .hbm => 40
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x768, .f32⟩
  | .hbm, ⟨2, _⟩ => ⟨S512x768, .f32⟩
  | .hbm, ⟨3, _⟩ => ⟨S_, .f32⟩
  | .hbm, ⟨4, _⟩ => ⟨S4096x768, .f32⟩
  | .hbm, ⟨5, _⟩ => ⟨S_, .f32⟩
  | .hbm, ⟨6, _⟩ => ⟨S4096x768, .f32⟩
  | .hbm, ⟨7, _⟩ => ⟨S512x4, .f32⟩
  | .hbm, ⟨8, _⟩ => ⟨S512x4, .i32⟩
  | .hbm, ⟨9, _⟩ => ⟨S512x1, .f32⟩
  | .hbm, ⟨10, _⟩ => ⟨S512x4096, .f32⟩
  | .hbm, ⟨11, _⟩ => ⟨S512x4096, .i1⟩
  | .hbm, ⟨12, _⟩ => ⟨S_, .f32⟩
  | .hbm, ⟨13, _⟩ => ⟨S_, .f32⟩
  | .hbm, ⟨14, _⟩ => ⟨S512x4096, .f32⟩
  | .hbm, ⟨15, _⟩ => ⟨S512x4096, .f32⟩
  | .hbm, ⟨16, _⟩ => ⟨S_, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512x1, .f32⟩
  | .hbm, ⟨22, _⟩ => ⟨S512x4096, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512, .f32⟩
  | .hbm, ⟨27, _⟩ => ⟨S512x1, .f32⟩
  | .hbm, ⟨28, _⟩ => ⟨S512x4096, .f32⟩
  | .hbm, ⟨29, _⟩ => ⟨S512x4096, .f32⟩
  | .hbm, ⟨30, _⟩ => ⟨S4096x768, .f32⟩
  | .hbm, ⟨31, _⟩ => ⟨S4096x768, .f32⟩
  | .hbm, ⟨32, _⟩ => ⟨S_, .f32⟩
  | .hbm, ⟨33, _⟩ => ⟨S4096x768, .f32⟩
  | .hbm, ⟨34, _⟩ => ⟨S4096x768, .f32⟩
  | .hbm, ⟨35, _⟩ => ⟨S4096x768, .f32⟩
  | .hbm, ⟨36, _⟩ => ⟨S_, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== BtoS.lean ====
abbrev S4096x768 : Shape := ⟨2, ![4096, 768]⟩
abbrev S768x2048 : Shape := ⟨2, ![768, 2048]⟩
abbrev S2048x768 : Shape := ⟨2, ![2048, 768]⟩
abbrev S768 : Shape := ⟨1, ![768]⟩
abbrev S1x768 : Shape := ⟨2, ![1, 768]⟩
abbrev S256x768 : Shape := ⟨2, ![256, 768]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S256x4 : Shape := ⟨2, ![256, 4]⟩
abbrev S256x8 : Shape := ⟨2, ![256, 8]⟩
abbrev S512x768 : Shape := ⟨2, ![512, 768]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x2048, .f32⟩
  | .hbm, ⟨3, _⟩ => ⟨S2048x768, .f32⟩
  | .hbm, ⟨4, _⟩ => ⟨S2048x768, .f32⟩
  | .hbm, ⟨5, _⟩ => ⟨S768, .f32⟩
  | .hbm, ⟨6, _⟩ => ⟨S768, .f32⟩
  | .hbm, ⟨7, _⟩ => ⟨S1x768, .f32⟩
  | .hbm, ⟨8, _⟩ => ⟨S1x768, .f32⟩
  | .hbm, ⟨9, _⟩ => ⟨S2048x768, .f32⟩
  | .hbm, ⟨10, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S768x2048, .f32⟩
  | .local _ .vmem, ⟨5, _⟩ => ⟨S2048x768, .f32⟩
  | .local _ .vmem, ⟨6, _⟩ => ⟨S2048x768, .f32⟩
  | .local _ .vmem, ⟨7, _⟩ => ⟨S1x768, .f32⟩
  | .local _ .vmem, ⟨8, _⟩ => ⟨S1x768, .f32⟩
  | .local _ .vmem, ⟨9, _⟩ => ⟨S2048x768, .f32⟩
  | .local _ .vmem, ⟨10, _⟩ => ⟨S2048x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v425 : BitVec 1 := Scalar.cmpi .eq arg0 c0_i32
  let v426 : BitVec 32 := Scalar.extui v425
  let c0_i32_118 : BitVec 32 := 0#32
  let v427 : BitVec 1 := Scalar.cmpi .ne v426 c0_i32_118
  v427

def k0_cond2 (i : grid0.Coords) : BitVec 1 :=
  let arg0 : BitVec 32 := BitVec.ofNat 32 (i 0).val
  let c0_i32_119 : BitVec 32 := 0#32
  let v428 : BitVec 1 := Scalar.cmpi .sgt arg0 c0_i32_119
  let v429 : BitVec 32 := Scalar.extui v428
  let c0_i32_120 : BitVec 32 := 0#32
  let v430 : BitVec 1 := Scalar.cmpi .ne v429 c0_i32_120
  v430

def k0_cond3 (i : grid0.Coords) : BitVec 1 :=
  let arg0 : BitVec 32 := BitVec.ofNat 32 (i 0).val
  let c0_i32_123 : BitVec 32 := 0#32
  let v438 : BitVec 1 := Scalar.cmpi .eq arg0 c0_i32_123
  let v439 : BitVec 32 := Scalar.extui v438
  let c0_i32_124 : BitVec 32 := 0#32
  let v440 : BitVec 1 := Scalar.cmpi .ne v439 c0_i32_124
  v440

def k0_cond4 (i : grid0.Coords) : BitVec 1 :=
  let arg0 : BitVec 32 := BitVec.ofNat 32 (i 0).val
  let c0_i32_125 : BitVec 32 := 0#32
  let v441 : BitVec 1 := Scalar.cmpi .sgt arg0 c0_i32_125
  let v442 : BitVec 32 := Scalar.extui v441
  let c0_i32_126 : BitVec 32 := 0#32
  let v443 : BitVec 1 := Scalar.cmpi .ne v442 c0_i32_126
  v443

def k0_cond5 (i : grid0.Coords) : BitVec 1 :=
  let arg0 : BitVec 32 := BitVec.ofNat 32 (i 0).val
  let c0_i32_129 : BitVec 32 := 0#32
  let v451 : BitVec 1 := Scalar.cmpi .eq arg0 c0_i32_129
  let v452 : BitVec 32 := Scalar.extui v451
  let c0_i32_130 : BitVec 32 := 0#32
  let v453 : BitVec 1 := Scalar.cmpi .ne v452 c0_i32_130
  v453

def k0_cond6 (i : grid0.Coords) : BitVec 1 :=
  let arg0 : BitVec 32 := BitVec.ofNat 32 (i 0).val
  let c0_i32_131 : BitVec 32 := 0#32
  let v454 : BitVec 1 := Scalar.cmpi .sgt arg0 c0_i32_131
  let v455 : BitVec 32 := Scalar.extui v454
  let c0_i32_132 : BitVec 32 := 0#32
  let v456 : BitVec 1 := Scalar.cmpi .ne v455 c0_i32_132
  v456

def k0_cond7 (i : grid0.Coords) : BitVec 1 :=
  let arg0 : BitVec 32 := BitVec.ofNat 32 (i 0).val
  let c0_i32_135 : BitVec 32 := 0#32
  let v464 : BitVec 1 := Scalar.cmpi .eq arg0 c0_i32_135
  let v465 : BitVec 32 := Scalar.extui v464
  let c0_i32_136 : BitVec 32 := 0#32
  let v466 : BitVec 1 := Scalar.cmpi .ne v465 c0_i32_136
  v466

def k0_cond8 (i : grid0.Coords) : BitVec 1 :=
  let arg0 : BitVec 32 := BitVec.ofNat 32 (i 0).val
  let c0_i32_137 : BitVec 32 := 0#32
  let v467 : BitVec 1 := Scalar.cmpi .sgt arg0 c0_i32_137
  let v468 : BitVec 32 := Scalar.extui v467
  let c0_i32_138 : BitVec 32 := 0#32
  let v469 : BitVec 1 := Scalar.cmpi .ne v468 c0_i32_138
  v469

def k0_cond9 (i : grid0.Coords) : BitVec 1 :=
  let arg0 : BitVec 32 := BitVec.ofNat 32 (i 0).val
  let c15_i32 : BitVec 32 := 15#32
  let v470 : BitVec 1 := Scalar.cmpi .eq arg0 c15_i32
  let v471 : BitVec 32 := Scalar.extui v470
  let c0_i32_139 : BitVec 32 := 0#32
  let v472 : BitVec 1 := Scalar.cmpi .ne v471 c0_i32_139
  v472

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BtoSReferenceIdeal.lean ====
abbrev S4096x768 : Shape := ⟨2, ![4096, 768]⟩
abbrev S768x2048 : Shape := ⟨2, ![768, 2048]⟩
abbrev S2048x768 : Shape := ⟨2, ![2048, 768]⟩
abbrev S768 : Shape := ⟨1, ![768]⟩
abbrev S4096x2048 : Shape := ⟨2, ![4096, 2048]⟩
abbrev S4096x4 : Shape := ⟨2, ![4096, 4]⟩
abbrev S4096x1 : Shape := ⟨2, ![4096, 1]⟩
abbrev S_ : Shape := ⟨0, ![]⟩
abbrev S4096 : Shape := ⟨1, ![4096]⟩
abbrev S2048 : Shape := ⟨1, ![2048]⟩
abbrev S2048x1 : Shape := ⟨2, ![2048, 1]⟩
abbrev S1x768 : Shape := ⟨2, ![1, 768]⟩

abbrev nBuf : Space → Nat
  | .hbm => 71
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x2048, .f32⟩
  | .hbm, ⟨3, _⟩ => ⟨S2048x768, .f32⟩
  | .hbm, ⟨4, _⟩ => ⟨S2048x768, .f32⟩
  | .hbm, ⟨5, _⟩ => ⟨S768, .f32⟩
  | .hbm, ⟨6, _⟩ => ⟨S768, .f32⟩
  | .hbm, ⟨7, _⟩ => ⟨S4096x2048, .f32⟩
  | .hbm, ⟨8, _⟩ => ⟨S4096x4, .f32⟩
  | .hbm, ⟨9, _⟩ => ⟨S4096x4, .i32⟩
  | .hbm, ⟨10, _⟩ => ⟨S4096x1, .f32⟩
  | .hbm, ⟨11, _⟩ => ⟨S4096x2048, .f32⟩
  | .hbm, ⟨12, _⟩ => ⟨S4096x2048, .i1⟩
  | .hbm, ⟨13, _⟩ => ⟨S_, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S2048x768, .f32⟩
  | .hbm, ⟨32, _⟩ => ⟨S2048x768, .f32⟩
  | .hbm, ⟨33, _⟩ => ⟨S_, .f32⟩
  | .hbm, ⟨34, _⟩ => ⟨S2048x768, .f32⟩
  | .hbm, ⟨35, _⟩ => ⟨S2048x768, .f32⟩
  | .hbm, ⟨36, _⟩ => ⟨S2048x768, .f32⟩
  | .hbm, ⟨37, _⟩ => ⟨S2048x768, .f32⟩
  | .hbm, ⟨38, _⟩ => ⟨S_, .f32⟩
  | .hbm, ⟨39, _⟩ => ⟨S2048x768, .f32⟩
  | .hbm, ⟨40, _⟩ => ⟨S2048x768, .f32⟩
  | .hbm, ⟨41, _⟩ => ⟨S2048x768, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x768, .f32⟩
  | .hbm, ⟨49, _⟩ => ⟨S2048x768, .f32⟩
  | .hbm, ⟨50, _⟩ => ⟨S2048x768, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x768, .f32⟩
  | .hbm, ⟨58, _⟩ => ⟨S2048x768, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x768, .f32⟩
  | .hbm, ⟨64, _⟩ => ⟨S2048x768, .f32⟩
  | .hbm, ⟨65, _⟩ => ⟨S1x768, .f32⟩
  | .hbm, ⟨66, _⟩ => ⟨S2048x768, .f32⟩
  | .hbm, ⟨67, _⟩ => ⟨S2048x768, .f32⟩
  | .hbm, ⟨68, _⟩ => ⟨S1x768, .f32⟩
  | .hbm, ⟨69, _⟩ => ⟨S2048x768, .f32⟩
  | .hbm, ⟨70, _⟩ => ⟨S2048x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_values : Ref sig .tc := ⟨.hbm, 8, rfl⟩
abbrev main_indices : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Comp.lean ====
abbrev S4096x768 : Shape := ⟨2, ![4096, 768]⟩
abbrev S768x512 : Shape := ⟨2, ![768, 512]⟩
abbrev S512x768 : Shape := ⟨2, ![512, 768]⟩
abbrev S256x768 : Shape := ⟨2, ![256, 768]⟩
abbrev S256x512 : Shape := ⟨2, ![256, 512]⟩
abbrev S256 : Shape := ⟨1, ![256]⟩
abbrev S256x1 : Shape := ⟨2, ![256, 1]⟩
abbrev S256x4 : Shape := ⟨2, ![256, 4]⟩

abbrev nBuf : Space → Nat
  | .hbm => 5
  | .vmem => 7
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x512, .f32⟩
  | .hbm, ⟨3, _⟩ => ⟨S512x768, .f32⟩
  | .hbm, ⟨4, _⟩ => ⟨S512x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S768x512, .f32⟩
  | .local _ .vmem, ⟨5, _⟩ => ⟨S512x768, .f32⟩
  | .local _ .vmem, ⟨6, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_22 : BitVec 32 := 0#32
  let v84 : BitVec 1 := Scalar.cmpi .ne v83 c0_i32_22
  v84

def k0_cond2 (i : grid0.Coords) : BitVec 1 :=
  let arg0 : BitVec 32 := BitVec.ofNat 32 (i 0).val
  let c0_i32_23 : BitVec 32 := 0#32
  let v85 : BitVec 1 := Scalar.cmpi .sgt arg0 c0_i32_23
  let v86 : BitVec 32 := Scalar.extui v85
  let c0_i32_24 : BitVec 32 := 0#32
  let v87 : BitVec 1 := Scalar.cmpi .ne v86 c0_i32_24
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== CompReferenceIdeal.lean ====
abbrev S4096x768 : Shape := ⟨2, ![4096, 768]⟩
abbrev S768x512 : Shape := ⟨2, ![768, 512]⟩
abbrev S4096x512 : Shape := ⟨2, ![4096, 512]⟩
abbrev S4096x4 : Shape := ⟨2, ![4096, 4]⟩
abbrev S4096x1 : Shape := ⟨2, ![4096, 1]⟩
abbrev S_ : Shape := ⟨0, ![]⟩
abbrev S4096 : Shape := ⟨1, ![4096]⟩
abbrev S512x768 : Shape := ⟨2, ![512, 768]⟩

abbrev nBuf : Space → Nat
  | .hbm => 29
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x512, .f32⟩
  | .hbm, ⟨3, _⟩ => ⟨S4096x512, .f32⟩
  | .hbm, ⟨4, _⟩ => ⟨S4096x4, .f32⟩
  | .hbm, ⟨5, _⟩ => ⟨S4096x4, .i32⟩
  | .hbm, ⟨6, _⟩ => ⟨S4096x1, .f32⟩
  | .hbm, ⟨7, _⟩ => ⟨S4096x512, .f32⟩
  | .hbm, ⟨8, _⟩ => ⟨S4096x512, .i1⟩
  | .hbm, ⟨9, _⟩ => ⟨S_, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x512, .f32⟩
  | .hbm, ⟨26, _⟩ => ⟨S4096x512, .f32⟩
  | .hbm, ⟨27, _⟩ => ⟨S512x768, .f32⟩
  | .hbm, ⟨28, _⟩ => ⟨S512x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Final.lean ====
abbrev S2048x768 : Shape := ⟨2, ![2048, 768]⟩
abbrev S512x768 : Shape := ⟨2, ![512, 768]⟩
abbrev S768x512 : Shape := ⟨2, ![768, 512]⟩
abbrev S768 : Shape := ⟨1, ![768]⟩
abbrev S1x768 : Shape := ⟨2, ![1, 768]⟩
abbrev S512x512 : Shape := ⟨2, ![512, 512]⟩
abbrev S512 : Shape := ⟨1, ![512]⟩
abbrev S512x1 : Shape := ⟨2, ![512, 1]⟩
abbrev S512x4 : Shape := ⟨2, ![512, 4]⟩

abbrev nBuf : Space → Nat
  | .hbm => 15
  | .vmem => 12
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S512x768, .f32⟩
  | .hbm, ⟨6, _⟩ => ⟨S768x512, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S1x768, .f32⟩
  | .hbm, ⟨11, _⟩ => ⟨S1x768, .f32⟩
  | .hbm, ⟨12, _⟩ => ⟨S1x768, .f32⟩
  | .hbm, ⟨13, _⟩ => ⟨S512x768, .f32⟩
  | .hbm, ⟨14, _⟩ => ⟨S512x768, .f32⟩
  | .local _ .vmem, ⟨0, _⟩ => ⟨S2048x768, .f32⟩
  | .local _ .vmem, ⟨1, _⟩ => ⟨S2048x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S768x512, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S512x768, .f32⟩
  | .local _ .vmem, ⟨11, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== FinalIdeal.lean ====
variable {F : FTy → Type} [FloatOps F] [Named F]
def κ : String → Option EReal := fun
  | "sqrt_dim" => some ((Real.sqrt 768 : ℝ) : EReal)
  | _ => none
-- ==== FinalReferenceIdeal.lean ====
abbrev S2048x768 : Shape := ⟨2, ![2048, 768]⟩
abbrev S512x768 : Shape := ⟨2, ![512, 768]⟩
abbrev S768x512 : Shape := ⟨2, ![768, 512]⟩
abbrev S768 : Shape := ⟨1, ![768]⟩
abbrev S_ : Shape := ⟨0, ![]⟩
abbrev S2048x512 : Shape := ⟨2, ![2048, 512]⟩
abbrev S2048x4 : Shape := ⟨2, ![2048, 4]⟩
abbrev S2048x1 : Shape := ⟨2, ![2048, 1]⟩
abbrev S2048 : Shape := ⟨1, ![2048]⟩
abbrev S1x768 : Shape := ⟨2, ![1, 768]⟩
abbrev S512x512 : Shape := ⟨2, ![512, 512]⟩
abbrev S512x4 : Shape := ⟨2, ![512, 4]⟩
abbrev S512x1 : Shape := ⟨2, ![512, 1]⟩
abbrev S512 : Shape := ⟨1, ![512]⟩

abbrev nBuf : Space → Nat
  | .hbm => 123
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S512x768, .f32⟩
  | .hbm, ⟨6, _⟩ => ⟨S768x512, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S_, .f32⟩
  | .hbm, ⟨11, _⟩ => ⟨S512x768, .f32⟩
  | .hbm, ⟨12, _⟩ => ⟨S512x768, .f32⟩
  | .hbm, ⟨13, _⟩ => ⟨S512x768, .f32⟩
  | .hbm, ⟨14, _⟩ => ⟨S_, .f32⟩
  | .hbm, ⟨15, _⟩ => ⟨S512x768, .f32⟩
  | .hbm, ⟨16, _⟩ => ⟨S512x768, .f32⟩
  | .hbm, ⟨17, _⟩ => ⟨S512x768, .f32⟩
  | .hbm, ⟨18, _⟩ => ⟨S2048x512, .f32⟩
  | .hbm, ⟨19, _⟩ => ⟨S2048x4, .f32⟩
  | .hbm, ⟨20, _⟩ => ⟨S2048x4, .i32⟩
  | .hbm, ⟨21, _⟩ => ⟨S2048x1, .f32⟩
  | .hbm, ⟨22, _⟩ => ⟨S2048x512, .f32⟩
  | .hbm, ⟨23, _⟩ => ⟨S2048x512, .i1⟩
  | .hbm, ⟨24, _⟩ => ⟨S_, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x512, .f32⟩
  | .hbm, ⟨41, _⟩ => ⟨S2048x512, .f32⟩
  | .hbm, ⟨42, _⟩ => ⟨S512x768, .f32⟩
  | .hbm, ⟨43, _⟩ => ⟨S512x768, .f32⟩
  | .hbm, ⟨44, _⟩ => ⟨S_, .f32⟩
  | .hbm, ⟨45, _⟩ => ⟨S512x768, .f32⟩
  | .hbm, ⟨46, _⟩ => ⟨S512x768, .f32⟩
  | .hbm, ⟨47, _⟩ => ⟨S512x768, .f32⟩
  | .hbm, ⟨48, _⟩ => ⟨S_, .f32⟩
  | .hbm, ⟨49, _⟩ => ⟨S512x768, .f32⟩
  | .hbm, ⟨50, _⟩ => ⟨S512x768, .f32⟩
  | .hbm, ⟨51, _⟩ => ⟨S512x768, .f32⟩
  | .hbm, ⟨52, _⟩ => ⟨S1x768, .f32⟩
  | .hbm, ⟨53, _⟩ => ⟨S512x768, .f32⟩
  | .hbm, ⟨54, _⟩ => ⟨S512x768, .f32⟩
  | .hbm, ⟨55, _⟩ => ⟨S512x512, .f32⟩
  | .hbm, ⟨56, _⟩ => ⟨S_, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x4, .f32⟩
  | .hbm, ⟨61, _⟩ => ⟨S512x4, .i32⟩
  | .hbm, ⟨62, _⟩ => ⟨S512x1, .f32⟩
  | .hbm, ⟨63, _⟩ => ⟨S512x512, .f32⟩
  | .hbm, ⟨64, _⟩ => ⟨S512x512, .i1⟩
  | .hbm, ⟨65, _⟩ => ⟨S_, .f32⟩
  | .hbm, ⟨66, _⟩ => ⟨S_, .f32⟩
  | .hbm, ⟨67, _⟩ => ⟨S512x512, .f32⟩
  | .hbm, ⟨68, _⟩ => ⟨S512x512, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512x1, .f32⟩
  | .hbm, ⟨75, _⟩ => ⟨S512x512, .f32⟩
  | .hbm, ⟨76, _⟩ => ⟨S512x512, .f32⟩
  | .hbm, ⟨77, _⟩ => ⟨S512x512, .f32⟩
  | .hbm, ⟨78, _⟩ => ⟨S_, .f32⟩
  | .hbm, ⟨79, _⟩ => ⟨S512, .f32⟩
  | .hbm, ⟨80, _⟩ => ⟨S512x1, .f32⟩
  | .hbm, ⟨81, _⟩ => ⟨S512x512, .f32⟩
  | .hbm, ⟨82, _⟩ => ⟨S512x512, .f32⟩
  | .hbm, ⟨83, _⟩ => ⟨S512x768, .f32⟩
  | .hbm, ⟨84, _⟩ => ⟨S512x768, .f32⟩
  | .hbm, ⟨85, _⟩ => ⟨S_, .f32⟩
  | .hbm, ⟨86, _⟩ => ⟨S512x768, .f32⟩
  | .hbm, ⟨87, _⟩ => ⟨S512x768, .f32⟩
  | .hbm, ⟨88, _⟩ => ⟨S512x768, .f32⟩
  | .hbm, ⟨89, _⟩ => ⟨S512x768, .f32⟩
  | .hbm, ⟨90, _⟩ => ⟨S_, .f32⟩
  | .hbm, ⟨91, _⟩ => ⟨S512x768, .f32⟩
  | .hbm, ⟨92, _⟩ => ⟨S512x768, .f32⟩
  | .hbm, ⟨93, _⟩ => ⟨S512x768, .f32⟩
  | .hbm, ⟨94, _⟩ => ⟨S_, .f32⟩
  | .hbm, ⟨95, _⟩ => ⟨S512, .f32⟩
  | .hbm, ⟨96, _⟩ => ⟨S512x1, .f32⟩
  | .hbm, ⟨97, _⟩ => ⟨S_, .f32⟩
  | .hbm, ⟨98, _⟩ => ⟨S512x1, .f32⟩
  | .hbm, ⟨99, _⟩ => ⟨S512x1, .f32⟩
  | .hbm, ⟨100, _⟩ => ⟨S512x768, .f32⟩
  | .hbm, ⟨101, _⟩ => ⟨S512x768, .f32⟩
  | .hbm, ⟨102, _⟩ => ⟨S512x768, .f32⟩
  | .hbm, ⟨103, _⟩ => ⟨S_, .f32⟩
  | .hbm, ⟨104, _⟩ => ⟨S512, .f32⟩
  | .hbm, ⟨105, _⟩ => ⟨S512x1, .f32⟩
  | .hbm, ⟨106, _⟩ => ⟨S_, .f32⟩
  | .hbm, ⟨107, _⟩ => ⟨S512x1, .f32⟩
  | .hbm, ⟨108, _⟩ => ⟨S512x1, .f32⟩
  | .hbm, ⟨109, _⟩ => ⟨S512x768, .f32⟩
  | .hbm, ⟨110, _⟩ => ⟨S512x768, .f32⟩
  | .hbm, ⟨111, _⟩ => ⟨S_, .f32⟩
  | .hbm, ⟨112, _⟩ => ⟨S512x1, .f32⟩
  | .hbm, ⟨113, _⟩ => ⟨S512x1, .f32⟩
  | .hbm, ⟨114, _⟩ => ⟨S512x1, .f32⟩
  | .hbm, ⟨115, _⟩ => ⟨S512x768, .f32⟩
  | .hbm, ⟨116, _⟩ => ⟨S512x768, .f32⟩
  | .hbm, ⟨117, _⟩ => ⟨S1x768, .f32⟩
  | .hbm, ⟨118, _⟩ => ⟨S512x768, .f32⟩
  | .hbm, ⟨119, _⟩ => ⟨S512x768, .f32⟩
  | .hbm, ⟨120, _⟩ => ⟨S1x768, .f32⟩
  | .hbm, ⟨121, _⟩ => ⟨S512x768, .f32⟩
  | .hbm, ⟨122, _⟩ => ⟨S512x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_values : Ref sig .tc := ⟨.hbm, 19, rfl⟩
abbrev main_indices : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_values_8 : Ref sig .tc := ⟨.hbm, 60, rfl⟩
abbrev main_indices_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_10 : Ref sig .tc := ⟨.hbm, 65, rfl⟩
abbrev main_call1_v0 : Ref sig .tc := ⟨.hbm, 66, rfl⟩
abbrev main_call1_v1 : Ref sig .tc := ⟨.hbm, 67, rfl⟩
abbrev main_v40 : Ref sig .tc := ⟨.hbm, 68, rfl⟩
abbrev main_cst_11 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_14 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_15 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_16 : Ref sig .tc := ⟨.hbm, 94, rfl⟩
abbrev main_v61 : Ref sig .tc := ⟨.hbm, 95, rfl⟩
abbrev main_v62 : Ref sig .tc := ⟨.hbm, 96, rfl⟩
abbrev main_cst_17 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_18 : Ref sig .tc := ⟨.hbm, 103, rfl⟩
abbrev main_v68 : Ref sig .tc := ⟨.hbm, 104, rfl⟩
abbrev main_v69 : Ref sig .tc := ⟨.hbm, 105, rfl⟩
abbrev main_cst_19 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_20 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩

abbrev nD : Nat := 1
abbrev τ : Topo := Topo.v7x

variable {F : FTy → Type} [FloatOps F]
-- ==== Proof.Finite.lean ====
/- What the precondition says: every entry of the state and of its weights is a real number. -/
module

public import proofs.«01_k».proof.Defs
public import Idealize.ShloMosaic.Lib.ReduceAll
public import Idealize.ShloMosaic.Lib.Affine
public import Idealize.ShloMosaic.PureOps.Ideal.Laws

@[expose] public section

noncomputable section

namespace Cert.Finite

open Idealize.ShloMosaic Idealize.ShloMosaic.TcCoe

theorem inf_word : (Ideal.ofBits .f32 0x7F800000#32 : EReal) = ⊤ := by
  simp [Ideal.ofBits, Ideal.ieee]

/-- A value whose absolute value is below infinity is a real number. -/
theorem real_of_abs (x : EReal) (h : Ideal.cmp .olt (max x (-x)) (Ideal.ofBits .f32 0x7F800000#32) = 1#1) : ∃ r : ℝ, x = r := by
  rw [inf_word] at h
  induction x using EReal.rec with
  | bot => exact absurd h (by decide)
  | top => exact absurd h (by decide)
  | coe r => exact ⟨r, rfl⟩

variable [Cert.Pre_finite.Facts]

theorem real (a0 a1 : FVec Ideal Cert.Pre_finite.S4096x768 .f32) (a2 a3 a4 : FVec Ideal Cert.Pre_finite.S768 .f32)
    (h : Cert.Pre_finite.fn (F := Ideal) a0 a1 a2 a3 a4 = fun _ => 1#1) :
    (∀ i, ∃ r : ℝ, (a0 i : EReal) = r) ∧ (∀ i, ∃ r : ℝ, (a2 i : EReal) = r) := by
  have h0 := congrFun h (Shape.Idx.first Cert.Pre_finite.Facts.h_S_)
  dsimp only [Cert.Pre_finite.fn] at h0
  have h1 := IntOp.andi_eq_one.1 h0
  refine ⟨fun i => real_of_abs _ ?_, fun i => real_of_abs _ ?_⟩
  · exact Host.reduce_andi_all _ _ _ _ _ h1.1 i
  · exact Host.reduce_andi_all _ _ _ _ _ h1.2 i

end Cert.Finite

end
-- ==== Proof.TopFour.lean ====
/- The four largest entries of a finite family, with multiplicity.

   A family `s` of extended reals is described by its count function: `count s x` is the number of entries that are
   at least `x`. `T 0 ≥ T 1 ≥ T 2 ≥ T 3` are its four largest entries exactly when `x ≤ T r ↔ r + 1 ≤ count s x` for
   every `x`, and that determines them. The file proves

   * that three rounds of "take the maximum, then strike out every entry equal to it", together with the number of times
     that each maximum occurs, find the four largest entries (`isTop_top4`);
   * that the four largest of two families' four largest are the four largest of both together (`isTop_merge`). -/
module

public import Mathlib.Data.EReal.Basic
public import Mathlib.Tactic.FinCases
public import Mathlib.Order.Interval.Finset.Fin
public import Mathlib.Algebra.BigOperators.Fin
public import Mathlib.Data.Fintype.BigOperators

@[expose] public section

noncomputable section

namespace Cert.TopFour

variable {ι : Type*} [Fintype ι]

/-- How many entries of the family are at least `x`. -/
def count (s : ι → EReal) (x : EReal) : ℕ := (Finset.univ.filter fun i => x ≤ s i).card

/-- How many entries of the family are equal to `x`. -/
def mult (s : ι → EReal) (x : EReal) : ℕ := (Finset.univ.filter fun i => s i = x).card

/-- The largest entry. -/
def top (s : ι → EReal) : EReal := Finset.univ.sup s

/-- The family with every entry that is not below `x` struck out. -/
def below (s : ι → EReal) (x : EReal) : ι → EReal := fun i => if s i < x then s i else ⊥

/-- `T` lists the four largest entries of a family that has `N x` entries at or above `x`. -/
def IsTop (N : EReal → ℕ) (T : Fin 4 → EReal) : Prop := ∀ (r : Fin 4) (x : EReal), x ≤ T r ↔ (r : ℕ) + 1 ≤ N x

/-- The count function determines the four largest entries. -/
theorem IsTop.unique {N : EReal → ℕ} {T T' : Fin 4 → EReal} (h : IsTop N T) (h' : IsTop N T') : T = T' := by
  funext r
  exact le_antisymm ((h' r _).2 ((h r _).1 le_rfl)) ((h r _).2 ((h' r _).1 le_rfl))

theorem count_bot (s : ι → EReal) : count s ⊥ = Fintype.card ι := by
  simp [count]

theorem le_top_iff {s : ι → EReal} {x : EReal} (hx : ⊥ < x) : x ≤ top s ↔ ∃ i, x ≤ s i := by
  simp [top, Finset.le_sup_iff hx]

theorem le_top (s : ι → EReal) (i : ι) : s i ≤ top s := Finset.le_sup (Finset.mem_univ i)

/-- An entry is at least `x` exactly when at least one entry is. -/
theorem le_top_iff_count {s : ι → EReal} {x : EReal} (hx : ⊥ < x) : x ≤ top s ↔ 1 ≤ count s x := by
  rw [le_top_iff hx, count, Nat.one_le_iff_ne_zero, Ne, Finset.card_eq_zero, Finset.filter_eq_empty_iff]
  simp

/-- The largest entry of a family that is not empty is the first of the four largest. -/
theorem IsTop.zero_eq_top [Nonempty ι] {s : ι → EReal} {T : Fin 4 → EReal} (h : IsTop (count s) T) : T 0 = top s := by
  have key : ∀ x, x ≤ T 0 ↔ x ≤ top s := by
    intro x
    rw [h 0 x]
    rcases eq_or_lt_of_le (bot_le : ⊥ ≤ x) with rfl | hx
    · rw [count_bot]
      simp only [bot_le, iff_true]
      exact Fintype.card_pos
    · exact (le_top_iff_count hx).symm
  exact le_antisymm ((key _).1 le_rfl) ((key _).2 le_rfl)

/-- Strike out the entries equal to the largest: the counts split. -/
theorem count_split (s : ι → EReal) {x : EReal} (hx : ⊥ < x) :
    count s x = (if x ≤ top s then mult s (top s) else 0) + count (below s (top s)) x := by
  classical
  have hb : ∀ i, (x ≤ below s (top s) i) ↔ (x ≤ s i ∧ s i < top s) := by
    intro i
    unfold below
    split_ifs with h
    · simp [h]
    · simp [h, hx.ne']
  unfold count mult
  split_ifs with hxt
  · rw [Finset.card_filter, Finset.card_filter, Finset.card_filter, ← Finset.sum_add_distrib]
    refine Finset.sum_congr rfl fun i _ => ?_
    rw [if_congr (hb i) rfl rfl]
    rcases eq_or_lt_of_le (le_top s i) with h | h
    · simp [h, hxt]
    · simp [h, h.ne]
  · rw [zero_add]
    congr 1
    ext i
    simp only [Finset.mem_filter, Finset.mem_univ, true_and]
    rw [hb i]
    exact ⟨fun h => absurd (h.trans (le_top s i)) hxt, fun h => h.1⟩

/-- A value above `⊥` and below the cut occurs as often in the struck-out family as in the family. -/
theorem mult_below {s : ι → EReal} {a M : EReal} (ha : ⊥ < a) (haM : a < M) : mult (below s M) a = mult s a := by
  have key : ∀ i, below s M i = a ↔ s i = a := by
    intro i
    unfold below
    by_cases h : s i < M
    · rw [if_pos h]
    · rw [if_neg h]
      exact ⟨fun e => absurd e ha.ne, fun e => absurd (e ▸ haM) h⟩
  unfold mult
  congr 1
  ext i
  simp only [Finset.mem_filter, Finset.mem_univ, true_and]
  exact key i

/-- If the struck-out family reaches `x > ⊥`, its largest entry is below the cut. -/
theorem top_below_lt {s : ι → EReal} {x M : EReal} (hx : ⊥ < x) (h : x ≤ top (below s M)) : top (below s M) < M := by
  obtain ⟨i, hi⟩ := (le_top_iff (lt_of_lt_of_le hx h)).1 le_rfl
  have hpos : ⊥ < below s M i := lt_of_lt_of_le (lt_of_lt_of_le hx h) hi
  have hlt : s i < M := by
    by_contra hn
    simp [below, hn] at hpos
  have : below s M i = s i := by simp [below, hlt]
  exact lt_of_le_of_lt (hi.trans this.le) hlt

theorem mult_top_pos {s : ι → EReal} {x : EReal} (hx : ⊥ < x) (h : x ≤ top s) : 1 ≤ mult s (top s) := by
  obtain ⟨i, hi⟩ := (le_top_iff (lt_of_lt_of_le hx h)).1 le_rfl
  exact Finset.card_pos.2 ⟨i, by simp [le_antisymm (le_top s i) hi]⟩

/-- The largest entry, the largest of what remains once its occurrences are struck out, and so on: four values. -/
def m1 (s : ι → EReal) : EReal := top s
/-- What remains after the first strike. -/
def r1 (s : ι → EReal) : ι → EReal := below s (m1 s)
/-- The second value. -/
def m2 (s : ι → EReal) : EReal := top (r1 s)
/-- What remains after the second strike. -/
def r2 (s : ι → EReal) : ι → EReal := below (r1 s) (m2 s)
/-- The third value. -/
def m3 (s : ι → EReal) : EReal := top (r2 s)
/-- What remains after the third strike. -/
def r3 (s : ι → EReal) : ι → EReal := below (r2 s) (m3 s)
/-- The fourth value. -/
def m4 (s : ι → EReal) : EReal := top (r3 s)
/-- How many entries equal the first value. -/
def c1 (s : ι → EReal) : ℕ := mult s (m1 s)
/-- How many entries equal the first or the second value. -/
def c2 (s : ι → EReal) : ℕ := c1 s + mult s (m2 s)
/-- How many entries equal one of the first three values. -/
def c3 (s : ι → EReal) : ℕ := c2 s + mult s (m3 s)

/-- The four largest, chosen from the four values by how often they occur. -/
def top4 (s : ι → EReal) : Fin 4 → EReal :=
  ![m1 s,
    if 2 ≤ c1 s then m1 s else m2 s,
    if 3 ≤ c1 s then m1 s else if 3 ≤ c2 s then m2 s else m3 s,
    if 4 ≤ c1 s then m1 s else if 4 ≤ c2 s then m2 s else if 4 ≤ c3 s then m3 s else m4 s]

/-- They are the four largest of a family of at least four entries. -/
theorem isTop_top4 (s : ι → EReal) (h4 : 4 ≤ Fintype.card ι) : IsTop (count s) (top4 s) := by
  intro r x
  rcases eq_or_lt_of_le (bot_le : ⊥ ≤ x) with rfl | hx
  · rw [count_bot]
    have := r.isLt
    simp only [bot_le, true_iff]
    omega
  suffices goals : (x ≤ m1 s ↔ 1 ≤ count s x) ∧ (x ≤ (if 2 ≤ c1 s then m1 s else m2 s) ↔ 2 ≤ count s x)
      ∧ (x ≤ (if 3 ≤ c1 s then m1 s else if 3 ≤ c2 s then m2 s else m3 s) ↔ 3 ≤ count s x)
      ∧ (x ≤ (if 4 ≤ c1 s then m1 s else if 4 ≤ c2 s then m2 s else if 4 ≤ c3 s then m3 s else m4 s) ↔ 4 ≤ count s x) by
    fin_cases r
    · exact goals.1
    · exact goals.2.1
    · exact goals.2.2.1
    · exact goals.2.2.2
  have e1 := count_split s hx
  have e2 := count_split (r1 s) hx
  have e3 := count_split (r2 s) hx
  have e4 : x ≤ m4 s ↔ 1 ≤ count (r3 s) x := le_top_iff_count hx
  change count s x = (if x ≤ m1 s then c1 s else 0) + count (r1 s) x at e1
  change count (r1 s) x = (if x ≤ m2 s then mult (r1 s) (m2 s) else 0) + count (r2 s) x at e2
  change count (r2 s) x = (if x ≤ m3 s then mult (r2 s) (m3 s) else 0) + count (r3 s) x at e3
  have l21 : x ≤ m2 s → m2 s < m1 s := fun h => top_below_lt hx h
  have l32 : x ≤ m3 s → m3 s < m2 s := fun h => top_below_lt hx h
  have l43 : x ≤ m4 s → m4 s < m3 s := fun h => top_below_lt hx h
  have i21 : x ≤ m2 s → x ≤ m1 s := fun h => h.trans (l21 h).le
  have i32 : x ≤ m3 s → x ≤ m2 s := fun h => h.trans (l32 h).le
  have i43 : x ≤ m4 s → x ≤ m3 s := fun h => h.trans (l43 h).le
  have p1 : x ≤ m1 s → 1 ≤ c1 s := fun h => mult_top_pos hx h
  have q2 : x ≤ m2 s → 1 ≤ mult (r1 s) (m2 s) := fun h => mult_top_pos hx h
  have q3 : x ≤ m3 s → 1 ≤ mult (r2 s) (m3 s) := fun h => mult_top_pos hx h
  have w2 : x ≤ m2 s → mult (r1 s) (m2 s) = mult s (m2 s) := fun h => mult_below (lt_of_lt_of_le hx h) (l21 h)
  have w3 : x ≤ m3 s → mult (r2 s) (m3 s) = mult s (m3 s) := fun h =>
    (mult_below (lt_of_lt_of_le hx h) (l32 h)).trans
      (mult_below (lt_of_lt_of_le hx h) ((l32 h).trans (l21 (i32 h))))
  have d2 : c2 s = c1 s + mult s (m2 s) := rfl
  have d3 : c3 s = c2 s + mult s (m3 s) := rfl
  generalize count s x = n0 at *
  generalize count (r1 s) x = n1 at *
  generalize count (r2 s) x = n2 at *
  generalize count (r3 s) x = n3 at *
  generalize mult (r1 s) (m2 s) = u2 at *
  generalize mult (r2 s) (m3 s) = u3 at *
  generalize mult s (m2 s) = v2 at *
  generalize mult s (m3 s) = v3 at *
  generalize c1 s = k1 at *
  generalize c2 s = k2 at *
  generalize c3 s = k3 at *
  clear l21 l32 l43
  have sel : ∀ (p : Prop) [Decidable p] (a b : EReal), (x ≤ if p then a else b) ↔ (p ∧ x ≤ a) ∨ (¬p ∧ x ≤ b) := by
    intro p _ a b
    by_cases h : p <;> simp [h]
  simp only [sel]
  clear sel hx
  by_cases a1 : x ≤ m1 s <;> by_cases a2 : x ≤ m2 s <;> by_cases a3 : x ≤ m3 s <;> by_cases a4 : x ≤ m4 s <;>
    simp only [a1, a2, a3, a4, if_true, if_false, true_implies, false_implies, imp_false, forall_true_left,
      not_true_eq_false, and_true, and_false, or_false, false_or, true_iff, false_iff] at p1 q2 q3 w2 w3 i21 i32 i43 e1 e2 e3 e4 ⊢ <;>
    (refine ⟨?_, ?_, ?_, ?_⟩ <;> omega)

/-- Counting in the list of the four largest: as in the family, but never more than four. -/
theorem count_isTop {N : EReal → ℕ} {T : Fin 4 → EReal} (h : IsTop N T) (x : EReal) : count T x = min 4 (N x) := by
  have h0 := h 0 x
  have h1 := h 1 x
  have h2 := h 2 x
  have h3 := h 3 x
  simp only [Fin.val_zero, Fin.val_one, Fin.val_two, show ((3 : Fin 4) : ℕ) = 3 from rfl] at h0 h1 h2 h3
  rw [count, Finset.card_filter, Fin.sum_univ_four]
  rw [if_congr h0 rfl rfl, if_congr h1 rfl rfl, if_congr h2 rfl rfl, if_congr h3 rfl rfl]
  split_ifs <;> omega

/-- Two lists of four, one after the other. -/
def join (A B : Fin 4 → EReal) : Fin 8 → EReal := fun k => if h : (k : ℕ) < 4 then A ⟨k, h⟩ else B ⟨k - 4, by omega⟩

theorem count_join (A B : Fin 4 → EReal) (x : EReal) : count (join A B) x = count A x + count B x := by
  simp only [count, Finset.card_filter, Fin.sum_univ_eight, Fin.sum_univ_four]
  simp only [join]
  norm_num
  have : ∀ (a b c d e f g h : ℕ), a + b + c + d + e + f + g + h = a + b + c + d + (e + f + g + h) := by
    intros; omega
  exact this _ _ _ _ _ _ _ _

/-- The four largest of two lists of four largest are the four largest of the two families together. -/
theorem isTop_merge {M N : EReal → ℕ} {A B T : Fin 4 → EReal} (hA : IsTop M A) (hB : IsTop N B)
    (hT : IsTop (count (join A B)) T) : IsTop (fun x => M x + N x) T := by
  intro r x
  rw [hT r x, count_join, count_isTop hA, count_isTop hB]
  have := r.isLt
  show _ ↔ (r : ℕ) + 1 ≤ M x + N x
  omega

/-- A sum over `m · n` positions, block by block. -/
theorem sum_blocks {M : Type*} [AddCommMonoid M] (m n : ℕ) (f : Fin (m * n) → M)
    (hb : ∀ (c : Fin m) (k : Fin n), n * (c : ℕ) + k < m * n) :
    ∑ j, f j = ∑ c : Fin m, ∑ k : Fin n, f ⟨n * c + k, hb c k⟩ := by
  rw [← Fintype.sum_prod_type', ← finProdFinEquiv.sum_comp]
  refine Finset.sum_congr rfl fun p _ => congrArg f (Fin.ext ?_)
  simp [finProdFinEquiv]
  omega

end Cert.TopFour

end
-- ==== Proof.RowOps.lean ====
/- The vector operations that the kernel's body is made of, each named once for every width.

   The body works on blocks of `R` rows. Along the rows it takes maxima, strikes out the entries equal to a maximum, counts
   equal entries, selects, joins, sums, normalises. Here each of these is a function on vectors, spelt with the very
   operations that the kernel uses, so that the kernel's values are these functions by definition; and for the extended
   reals each is read at an index. -/
module

public import proofs.«01_k».proof.Proof.TopFour
public import Idealize.ShloMosaic.Lib.Pointwise
public import Idealize.ShloMosaic.Lib.Pointwise.IndexVar
public import Idealize.ShloMosaic.Lib.IndicatorCount

@[expose] public section

noncomputable section

namespace Cert.RowOps

open Idealize.ShloMosaic Cert.TopFour

/-- A matrix shape. -/
abbrev Mat (R n : ℕ) : Shape := ⟨2, ![R, n]⟩
/-- A vector shape. -/
abbrev Row1 (R : ℕ) : Shape := ⟨1, ![R]⟩

/-- The side conditions of the row operations at `R` rows and width `n`. -/
class Rows (R n : ℕ) : Prop where
  red : (Mat R n).Reduces [1] (Row1 R)
  bc : (Mat R 1).Broadcasts (Mat R n)
  col : (Row1 R).ShapeCasts (Mat R 1)

/-- The side conditions of the joins and cuts on `R` rows. -/
class Joins (R : ℕ) : Prop where
  four : Shape.Concatenates [Mat R 1, Mat R 1, Mat R 1, Mat R 1] (Mat R 4) 1
  eight : Shape.Concatenates [Mat R 4, Mat R 4] (Mat R 8) 1
  cut3 : (Mat R 4).Slices ![0, 3] (Mat R 1)
  cut0 : (Mat R 4).Slices ![0, 0] (Mat R 1)

section
variable {F : FTy → Type} [FloatOps F] {R n : ℕ}

/-- The largest entry of each row. -/
def rmax [Rows R n] (S : FVec F (Mat R n) .f32) : FVec F (Mat R 1) .f32 :=
  shapeCast (Mat R 1) (multiReduction .maximumf [1] (Row1 R) S 0xFF800000#32 (Rows.red (R := R) (n := n)) (.inl rfl) rfl)
    (Rows.col n)

/-- The sum of each row. -/
def rsum [Rows R n] (S : FVec F (Mat R n) .f32) : FVec F (Mat R 1) .f32 :=
  shapeCast (Mat R 1) (multiReduction .add [1] (Row1 R) S 0x00000000#32 (Rows.red (R := R) (n := n)) (.inl rfl) rfl)
    (Rows.col n)

/-- A column repeated along the rows. -/
def spread (n : ℕ) [Rows R n] (t : FVec F (Mat R 1) .f32) : FVec F (Mat R n) .f32 :=
  broadcastTo (Mat R n) t (Rows.bc (R := R) (n := n))

/-- Each row with every entry that is not below the row's cut replaced by minus infinity. -/
def strike [Rows R n] (S : FVec F (Mat R n) .f32) (t : FVec F (Mat R 1) .f32) : FVec F (Mat R n) .f32 :=
  select (cmpf .olt S (spread n t)) S (broadcast (Mat R n) (Scalar.ofBits .f32 0xFF800000#32))

/-- How many entries of each row equal the row's value. -/
def tally [Rows R n] (S : FVec F (Mat R n) .f32) (t : FVec F (Mat R 1) .f32) : IVec (Mat R 1) 32 :=
  shapeCast (Mat R 1)
    (multiReductionI .add [1] (Row1 R) (extui 32 (cmpf .oeq S (spread n t)) (by decide)) 0#32
      (Rows.red (R := R) (n := n)) rfl) (Rows.col n)

/-- `a` where the count is at least `k`, else `b`. -/
def atLeast (k : BitVec 32) (c : IVec (Mat R 1) 32) (a b : FVec F (Mat R 1) .f32) : FVec F (Mat R 1) .f32 :=
  select (cmpi .sge c (broadcast (Mat R 1) k)) a b

/-- The four largest entries of each row. -/
def vtop4 [Rows R n] [Joins R] (S : FVec F (Mat R n) .f32) : FVec F (Mat R 4) .f32 :=
  have a1 := rmax S
  have s1 := strike S a1
  have a2 := rmax s1
  have s2 := strike s1 a2
  have a3 := rmax s2
  have s3 := strike s2 a3
  have a4 := rmax s3
  have n1 := tally S a1
  have n2 := addi n1 (tally S a2)
  have n3 := addi n2 (tally S a3)
  concatenate (Mat R 4) 1 [⟨Mat R 1, a1⟩, ⟨Mat R 1, atLeast 2#32 n1 a1 a2⟩,
    ⟨Mat R 1, atLeast 3#32 n1 a1 (atLeast 3#32 n2 a2 a3)⟩,
    ⟨Mat R 1, atLeast 4#32 n1 a1 (atLeast 4#32 n2 a2 (atLeast 4#32 n3 a3 a4))⟩] (Joins.four (R := R))

/-- The four largest entries of each row of two lists of four. -/
def vmerge [Rows R 8] [Joins R] (A B : FVec F (Mat R 4) .f32) : FVec F (Mat R 4) .f32 :=
  vtop4 (concatenate (Mat R 8) 1 [⟨Mat R 4, A⟩, ⟨Mat R 4, B⟩] (Joins.eight (R := R)))

/-- The fourth largest as a column. -/
def fourth [Joins R] (A : FVec F (Mat R 4) .f32) : FVec F (Mat R 1) .f32 :=
  extractStridedSlice (Mat R 1) ![0, 3] A (Joins.cut3 (R := R))

/-- The largest as a column. -/
def first [Joins R] (A : FVec F (Mat R 4) .f32) : FVec F (Mat R 1) .f32 :=
  extractStridedSlice (Mat R 1) ![0, 0] A (Joins.cut0 (R := R))

/-- The weights before they are divided by their sum: `exp (S - m)` where `S` reaches the threshold `t`, else zero. -/
def weights [Rows R n] (t m : FVec F (Mat R 1) .f32) (S : FVec F (Mat R n) .f32) : FVec F (Mat R n) .f32 :=
  select (cmpf .oge S (spread n t)) (exp (subf S (spread n m)))
    (broadcast (Mat R n) (Scalar.ofBits .f32 0x00000000#32))

/-- Eight vectors added one after the other onto a first one. -/
def acc8 {s : Shape} (z : FVec F s .f32) (f : Fin 8 → FVec F s .f32) : FVec F s .f32 :=
  addf (addf (addf (addf (addf (addf (addf (addf z (f 0)) (f 1)) (f 2)) (f 3)) (f 4)) (f 5)) (f 6)) (f 7)

/-- The block of scores of the queries `q` against a block of keys `k`, each divided by `d`. -/
def scores {R B K : ℕ} (D : DotDims (Mat R K) (Mat B K) (Mat R B)) (d : F .f32) (q : FVec F (Mat R K) .f32)
    (k : FVec F (Mat B K) .f32) : FVec F (Mat R B) .f32 :=
  divf (matmul D none (truncf .bf16 q (by decide)) (truncf .bf16 k (by decide)) (constant (Mat R B) .f32 0x00000000#32))
    (broadcast (Mat R B) d)

/-- The four largest scores of each row over eight blocks. -/
def topAll {R B : ℕ} [Rows R B] [Rows R 8] [Joins R] (S : Fin 8 → FVec F (Mat R B) .f32) : FVec F (Mat R 4) .f32 :=
  vmerge (vmerge (vmerge (vmerge (vmerge (vmerge (vmerge (vtop4 (S 0)) (vtop4 (S 1))) (vtop4 (S 2))) (vtop4 (S 3)))
    (vtop4 (S 4))) (vtop4 (S 5))) (vtop4 (S 6))) (vtop4 (S 7))

/-- The sum of each row's weights over eight blocks. -/
def denom {R B : ℕ} [Rows R B] (t m : FVec F (Mat R 1) .f32) (S : Fin 8 → FVec F (Mat R B) .f32) : FVec F (Mat R 1) .f32 :=
  acc8 (broadcast (Mat R 1) (Scalar.ofBits .f32 0x00000000#32)) (fun c => rsum (weights t m (S c)))

/-- The weighted sum of the rows of eight blocks `E`. -/
def weighted {R B K : ℕ} [Rows R B] (D : DotDims (Mat R B) (Mat B K) (Mat R K)) (t m : FVec F (Mat R 1) .f32)
    (S : Fin 8 → FVec F (Mat R B) .f32) (E : Fin 8 → FVec F (Mat B K) .f32) : FVec F (Mat R K) .f32 :=
  acc8 (broadcast (Mat R K) (Scalar.ofBits .f32 0x00000000#32))
    (fun c => matmul D none (truncf .bf16 (weights t m (S c)) (by decide)) (truncf .bf16 (E c) (by decide))
      (constant (Mat R K) .f32 0x00000000#32))

/-- A single row repeated for every row. -/
class OneRow (R n : ℕ) : Prop where
  bc : (Mat 1 n).Broadcasts (Mat R n)
  same : (Mat 1 n).ShapeCasts (Mat 1 n)

/-- A row vector repeated down the rows. -/
def lift (R : ℕ) [OneRow R n] (w : FVec F (Mat 1 n) .f32) : FVec F (Mat R n) .f32 :=
  broadcastTo (Mat R n) (shapeCast (Mat 1 n) w (OneRow.same R)) OneRow.bc

/-- The normalisation of each row, with gain `g` and offset `b`; the width is the value of the constant `N`. -/
def lnorm [Rows R n] [OneRow R n] (N : BitVec 32) (x : FVec F (Mat R n) .f32) (g b : FVec F (Mat 1 n) .f32) : FVec F (Mat R n) .f32 :=
  have mu := divf (rsum x) (broadcast (Mat R 1) (Scalar.ofBits .f32 N))
  have dx := subf x (spread n mu)
  have var := divf (rsum (mulf dx dx)) (broadcast (Mat R 1) (Scalar.ofBits .f32 N))
  have sd := sqrt (addf var (broadcast (Mat R 1) (Scalar.ofBits .f32 0x3727C5AC#32)))
  addf (mulf (divf dx (spread n sd)) (lift R g)) (lift R b)

/-- A value and a weighted sum brought together: `x + c * (y / d)`. -/
def blend [Rows R n] (c : BitVec 32) (x y : FVec F (Mat R n) .f32) (d : FVec F (Mat R 1) .f32) : FVec F (Mat R n) .f32 :=
  addf x (mulf (broadcast (Mat R n) (Scalar.ofBits .f32 c)) (divf y (spread n d)))

end

section
variable {R n : ℕ}

/-- One row of a matrix. -/
def row {α : Type} (S : (Mat R n).Idx → α) (r : Fin R) : Fin n → α := fun k => S (ix2 r k)

theorem neg_inf : (Ideal.ofBits .f32 0xFF800000#32 : EReal) = ⊥ := by
  simp [Ideal.ofBits, Ideal.ieee]

theorem asCol {α : Type} (x : (Row1 R).Idx → α) (h : (Row1 R).ShapeCasts (Mat R 1)) (r : Fin R) (k : Fin 1) :
    shapeCast (Mat R 1) x h (ix2 r k) = x (ix1 r) := by
  refine shapeCast_apply x h _ _ ?_
  rw [Shape.rowMajor_val_two, Shape.rowMajor_val_one]
  show (r : ℕ) = (r : ℕ) * 1 + (k : ℕ)
  omega

theorem spread_apply [Rows R n] (t : FVec Ideal (Mat R 1) .f32) (r : Fin R) (k : Fin n) :
    spread n t (ix2 r k) = t (ix2 r 0) := by
  pointwise [spread]
  by_cases h : R = 1
  · subst h
    rw [Subsingleton.elim r 0]
    simp
  · simp [h]

theorem rmax_apply [Rows R n] (S : FVec Ideal (Mat R n) .f32) (r : Fin R) (k : Fin 1) :
    rmax S (ix2 r k) = top (row S r) := by
  unfold rmax
  rw [asCol]
  pointwise
  rw [neg_inf]
  rfl

theorem rsum_apply [Rows R n] (S : FVec Ideal (Mat R n) .f32) (r : Fin R) (k : Fin 1) :
    rsum S (ix2 r k) = ∑ k : Fin n, S (ix2 r k) := by
  unfold rsum
  rw [asCol]
  pointwise

theorem strike_apply [Rows R n] (S : FVec Ideal (Mat R n) .f32) (t : FVec Ideal (Mat R 1) .f32) (r : Fin R) (k : Fin n) :
    strike S t (ix2 r k) = below (row S r) (t (ix2 r 0)) k := by
  pointwise [strike, spread_apply]
  rw [neg_inf]
  rfl

theorem row_strike [Rows R n] (S : FVec Ideal (Mat R n) .f32) (t : FVec Ideal (Mat R 1) .f32) (r : Fin R) :
    row (strike S t) r = below (row S r) (t (ix2 r 0)) := by
  funext k
  exact strike_apply S t r k

theorem tally_apply [Rows R n] (S : FVec Ideal (Mat R n) .f32) (t : FVec Ideal (Mat R 1) .f32) (r : Fin R) (k : Fin 1) :
    tally S t (ix2 r k) = BitVec.ofNat 32 (mult (row S r) (t (ix2 r 0))) := by
  unfold tally
  rw [asCol]
  pointwise [spread_apply]
  rw [IndicatorCount.fold_addi_setWidth_eq_card (fun x : Fin n => BitVec.ofBool (decide (S (ix2 r x) = t (ix2 r 0))))]
  unfold mult row
  congr 2
  ext x
  by_cases h : S (ix2 r x) = t (ix2 r 0) <;> simp [h]

theorem weights_apply [Rows R n] (t m : FVec Ideal (Mat R 1) .f32) (S : FVec Ideal (Mat R n) .f32) (r : Fin R) (k : Fin n) :
    weights t m S (ix2 r k) = if t (ix2 r 0) ≤ S (ix2 r k) then Ideal.exp (S (ix2 r k) - m (ix2 r 0)) else 0 := by
  pointwise [weights, spread_apply]

/-- A comparison of a small count with a small number, as the selection that it decides. -/
theorem select_atLeast {α : Type} (c k : ℕ) (hc : c < 2 ^ 31) (hk : k < 2 ^ 31) (a b : α) :
    Scalar.select (IntOp.cmpi .sge (BitVec.ofNat 32 c) (BitVec.ofNat 32 k)) a b = if k ≤ c then a else b := by
  have h : (BitVec.ofNat 32 k).sle (BitVec.ofNat 32 c) = decide (k ≤ c) := by
    have hc' : (BitVec.ofNat 32 c).toInt = c := by
      rw [BitVec.toInt_eq_toNat_of_lt] <;> rw [BitVec.toNat_ofNat, Nat.mod_eq_of_lt (by omega)] ; omega
    have hk' : (BitVec.ofNat 32 k).toInt = k := by
      rw [BitVec.toInt_eq_toNat_of_lt] <;> rw [BitVec.toNat_ofNat, Nat.mod_eq_of_lt (by omega)] ; omega
    rw [BitVec.sle_eq_decide, hc', hk']
    simp
  unfold IntOp.cmpi Scalar.select
  simp only [h]
  by_cases hkc : k ≤ c <;> simp [hkc]

theorem mult_le (s : Fin n → EReal) (x : EReal) : mult s x ≤ n := by
  unfold mult
  exact (Finset.card_filter_le _ _).trans (by simp)

theorem addi_ofNat (a b : ℕ) : IntOp.addi (BitVec.ofNat 32 a) (BitVec.ofNat 32 b) = BitVec.ofNat 32 (a + b) := by
  rw [BitVec.ofNat_add]; rfl

theorem vtop4_apply [Rows R n] [Joins R] (hn : n < 2 ^ 20) (S : FVec Ideal (Mat R n) .f32) (r : Fin R) (k : Fin 4) :
    vtop4 S (ix2 r k) = top4 (row S r) k := by
  have b1 : c1 (row S r) < 2 ^ 31 := lt_of_le_of_lt (mult_le _ _) (by omega)
  have b2 : c2 (row S r) < 2 ^ 31 := lt_of_le_of_lt (Nat.add_le_add (mult_le _ _) (mult_le _ _)) (by omega)
  have b3 : c3 (row S r) < 2 ^ 31 :=
    lt_of_le_of_lt (Nat.add_le_add (Nat.add_le_add (mult_le _ _) (mult_le _ _)) (mult_le _ _)) (by omega)
  pointwise [vtop4, atLeast, rmax_apply, row_strike, tally_apply, addi_ofNat]
  change (if h : (k : ℕ) < 1 then m1 (row S r) else if h : (k : ℕ) - 1 < 1 then
      Scalar.select (IntOp.cmpi .sge (BitVec.ofNat 32 (c1 (row S r))) (BitVec.ofNat 32 2)) (m1 (row S r)) (m2 (row S r))
    else if h : (k : ℕ) - 1 - 1 < 1 then
      Scalar.select (IntOp.cmpi .sge (BitVec.ofNat 32 (c1 (row S r))) (BitVec.ofNat 32 3)) (m1 (row S r))
        (Scalar.select (IntOp.cmpi .sge (BitVec.ofNat 32 (c2 (row S r))) (BitVec.ofNat 32 3)) (m2 (row S r)) (m3 (row S r)))
    else
      Scalar.select (IntOp.cmpi .sge (BitVec.ofNat 32 (c1 (row S r))) (BitVec.ofNat 32 4)) (m1 (row S r))
        (Scalar.select (IntOp.cmpi .sge (BitVec.ofNat 32 (c2 (row S r))) (BitVec.ofNat 32 4)) (m2 (row S r))
          (Scalar.select (IntOp.cmpi .sge (BitVec.ofNat 32 (c3 (row S r))) (BitVec.ofNat 32 4)) (m3 (row S r))
            (m4 (row S r))))) = top4 (row S r) k
  simp only [select_atLeast _ _ b1 (by decide : 2 < 2 ^ 31), select_atLeast _ _ b1 (by decide : 3 < 2 ^ 31),
    select_atLeast _ _ b1 (by decide : 4 < 2 ^ 31), select_atLeast _ _ b2 (by decide : 3 < 2 ^ 31),
    select_atLeast _ _ b2 (by decide : 4 < 2 ^ 31), select_atLeast _ _ b3 (by decide : 4 < 2 ^ 31)]
  fin_vals k with hk
  all_goals simp only [hk, Nat.reduceSub, Nat.reduceLT, ↓reduceDIte]
  all_goals (obtain rfl : k = ⟨_, by decide⟩ := Fin.ext hk)
  all_goals rfl

theorem row_vtop4 [Rows R n] [Joins R] (hn : n < 2 ^ 20) (S : FVec Ideal (Mat R n) .f32) (r : Fin R) :
    row (vtop4 S) r = top4 (row S r) := by
  funext k
  exact vtop4_apply hn S r k

theorem isTop_vtop4 [Rows R n] [Joins R] (hn : n < 2 ^ 20) (h4 : 4 ≤ n) (S : FVec Ideal (Mat R n) .f32) (r : Fin R) :
    IsTop (count (row S r)) (row (vtop4 S) r) := by
  rw [row_vtop4 hn]
  exact isTop_top4 _ (by simpa using h4)

theorem isTop_vmerge [Rows R 8] [Joins R] {M N : EReal → ℕ} (A B : FVec Ideal (Mat R 4) .f32) (r : Fin R)
    (hA : IsTop M (row A r)) (hB : IsTop N (row B r)) : IsTop (fun x => M x + N x) (row (vmerge A B) r) := by
  refine isTop_merge hA hB ?_
  have e : row (concatenate (Mat R 8) 1 [⟨Mat R 4, A⟩, ⟨Mat R 4, B⟩] (Joins.eight (R := R))) r = join (row A r) (row B r) := by
    funext k
    unfold row join
    pointwise
  have h := isTop_vtop4 (by decide) (by decide)
    (concatenate (Mat R 8) 1 [⟨Mat R 4, A⟩, ⟨Mat R 4, B⟩] (Joins.eight (R := R))) r
  rw [e] at h
  exact h

theorem fourth_apply [Joins R] (A : FVec Ideal (Mat R 4) .f32) (r : Fin R) (k : Fin 1) :
    fourth A (ix2 r k) = row A r 3 := by
  pointwise [fourth]
  rfl

theorem first_apply [Joins R] (A : FVec Ideal (Mat R 4) .f32) (r : Fin R) (k : Fin 1) :
    first A (ix2 r k) = row A r 0 := by
  pointwise [first]
  rfl

end

instance : Rows 256 512 := ⟨by decide, by decide, by decide⟩
instance : Rows 256 768 := ⟨by decide, by decide, by decide⟩
instance : Rows 256 8 := ⟨by decide, by decide, by decide⟩
instance : Joins 256 := ⟨by decide, by decide, by decide, by decide⟩
instance : OneRow 256 768 := ⟨by decide, by decide⟩
instance : Rows 512 512 := ⟨by decide, by decide, by decide⟩
instance : Rows 512 768 := ⟨by decide, by decide, by decide⟩
instance : Joins 512 := ⟨by decide, by decide, by decide, by decide⟩
instance : OneRow 512 768 := ⟨by decide, by decide⟩

end Cert.RowOps

end
-- ==== Proof.Body.lean ====
/- What one grid step of the kernel writes, as the named row operations on the blocks that it loads. -/
module

public import proofs.«01_k».proof.Proof.Gen.KernelIdeal.Value
public import Idealize.ShloMosaic.Lib.Pipeline.ValueKit
public import proofs.«01_k».proof.Proof.RowOps
public import Mathlib.Tactic.FinCases

@[expose] public section

noncomputable section

namespace Cert.Body

open Idealize.ShloMosaic Idealize.ShloMosaic.TcCoe Idealize.ShloMosaic.Tactic Cert.KernelIdeal Cert.KernelIdeal.Gen Cert.RowOps

variable {F : FTy → Type} [FloatOps F] [Named F]

/-- The eight blocks of scores of a step's rows `q`, weighted by `w`, against the key blocks `kb`. -/
def S (q : FVec F S256x768 .f32) (w : FVec F S1x768 .f32) (kb : Fin 8 → FVec F S512x768 .f32) (c : Fin 8) : FVec F S256x512 .f32 :=
  scores dot_S256x768_S512x768_S256x512_1_1_0_0_n_n (Named.named κ "sqrt_dim" 0x41DDB3D7#32) (mulf q (lift 256 w)) (kb c)

/-- The weighted sum of the blocks `eb` divided by the sum of the weights and added onto `x` with the factor 0.2. -/
def mix (q : FVec F S256x768 .f32) (w : FVec F S1x768 .f32) (kb eb : Fin 8 → FVec F S512x768 .f32)
    (x : FVec F S256x768 .f32) : FVec F S256x768 .f32 :=
  have A := topAll (S q w kb)
  blend 0x3E4CCCCD#32 x
    (weighted dot_S256x512_S512x768_S256x768_1_0_0_1_n_n (fourth A) (first A) (S q w kb) eb)
    (denom (fourth A) (first A) (S q w kb))

/-- The block of the first result. -/
def out5 (q : FVec F S256x768 .f32) (w : FVec F S1x768 .f32) (kb : Fin 8 → FVec F S512x768 .f32) : FVec F S256x768 .f32 :=
  tanh (mix q w kb kb q)

/-- The block of the second result. -/
def out6 (q x : FVec F S256x768 .f32) (w g b : FVec F S1x768 .f32) (kb eb : Fin 8 → FVec F S512x768 .f32) : FVec F S256x768 .f32 :=
  lnorm 0x44400000#32 (mix q w kb eb x) g b

/-- The block of 512 rows that starts at row `512 * c`. -/
def blk {α : Type} (E : S4096x768.Idx → α) (c : Fin 8) : S512x768.Idx → α :=
  fun y => E (ix2 ⟨512 * c.val + (y 0).val, by have h : (y 0).val < 512 := (y 0).isLt; omega⟩ (y 1))

/-- The block of 256 rows that starts at row `256 * t`. -/
def own {α : Type} (E : S4096x768.Idx → α) (t : Fin 16) : S256x768.Idx → α :=
  fun y => E (ix2 ⟨256 * t.val + (y 0).val, by have h : (y 0).val < 256 := (y 0).isLt; omega⟩ (y 1))

theorem off_eq (i : grid0.Coords) : k0_off1 i = ![256 * (i 0).val, 0] := by
  have h : (i 0).val < 16 := (i 0).isLt
  have e : (Scalar.muli (BitVec.ofNat 32 (i 0).val) 256#32).toNat = 256 * (i 0).val := by
    show (BitVec.ofNat 32 (i 0).val * 256#32).toNat = _
    rw [BitVec.toNat_mul, BitVec.toNat_ofNat, BitVec.toNat_ofNat]
    omega
  show ![(Scalar.muli (BitVec.ofNat 32 (i 0).val) 256#32).toNat, 0] = _
  rw [e]

theorem load_own {m : Memref sig .tc .vmem S4096x768 .f32} (h : m.IsWhole) (E : FVec F S4096x768 .f32) (i : grid0.Coords) :
    View.readAt (Elt F) m.view (Rect.unit (s := S4096x768) (k0_off1 i) S256x768.size (k0_off1_inb i)).toLoadRect (h.unread E) =
      own E (i 0) := by
  have key : ∀ (off : Fin S4096x768.rank → ℕ) (inb : ∀ a, off a + S256x768.size a ≤ S4096x768.size a), off = ![256 * (i 0).val, 0] →
      View.readAt (Elt F) m.view (Rect.unit (s := S4096x768) off S256x768.size inb).toLoadRect (h.unread E) = own E (i 0) := by
    intro off inb hoff
    subst hoff
    rw [View.readAt_eq_ld, h.read_unread]
    funext y
    obtain ⟨r, k, rfl⟩ : ∃ r k, y = ix2 r k := ⟨y 0, y 1, eq_ix2 y⟩
    have h16 : (i 0).val < 16 := (i 0).isLt
    pointwise [own]
  exact key _ _ (off_eq i)

theorem load_row {m : Memref sig .tc .vmem S1x768 .f32} (h : m.IsWhole) (w : FVec F S1x768 .f32) :
    View.readAt (Elt F) m.view (Rect.unit (s := S1x768) ![0, 0] S1x768.size inb_S1x768_S1x768_0_0).toLoadRect (h.unread w) = w := by
  rw [View.readAt_eq_ld, h.read_unread, View.ld_unit_zero (by decide)]

theorem load_blk {m : Memref sig .tc .vmem S4096x768 .f32} (h : m.IsWhole) (E : FVec F S4096x768 .f32)
    (off : Fin S4096x768.rank → ℕ) (inb : ∀ a, off a + S512x768.size a ≤ S4096x768.size a) (c : Fin 8) (hoff : off = ![512 * c.val, 0]) :
    View.readAt (Elt F) m.view (Rect.unit (s := S4096x768) off S512x768.size inb).toLoadRect (h.unread E) = blk E c := by
  subst hoff
  rw [View.readAt_eq_ld, h.read_unread]
  funext y
  obtain ⟨r, k, rfl⟩ : ∃ r k, y = ix2 r k := ⟨y 0, y 1, eq_ix2 y⟩
  pointwise [blk]

theorem load_blks {m : Memref sig .tc .vmem S4096x768 .f32} (harg : m.IsWhole) (E : FVec F S4096x768 .f32) :
    ![View.readAt (Elt F) m.view (Rect.unit (s := S4096x768) ![0, 0] S512x768.size inb_S4096x768_S512x768_0_0).toLoadRect (harg.unread E),
        View.readAt (Elt F) m.view (Rect.unit (s := S4096x768) ![512, 0] S512x768.size inb_S4096x768_S512x768_512_0).toLoadRect (harg.unread E),
        View.readAt (Elt F) m.view (Rect.unit (s := S4096x768) ![1024, 0] S512x768.size inb_S4096x768_S512x768_1024_0).toLoadRect (harg.unread E),
        View.readAt (Elt F) m.view (Rect.unit (s := S4096x768) ![1536, 0] S512x768.size inb_S4096x768_S512x768_1536_0).toLoadRect (harg.unread E),
        View.readAt (Elt F) m.view (Rect.unit (s := S4096x768) ![2048, 0] S512x768.size inb_S4096x768_S512x768_2048_0).toLoadRect (harg.unread E),
        View.readAt (Elt F) m.view (Rect.unit (s := S4096x768) ![2560, 0] S512x768.size inb_S4096x768_S512x768_2560_0).toLoadRect (harg.unread E),
        View.readAt (Elt F) m.view (Rect.unit (s := S4096x768) ![3072, 0] S512x768.size inb_S4096x768_S512x768_3072_0).toLoadRect (harg.unread E),
        View.readAt (Elt F) m.view (Rect.unit (s := S4096x768) ![3584, 0] S512x768.size inb_S4096x768_S512x768_3584_0).toLoadRect (harg.unread E)] = blk E := by
  funext c
  fin_cases c
  · exact load_blk harg E ![0, 0] inb_S4096x768_S512x768_0_0 0 (by decide)
  · exact load_blk harg E ![512, 0] inb_S4096x768_S512x768_512_0 1 (by decide)
  · exact load_blk harg E ![1024, 0] inb_S4096x768_S512x768_1024_0 2 (by decide)
  · exact load_blk harg E ![1536, 0] inb_S4096x768_S512x768_1536_0 3 (by decide)
  · exact load_blk harg E ![2048, 0] inb_S4096x768_S512x768_2048_0 4 (by decide)
  · exact load_blk harg E ![2560, 0] inb_S4096x768_S512x768_2560_0 5 (by decide)
  · exact load_blk harg E ![3072, 0] inb_S4096x768_S512x768_3072_0 6 (by decide)
  · exact load_blk harg E ![3584, 0] inb_S4096x768_S512x768_3584_0 7 (by decide)

theorem out0_A_5_raw (c : Dev nD) (i : grid0.Coords) (arg1 : Memref sig .tc .vmem S4096x768 .f32) (harg1 : arg1.IsWhole) (arg2 : Memref sig .tc .vmem S4096x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S256x768 .f32) (harg6 : arg6.IsWhole) (arg7 : Memref sig .tc .vmem S256x768 .f32) (harg7 : arg7.IsWhole)
    (x0 : Vec F S4096x768 .f32) (x1 : Vec F S4096x768 .f32) (x2 : Vec F S1x768 .f32) (x3 : Vec F S1x768 .f32) (x4 : Vec F S1x768 .f32) :
    out0_A_5 c i arg1 harg1 arg2 harg2 arg3 harg3 arg4 harg4 arg5 harg5 arg6 harg6 arg7 harg7 x0 x1 x2 x3 x4 =
      out5 (View.readAt (Elt F) arg1.view (Rect.unit (s := S4096x768) (k0_off1 i) S256x768.size (k0_off1_inb i)).toLoadRect (harg1.unread x0))
       (View.readAt (Elt F) arg3.view (Rect.unit (s := S1x768) ![0, 0] S1x768.size inb_S1x768_S1x768_0_0).toLoadRect (harg3.unread x2))
       ![View.readAt (Elt F) arg1.view (Rect.unit (s := S4096x768) ![0, 0] S512x768.size inb_S4096x768_S512x768_0_0).toLoadRect (harg1.unread x0),
        View.readAt (Elt F) arg1.view (Rect.unit (s := S4096x768) ![512, 0] S512x768.size inb_S4096x768_S512x768_512_0).toLoadRect (harg1.unread x0),
        View.readAt (Elt F) arg1.view (Rect.unit (s := S4096x768) ![1024, 0] S512x768.size inb_S4096x768_S512x768_1024_0).toLoadRect (harg1.unread x0),
        View.readAt (Elt F) arg1.view (Rect.unit (s := S4096x768) ![1536, 0] S512x768.size inb_S4096x768_S512x768_1536_0).toLoadRect (harg1.unread x0),
        View.readAt (Elt F) arg1.view (Rect.unit (s := S4096x768) ![2048, 0] S512x768.size inb_S4096x768_S512x768_2048_0).toLoadRect (harg1.unread x0),
        View.readAt (Elt F) arg1.view (Rect.unit (s := S4096x768) ![2560, 0] S512x768.size inb_S4096x768_S512x768_2560_0).toLoadRect (harg1.unread x0),
        View.readAt (Elt F) arg1.view (Rect.unit (s := S4096x768) ![3072, 0] S512x768.size inb_S4096x768_S512x768_3072_0).toLoadRect (harg1.unread x0),
        View.readAt (Elt F) arg1.view (Rect.unit (s := S4096x768) ![3584, 0] S512x768.size inb_S4096x768_S512x768_3584_0).toLoadRect (harg1.unread x0)] := by
  unfold out0_A_5
  rw [View.read_writes_junk_eq_canon]
  unfold kernelRun0_A
  dsimp only
  sl_unfold_run_names
  rw [View.canon_unit_zero (by decide)]
  sl_kernel_rfl

theorem out0_A_6_raw (c : Dev nD) (i : grid0.Coords) (arg1 : Memref sig .tc .vmem S4096x768 .f32) (harg1 : arg1.IsWhole) (arg2 : Memref sig .tc .vmem S4096x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S256x768 .f32) (harg6 : arg6.IsWhole) (arg7 : Memref sig .tc .vmem S256x768 .f32) (harg7 : arg7.IsWhole)
    (x0 : Vec F S4096x768 .f32) (x1 : Vec F S4096x768 .f32) (x2 : Vec F S1x768 .f32) (x3 : Vec F S1x768 .f32) (x4 : Vec F S1x768 .f32) :
    out0_A_6 c i arg1 harg1 arg2 harg2 arg3 harg3 arg4 harg4 arg5 harg5 arg6 harg6 arg7 harg7 x0 x1 x2 x3 x4 =
      out6 (View.readAt (Elt F) arg1.view (Rect.unit (s := S4096x768) (k0_off1 i) S256x768.size (k0_off1_inb i)).toLoadRect (harg1.unread x0))
       (View.readAt (Elt F) arg2.view (Rect.unit (s := S4096x768) (k0_off1 i) S256x768.size (k0_off1_inb i)).toLoadRect (harg2.unread x1))
       (View.readAt (Elt F) arg3.view (Rect.unit (s := S1x768) ![0, 0] S1x768.size inb_S1x768_S1x768_0_0).toLoadRect (harg3.unread x2))
       (View.readAt (Elt F) arg4.view (Rect.unit (s := S1x768) ![0, 0] S1x768.size inb_S1x768_S1x768_0_0).toLoadRect (harg4.unread x3))
       (View.readAt (Elt F) arg5.view (Rect.unit (s := S1x768) ![0, 0] S1x768.size inb_S1x768_S1x768_0_0).toLoadRect (harg5.unread x4))
       ![View.readAt (Elt F) arg1.view (Rect.unit (s := S4096x768) ![0, 0] S512x768.size inb_S4096x768_S512x768_0_0).toLoadRect (harg1.unread x0),
        View.readAt (Elt F) arg1.view (Rect.unit (s := S4096x768) ![512, 0] S512x768.size inb_S4096x768_S512x768_512_0).toLoadRect (harg1.unread x0),
        View.readAt (Elt F) arg1.view (Rect.unit (s := S4096x768) ![1024, 0] S512x768.size inb_S4096x768_S512x768_1024_0).toLoadRect (harg1.unread x0),
        View.readAt (Elt F) arg1.view (Rect.unit (s := S4096x768) ![1536, 0] S512x768.size inb_S4096x768_S512x768_1536_0).toLoadRect (harg1.unread x0),
        View.readAt (Elt F) arg1.view (Rect.unit (s := S4096x768) ![2048, 0] S512x768.size inb_S4096x768_S512x768_2048_0).toLoadRect (harg1.unread x0),
        View.readAt (Elt F) arg1.view (Rect.unit (s := S4096x768) ![2560, 0] S512x768.size inb_S4096x768_S512x768_2560_0).toLoadRect (harg1.unread x0),
        View.readAt (Elt F) arg1.view (Rect.unit (s := S4096x768) ![3072, 0] S512x768.size inb_S4096x768_S512x768_3072_0).toLoadRect (harg1.unread x0),
        View.readAt (Elt F) arg1.view (Rect.unit (s := S4096x768) ![3584, 0] S512x768.size inb_S4096x768_S512x768_3584_0).toLoadRect (harg1.unread x0)]
       ![View.readAt (Elt F) arg2.view (Rect.unit (s := S4096x768) ![0, 0] S512x768.size inb_S4096x768_S512x768_0_0).toLoadRect (harg2.unread x1),
        View.readAt (Elt F) arg2.view (Rect.unit (s := S4096x768) ![512, 0] S512x768.size inb_S4096x768_S512x768_512_0).toLoadRect (harg2.unread x1),
        View.readAt (Elt F) arg2.view (Rect.unit (s := S4096x768) ![1024, 0] S512x768.size inb_S4096x768_S512x768_1024_0).toLoadRect (harg2.unread x1),
        View.readAt (Elt F) arg2.view (Rect.unit (s := S4096x768) ![1536, 0] S512x768.size inb_S4096x768_S512x768_1536_0).toLoadRect (harg2.unread x1),
        View.readAt (Elt F) arg2.view (Rect.unit (s := S4096x768) ![2048, 0] S512x768.size inb_S4096x768_S512x768_2048_0).toLoadRect (harg2.unread x1),
        View.readAt (Elt F) arg2.view (Rect.unit (s := S4096x768) ![2560, 0] S512x768.size inb_S4096x768_S512x768_2560_0).toLoadRect (harg2.unread x1),
        View.readAt (Elt F) arg2.view (Rect.unit (s := S4096x768) ![3072, 0] S512x768.size inb_S4096x768_S512x768_3072_0).toLoadRect (harg2.unread x1),
        View.readAt (Elt F) arg2.view (Rect.unit (s := S4096x768) ![3584, 0] S512x768.size inb_S4096x768_S512x768_3584_0).toLoadRect (harg2.unread x1)] := by
  unfold out0_A_6
  rw [View.read_writes_junk_eq_canon]
  unfold kernelRun0_A
  dsimp only
  sl_unfold_run_names
  rw [View.canon_unit_zero (by decide)]
  sl_kernel_rfl

theorem out0_A_5_eq (c : Dev nD) (i : grid0.Coords) (arg1 : Memref sig .tc .vmem S4096x768 .f32) (harg1 : arg1.IsWhole) (arg2 : Memref sig .tc .vmem S4096x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S256x768 .f32) (harg6 : arg6.IsWhole) (arg7 : Memref sig .tc .vmem S256x768 .f32) (harg7 : arg7.IsWhole)
    (x0 : Vec F S4096x768 .f32) (x1 : Vec F S4096x768 .f32) (x2 : Vec F S1x768 .f32) (x3 : Vec F S1x768 .f32) (x4 : Vec F S1x768 .f32) :
    out0_A_5 c i arg1 harg1 arg2 harg2 arg3 harg3 arg4 harg4 arg5 harg5 arg6 harg6 arg7 harg7 x0 x1 x2 x3 x4 = out5 (own x0 (i 0)) x2 (blk x0) := by
  rw [out0_A_5_raw, load_own, load_row, load_blks]

theorem out0_A_6_eq (c : Dev nD) (i : grid0.Coords) (arg1 : Memref sig .tc .vmem S4096x768 .f32) (harg1 : arg1.IsWhole) (arg2 : Memref sig .tc .vmem S4096x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S256x768 .f32) (harg6 : arg6.IsWhole) (arg7 : Memref sig .tc .vmem S256x768 .f32) (harg7 : arg7.IsWhole)
    (x0 : Vec F S4096x768 .f32) (x1 : Vec F S4096x768 .f32) (x2 : Vec F S1x768 .f32) (x3 : Vec F S1x768 .f32) (x4 : Vec F S1x768 .f32) :
    out0_A_6 c i arg1 harg1 arg2 harg2 arg3 harg3 arg4 harg4 arg5 harg5 arg6 harg6 arg7 harg7 x0 x1 x2 x3 x4 = out6 (own x0 (i 0)) (own x1 (i 0)) x2 x3 x4 (blk x0) (blk x1) := by
  rw [out0_A_6_raw, load_own, load_own, load_row, load_row, load_row, load_blks, load_blks]

end Cert.Body

end
-- ==== Proof.RowReads.lean ====
/- The larger row operations read at an index over the extended reals. -/
module

public import proofs.«01_k».proof.Proof.RowOps

@[expose] public section

noncomputable section

namespace Cert.RowOps

open Idealize.ShloMosaic Cert.TopFour

variable {R n : ℕ}

theorem zero_word : (Ideal.ofBits .f32 0x00000000#32 : EReal) = 0 := by
  simp [Ideal.ofBits, Ideal.ieee]

/-- The weights over one row: `exp (s - m)` where the score reaches the threshold `t`, else zero. -/
def wts {ι : Type} (t m : EReal) (s : ι → EReal) (j : ι) : EReal := if t ≤ s j then Ideal.exp (s j - m) else 0

/-- The normalisation of a row, with gain `g` and offset `b`. -/
def ln (N : EReal) (x g b : Fin n → EReal) (k : Fin n) : EReal :=
  let mu := Ideal.div (∑ j, x j) N
  Ideal.div (x k - mu)
    (Ideal.sqrt (Ideal.div (∑ j, (x j - mu) * (x j - mu)) N + Ideal.ofBits .f32 0x3727C5AC#32)) * g k + b k

theorem acc8_apply {s : Shape} (f : Fin 8 → FVec Ideal s .f32) (i : s.Idx) :
    acc8 (broadcast s (Scalar.ofBits .f32 0x00000000#32)) f i = ∑ c, f c i := by
  rw [Fin.sum_univ_eight]
  show Ideal.ofBits .f32 0x00000000#32 + f 0 i + f 1 i + f 2 i + f 3 i + f 4 i + f 5 i + f 6 i + f 7 i = _
  rw [zero_word, zero_add]

theorem scores_apply {B K : ℕ} (D : DotDims (Mat R K) (Mat B K) (Mat R B)) (d : EReal) (q : FVec Ideal (Mat R K) .f32)
    (k : FVec Ideal (Mat B K) .f32)
    (hD : ∀ (a : FVec Ideal (Mat R K) .bf16) (b : FVec Ideal (Mat B K) .bf16) (r : Fin R) (j : Fin B),
      matmul D none a b (constant (Mat R B) .f32 0x00000000#32) (ix2 r j) = ∑ l, a (ix2 r l) * b (ix2 j l))
    (r : Fin R) (j : Fin B) :
    scores D (d : Ideal .f32) q k (ix2 r j) = Ideal.div (∑ l, q (ix2 r l) * k (ix2 j l)) d := by
  show Ideal.div _ d = _
  rw [hD]
  rfl

theorem isTop_topAll {B : ℕ} [Rows R B] [Rows R 8] [Joins R] (h4 : 4 ≤ B) (hB : B < 2 ^ 20) (S : Fin 8 → FVec Ideal (Mat R B) .f32)
    (r : Fin R) : IsTop (fun x => ∑ c, count (row (S c) r) x) (row (topAll S) r) := by
  have h := fun c => isTop_vtop4 hB h4 (S c) r
  have := isTop_vmerge _ _ r (isTop_vmerge _ _ r (isTop_vmerge _ _ r (isTop_vmerge _ _ r (isTop_vmerge _ _ r
    (isTop_vmerge _ _ r (isTop_vmerge _ _ r (h 0) (h 1)) (h 2)) (h 3)) (h 4)) (h 5)) (h 6)) (h 7)
  simp only [Fin.sum_univ_eight]
  exact this

theorem denom_apply {B : ℕ} [Rows R B] (t m : FVec Ideal (Mat R 1) .f32) (S : Fin 8 → FVec Ideal (Mat R B) .f32) (r : Fin R) (k : Fin 1) :
    denom t m S (ix2 r k) = ∑ c, ∑ j, wts (t (ix2 r 0)) (m (ix2 r 0)) (row (S c) r) j := by
  unfold denom
  rw [acc8_apply]
  refine Finset.sum_congr rfl fun c _ => ?_
  rw [rsum_apply]
  exact Finset.sum_congr rfl fun j _ => weights_apply t m (S c) r j

theorem weighted_apply {B K : ℕ} [Rows R B] (D : DotDims (Mat R B) (Mat B K) (Mat R K)) (t m : FVec Ideal (Mat R 1) .f32)
    (S : Fin 8 → FVec Ideal (Mat R B) .f32) (E : Fin 8 → FVec Ideal (Mat B K) .f32)
    (hD : ∀ (a : FVec Ideal (Mat R B) .bf16) (b : FVec Ideal (Mat B K) .bf16) (r : Fin R) (k : Fin K),
      matmul D none a b (constant (Mat R K) .f32 0x00000000#32) (ix2 r k) = ∑ j, a (ix2 r j) * b (ix2 j k))
    (r : Fin R) (k : Fin K) :
    weighted D t m S E (ix2 r k) = ∑ c, ∑ j, wts (t (ix2 r 0)) (m (ix2 r 0)) (row (S c) r) j * E c (ix2 j k) := by
  unfold weighted
  rw [acc8_apply]
  refine Finset.sum_congr rfl fun c _ => ?_
  rw [hD]
  exact Finset.sum_congr rfl fun j _ => congrArg (· * E c (ix2 j k)) (weights_apply t m (S c) r j)

theorem lift_apply [OneRow R n] (w : FVec Ideal (Mat 1 n) .f32) (r : Fin R) (k : Fin n) : lift R w (ix2 r k) = w (ix2 0 k) := by
  pointwise [lift]
  by_cases h : n = 1
  · subst h
    rw [Subsingleton.elim k 0]
    simp
  · simp [h]

theorem lnorm_apply [Rows R n] [OneRow R n] (N : BitVec 32) (x : FVec Ideal (Mat R n) .f32) (g b : FVec Ideal (Mat 1 n) .f32)
    (r : Fin R) (k : Fin n) :
    lnorm N x g b (ix2 r k) = ln (Ideal.ofBits .f32 N) (row x r) (row g 0) (row b 0) k := by
  pointwise [lnorm, lift_apply, spread_apply, rsum_apply]
  rfl

theorem blend_apply [Rows R n] (c : BitVec 32) (x y : FVec Ideal (Mat R n) .f32) (d : FVec Ideal (Mat R 1) .f32) (r : Fin R) (k : Fin n) :
    blend c x y d (ix2 r k) = x (ix2 r k) + Ideal.ofBits .f32 c * Ideal.div (y (ix2 r k)) (d (ix2 r 0)) := by
  pointwise [blend, spread_apply]

end Cert.RowOps

end
-- ==== Proof.Attend.lean ====
/- A row of attention over the four largest scores, in the two forms in which it is computed.

   The kernel adds up `exp (s j - m)` over the scores that reach the fourth largest, weighs the values with the same
   numbers, and divides once. The reference replaces every other score by minus infinity, takes the softmax of the whole
   row, and weighs the values with the quotients. Over real scores the two are equal. -/
module

public import proofs.«01_k».proof.Proof.RowReads
public import Mathlib.Data.EReal.Inv

@[expose] public section

noncomputable section

namespace Cert.Attend

open Idealize.ShloMosaic Cert.TopFour Cert.RowOps

variable {ι : Type} [Fintype ι]

/-- The weighted mean of the values `v` with weights `p`. -/
def mean (p v : ι → EReal) : EReal := Ideal.div (∑ j, p j * v j) (∑ j, p j)

/-- Attention over the scores `s` that are among the four largest, with threshold `t` and largest score `m`. -/
def attend (T : Fin 4 → EReal) (s v : ι → EReal) : EReal := mean (wts (T 3) (T 0) s) v

/-- The scores with those below the threshold replaced by minus infinity. -/
def masked (t : EReal) (s : ι → EReal) (j : ι) : EReal := if t ≤ s j then s j else ⊥

/-- The softmax numerators of a row as the reference computes them. -/
def num (s : ι → EReal) (j : ι) : EReal := Ideal.exp (s j - max ⊥ (Finset.univ.fold max ⊥ s))

theorem exp_bot : Ideal.exp ⊥ = 0 := by
  unfold Ideal.exp
  rfl

theorem exp_coe (x : ℝ) : Ideal.exp (x : EReal) = ((Real.exp x : ℝ) : EReal) := by
  unfold Ideal.exp
  rfl

theorem sum_coe {κ : Type} (S : Finset κ) (f : κ → ℝ) : (∑ j ∈ S, ((f j : ℝ) : EReal)) = ((∑ j ∈ S, f j : ℝ) : EReal) := by
  classical
  induction S using Finset.induction_on with
  | empty => simp
  | insert a S ha ih => rw [Finset.sum_insert ha, Finset.sum_insert ha, ih, EReal.coe_add]

/-- The fold of maxima is the largest entry. -/
theorem fold_eq_top (s : ι → EReal) : Finset.univ.fold max ⊥ s = top s := rfl

/-- The largest of the masked scores is the largest score, when the threshold does not exceed it. -/
theorem top_masked [Nonempty ι] (t : EReal) (s : ι → EReal) (h : t ≤ top s) : top (masked t s) = top s := by
  apply le_antisymm
  · refine Finset.sup_le fun j _ => ?_
    unfold masked
    split
    · exact le_top s j
    · exact bot_le
  · obtain ⟨j, _, hj⟩ := Finset.exists_mem_eq_sup Finset.univ Finset.univ_nonempty s
    have hj' : top s = s j := hj
    rw [hj']
    have : masked t s j = s j := by unfold masked; rw [if_pos (hj' ▸ h)]
    rw [← this]
    exact le_top _ j

variable [Nonempty ι]

/-- So the reference's numerators are the kernel's weights. -/
theorem num_masked (T : Fin 4 → EReal) (s : ι → EReal) (hT : IsTop (count s) T) :
    num (masked (T 3) s) = wts (T 3) (T 0) s := by
  have h0 : T 0 = top s := hT.zero_eq_top
  have h30 : T 3 ≤ top s := by
    rw [← h0]
    refine (hT 0 _).2 ?_
    have := (hT 3 _).1 le_rfl
    have e : ((0 : Fin 4) : ℕ) = 0 := rfl
    have e' : ((3 : Fin 4) : ℕ) = 3 := rfl
    omega
  funext j
  unfold num wts
  rw [fold_eq_top, top_masked _ _ h30, h0, max_eq_right bot_le]
  unfold masked
  split
  · rfl
  · rw [EReal.bot_sub, exp_bot]

/-- The kernel's weights are real, not negative, and add up to a positive number. -/
theorem wts_real (T : Fin 4 → EReal) (s : ι → EReal) (hT : IsTop (count s) T) (f : ι → ℝ) (hf : ∀ j, s j = f j) :
    ∃ p : ι → ℝ, (∀ j, wts (T 3) (T 0) s j = p j) ∧ (∀ j, 0 ≤ p j) ∧ 0 < ∑ j, p j := by
  have h0 : T 0 = top s := hT.zero_eq_top
  have h30 : T 3 ≤ top s := by
    rw [← h0]
    refine (hT 0 _).2 ?_
    have := (hT 3 _).1 le_rfl
    have e : ((0 : Fin 4) : ℕ) = 0 := rfl
    have e' : ((3 : Fin 4) : ℕ) = 3 := rfl
    omega
  obtain ⟨i, _, hi⟩ := Finset.exists_mem_eq_sup Finset.univ Finset.univ_nonempty s
  have hi' : top s = s i := hi
  refine ⟨fun j => if T 3 ≤ s j then Real.exp (f j - f i) else 0, fun j => ?_, fun j => ?_, ?_⟩
  · unfold wts
    rw [h0, hi']
    by_cases h : T 3 ≤ s j
    · simp only [h, if_true]
      rw [hf j, hf i, ← EReal.coe_sub, exp_coe]
    · simp only [h, if_false]
      rfl
  · show 0 ≤ if T 3 ≤ s j then Real.exp (f j - f i) else 0
    split
    · exact (Real.exp_pos _).le
    · exact le_rfl
  · refine Finset.sum_pos' (fun j _ => ?_) ⟨i, Finset.mem_univ i, ?_⟩
    · split
      · exact (Real.exp_pos _).le
      · exact le_rfl
    · rw [if_pos (hi' ▸ h30)]
      exact Real.exp_pos _

/-- A factor that is a real, not negative number goes into a sum of any extended reals. -/
theorem mul_sum_coe {κ : Type} (S : Finset κ) (c : ℝ) (hc : 0 ≤ c) (f : κ → EReal) :
    (c : EReal) * ∑ j ∈ S, f j = ∑ j ∈ S, (c : EReal) * f j := by
  classical
  induction S using Finset.induction_on with
  | empty => simp
  | insert a S ha ih =>
    rw [Finset.sum_insert ha, Finset.sum_insert ha, ← ih]
    exact EReal.left_distrib_of_nonneg_of_ne_top (EReal.coe_nonneg.2 hc) (EReal.coe_ne_top c) _ _

omit [Nonempty ι] in
/-- Dividing the weighted sum once is weighing with the quotients. -/
theorem mean_eq_sum (p : ι → EReal) (q : ι → ℝ) (hp : ∀ j, p j = q j) (hq : 0 < ∑ j, q j) (v : ι → EReal) :
    mean p v = ∑ j, Ideal.div (p j) (∑ l, p l) * v j := by
  have hs : ∑ j, p j = ((∑ j, q j : ℝ) : EReal) := by
    rw [← sum_coe]
    exact Finset.sum_congr rfl fun j _ => hp j
  have hne : ((∑ j, q j : ℝ) : EReal) ≠ 0 := by
    exact_mod_cast hq.ne'
  unfold mean
  rw [hs]
  unfold Ideal.div
  simp only [if_neg hne]
  rw [← EReal.coe_inv, mul_comm, mul_sum_coe _ _ (inv_nonneg.2 hq.le)]
  refine Finset.sum_congr rfl fun j _ => ?_
  rw [← mul_assoc, mul_comm _ (p j)]

/-- The kernel's attention is the reference's. -/
theorem attend_eq (T : Fin 4 → EReal) (s v : ι → EReal) (hT : IsTop (count s) T) (f : ι → ℝ) (hf : ∀ j, s j = f j) :
    attend T s v = ∑ j, Ideal.div (num (masked (T 3) s) j) (∑ l, num (masked (T 3) s) l) * v j := by
  rw [num_masked T s hT]
  obtain ⟨p, hp, _, hpos⟩ := wts_real T s hT f hf
  exact mean_eq_sum _ p hp hpos v

end Cert.Attend

end
-- ==== Proof.BodyReads.lean ====
/- What one grid step writes, read at an index over the extended reals. -/
module

public import proofs.«01_k».proof.Proof.Body
public import proofs.«01_k».proof.Proof.Attend
public import Idealize.ShloMosaic.Lib.Pointwise

@[expose] public section

noncomputable section

namespace Cert.Body

open Idealize.ShloMosaic Idealize.ShloMosaic.TcCoe Cert.KernelIdeal Cert.KernelIdeal.Gen Cert.RowOps Cert.TopFour Cert.Attend

theorem dot_keys (a : FVec Ideal S256x768 .bf16) (b : FVec Ideal S512x768 .bf16) (r : Fin 256) (j : Fin 512) :
    matmul dot_S256x768_S512x768_S256x512_1_1_0_0_n_n none a b (constant S256x512 .f32 0x00000000#32) (ix2 r j)
      = ∑ l : Fin 768, a (ix2 r l) * b (ix2 j l) := by
  pointwise

theorem dot_values (a : FVec Ideal S256x512 .bf16) (b : FVec Ideal S512x768 .bf16) (r : Fin 256) (k : Fin 768) :
    matmul dot_S256x512_S512x768_S256x768_1_0_0_1_n_n none a b (constant S256x768 .f32 0x00000000#32) (ix2 r k)
      = ∑ j : Fin 512, a (ix2 r j) * b (ix2 j k) := by
  pointwise

theorem named_eq : (Named.named κ "sqrt_dim" 0x41DDB3D7#32 : Ideal .f32) = ((Real.sqrt 768 : ℝ) : EReal) :=
  IdealRules.named_const.ideal_named_scalar _ _ _ _ rfl

/-- The scores of a row `q`, weighted by `w`, against every row of `E`. -/
def score (q w : Fin 768 → EReal) (E : S4096x768.Idx → EReal) (j : Fin 4096) : EReal :=
  Ideal.div (∑ l : Fin 768, (q l * w l) * E (ix2 j l)) ((Real.sqrt 768 : ℝ) : EReal)

theorem row_S (q : FVec Ideal S256x768 .f32) (w : FVec Ideal S1x768 .f32) (E : FVec Ideal S4096x768 .f32) (c : Fin 8)
    (r : Fin 256) (j : Fin 512) :
    row (Body.S q w (blk E) c) r j = score (row q r) (row w 0) E ⟨512 * c.val + j.val, by omega⟩ := by
  unfold row Body.S score
  rw [named_eq, scores_apply _ _ _ _ dot_keys]
  refine congrArg (Ideal.div · _) (Finset.sum_congr rfl fun l _ => ?_)
  show (q (ix2 r l) * lift 256 w (ix2 r l)) * _ = _
  rw [lift_apply]
  rfl

theorem sum_S {M : Type} [AddCommMonoid M] (f : Fin 4096 → M) :
    ∑ j, f j = ∑ c : Fin 8, ∑ k : Fin 512, f ⟨512 * c.val + k.val, by omega⟩ :=
  sum_blocks 8 512 f _

theorem isTop_score (q : FVec Ideal S256x768 .f32) (w : FVec Ideal S1x768 .f32) (E : FVec Ideal S4096x768 .f32) (r : Fin 256) :
    IsTop (TopFour.count (score (row q r) (row w 0) E)) (row (topAll (Body.S q w (blk E))) r) := by
  have h := isTop_topAll (by decide) (by decide) (Body.S q w (blk E)) r
  have e : (fun x => ∑ c, count (row (Body.S q w (blk E) c) r) x) = TopFour.count (score (row q r) (row w 0) E) := by
    funext x
    unfold TopFour.count
    simp only [Finset.card_filter]
    rw [sum_S]
    refine Finset.sum_congr rfl fun c _ => Finset.sum_congr rfl fun j _ => ?_
    rw [row_S]
  rwa [e] at h

/-- A row's weighted mean. -/
theorem mix_apply (q : FVec Ideal S256x768 .f32) (w : FVec Ideal S1x768 .f32) (E V : FVec Ideal S4096x768 .f32)
    (x : FVec Ideal S256x768 .f32) (T : Fin 4 → EReal) (r : Fin 256) (k : Fin 768)
    (hT : IsTop (TopFour.count (score (row q r) (row w 0) E)) T) :
    mix q w (blk E) (blk V) x (ix2 r k) =
      x (ix2 r k) + Ideal.ofBits .f32 0x3E4CCCCD#32 * attend T (score (row q r) (row w 0) E) (fun j => V (ix2 j k)) := by
  have hA : row (topAll (Body.S q w (blk E))) r = T := (isTop_score q w E r).unique hT
  unfold mix
  rw [blend_apply, weighted_apply _ _ _ _ _ dot_values, denom_apply, fourth_apply, first_apply, hA]
  unfold attend mean
  rw [sum_S, sum_S]
  refine congrArg (fun y => x (ix2 r k) + Ideal.ofBits .f32 0x3E4CCCCD#32 * y) ?_
  refine congrArg₂ Ideal.div ?_ ?_
  · refine Finset.sum_congr rfl fun c _ => Finset.sum_congr rfl fun j _ => ?_
    unfold wts
    rw [row_S]
    rfl
  · refine Finset.sum_congr rfl fun c _ => Finset.sum_congr rfl fun j _ => ?_
    unfold wts
    rw [row_S]

end Cert.Body

end
-- ==== Proof.HostReads.lean ====
/- Two host operations read at an index over the extended reals: the largest entry of each row, and the k largest
   entries of each row in order. -/
module

public import proofs.«01_k».proof.Proof.RowReads
public import Idealize.ShloMosaic.Lib.SortFacts
public import Idealize.ShloMosaic.Lib.Pointwise

@[expose] public section

noncomputable section

namespace Cert.HostReads

open Idealize.ShloMosaic Idealize.ShloMosaic.TcCoe Cert.RowOps Cert.TopFour

/-- The host's row maximum, started from some value `b`. -/
theorem hostMax_apply {R n : ℕ} {u : Shape} (x : FVec Ideal (Mat R n) .f32) (init : FVec Ideal u .f32)
    (h' : (Mat R n).ReducesTo [1] (Row1 R)) (h : (Mat R n).Reduces [1] (Row1 R)) (hu : 0 < u.numel) (b : EReal) (hb : ∀ i, (init i : EReal) = b) (r : Fin R) :
    (Host.reduce (FloatOps.maximumf (F := Ideal) (φ := .f32)) x init h' hu (ix1 r) : EReal) = Finset.univ.fold max b (row x r) := by
  rw [Host.reduce_eq_fold_single (FloatOps.maximumf (F := Ideal) (φ := .f32)) x init h' h hu (ix1 r)]
  show Finset.univ.fold max (init (Shape.Idx.first hu) : EReal) (x ∘ h.lift (ix1 r)) = _
  rw [hb]
  refine congrArg (fun f => Finset.univ.fold max b f) (funext fun k => congrArg x ?_)
  funext i
  refine Fin.cases ?_ (fun i => ?_) i
  · rfl
  · have : i = 0 := Subsingleton.elim _ _
    subst this
    rfl

/-- In an antitone reading of a family by a bijection the entry at place `r` is at least `x` exactly when more than `r` entries are. -/
theorem le_iff_count {n : ℕ} (s : Fin n → EReal) (p : Fin n → Fin n) (hp : Function.Bijective p)
    (hs : ∀ i j, i < j → s (p j) ≤ s (p i)) (r : Fin n) (x : EReal) : x ≤ s (p r) ↔ (r : ℕ) + 1 ≤ TopFour.count s x := by
  have hc : TopFour.count s x = (Finset.univ.filter fun i => x ≤ s (p i)).card := by
    unfold TopFour.count
    rw [Finset.card_filter, Finset.card_filter]
    exact (hp.sum_comp fun i => if x ≤ s i then 1 else 0).symm
  rw [hc]
  constructor
  · intro h
    rw [← Fin.card_Iic r]
    refine Finset.card_le_card fun i hi => ?_
    rcases eq_or_lt_of_le (Finset.mem_Iic.1 hi) with rfl | hlt
    · simpa using h
    · simpa using h.trans (hs i r hlt)
  · intro h
    by_contra hx
    have : (Finset.univ.filter fun i => x ≤ s (p i)).card ≤ (r : ℕ) := by
      rw [← Fin.card_Iio r]
      refine Finset.card_le_card fun i hi => ?_
      rw [Finset.mem_Iio]
      by_contra hir
      have hi' : x ≤ s (p i) := by simpa using hi
      rcases eq_or_lt_of_le (not_lt.1 hir) with rfl | hlt
      · exact hx hi'
      · exact hx (hi'.trans (hs r i hlt))
    omega

/-- The host's `k` largest of each row, at four: the four largest with multiplicity. -/
theorem topK_apply {R n : ℕ} (h4 : 4 ≤ n) (x : FVec Ideal (Mat R n) .f32) (h : (Mat R n).Slices (fun _ => 0) (Mat R 4)) (r : Fin R) :
    IsTop (TopFour.count (row x r)) (fun k => ((Host.topK (Mat R 4) 1 (FloatOps.cmpfTotal (F := Ideal) (φ := .f32) .gt) x h).1 (ix2 r k) : EReal)) := by
  intro k y
  have key : ((Host.topK (Mat R 4) 1 (FloatOps.cmpfTotal (F := Ideal) (φ := .f32) .gt) x h).1 (ix2 r k) : EReal) =
      row x r (sortedFrom (fun k k' => FloatOps.cmpfTotal (F := Ideal) (φ := .f32) .gt (x (ix2 r k)) (x (ix2 r k')) == 1#1) ⟨k, by omega⟩) := by
    unfold Host.topK Host.sort2
    pointwise
    have e : ∀ (m : Fin n) (a : Fin n), (ix2 r m : (Mat R n).Idx).along 1 a = ix2 r a := by
      intro m a
      funext i
      refine Fin.cases ?_ (fun i => ?_) i
      · rfl
      · have : i = 0 := Subsingleton.elim _ _
        subst this
        rfl
    simp only [e]
    rfl
  have hB : ∀ a b : Fin n, (FloatOps.cmpfTotal (F := Ideal) (φ := .f32) .gt (x (ix2 r a)) (x (ix2 r b)) == 1#1) = decide (row x r b < row x r a) := by
    intro a b
    rw [Ideal.cmpfTotal_def]
    show (BitVec.ofBool (decide (row x r b < row x r a)) == 1#1) = _
    cases decide (row x r b < row x r a) <;> rfl
  simp only [hB] at key
  show y ≤ ((Host.topK (Mat R 4) 1 (FloatOps.cmpfTotal (F := Ideal) (φ := .f32) .gt) x h).1 (ix2 r k) : EReal) ↔ _
  rw [key]
  refine le_iff_count (row x r) _ ⟨sortedFrom_injective _, sortedFrom_surjective _⟩ (fun i j hij => ?_) _ y
  have := sortedFrom_noInversion (fun a b => decide (row x r b < row x r a)) (fun a b => decide (row x r b < row x r a))
    (fun a b h => by simpa using (of_decide_eq_true h).le) (fun _ _ h => h)
    (fun a b c h1 h2 => by
      simp only [decide_eq_false_iff_not, not_lt] at h1 h2 ⊢
      exact h1.trans h2) i j hij
  simpa using this

end Cert.HostReads

end
-- ==== Proof.RefReads.lean ====
/- The reference's results, read at an index over the extended reals. -/
module

public import proofs.«01_k».proof.Proof.Gen.ReferenceIdeal.Read
public import proofs.«01_k».proof.Proof.Attend
public import proofs.«01_k».proof.Proof.HostReads
public import Idealize.ShloMosaic.Lib.Pointwise

@[expose] public section

noncomputable section

namespace Cert.RefReads

open Idealize.ShloMosaic Idealize.ShloMosaic.TcCoe Cert.ReferenceIdeal Cert.ReferenceIdeal.Gen Cert.ReferenceIdeal.Read Cert.RowOps Cert.TopFour Cert.Attend

theorem word_768 : (Ideal.ofBits .f32 0x44400000#32 : EReal) = ((768 : ℝ) : EReal) := by
  simp [Ideal.ofBits, Ideal.ieee, -EReal.coe_mul]
  norm_num

theorem sqrt_768 : Ideal.sqrt ((768 : ℝ) : EReal) = ((Real.sqrt 768 : ℝ) : EReal) :=
  if_neg (by norm_num : ¬(768 : ℝ) < 0)

variable (x0 x1 : FVec Ideal S4096x768 .f32) (x2 x3 x4 : FVec Ideal S768 .f32)

theorem red : (Mat 4096 4096).Reduces [1] (Row1 4096) := by decide

theorem v6_apply (r j : Fin 4096) :
    (val_main_v6 (F := Ideal) x0 x2 (ix2 r j) : EReal) =
      Ideal.div (∑ l : Fin 768, (x0 (ix2 r l) * x2 (ix1 l)) * x0 (ix2 j l)) ((Real.sqrt 768 : ℝ) : EReal) := by
  pointwise [val_main_v6, val_main_v3, val_main_v5, val_main_v4, val_main_cst, val_main_v2, val_main_v1, val_main_v0]
  rw [word_768, sqrt_768]

theorem v10_apply (r j : Fin 4096) :
    (val_main_v10 (F := Ideal) x0 x2 (ix2 r j) : EReal) = masked ((val_main_values (F := Ideal) x0 x2 (ix2 r 3) : EReal)) (fun j => (val_main_v6 (F := Ideal) x0 x2 (ix2 r j) : EReal)) j := by
  pointwise [val_main_v10, val_main_v9, val_main_v8, val_main_v7, val_main_call0_v1, val_main_call0_v0, val_main_cst_0]
  show (if _ then _ else (Ideal.ofBits .f32 0xFF800000#32 : EReal)) = _
  rw [neg_inf]
  rfl

theorem v11_apply (r : Fin 4096) :
    (val_main_v11 (F := Ideal) x0 x2 (ix1 r) : EReal) = Finset.univ.fold max ⊥ (fun j : Fin 4096 => (val_main_v10 (F := Ideal) x0 x2 (ix2 r j) : EReal)) := by
  unfold val_main_v11
  exact HostReads.hostMax_apply _ _ _ red _ ⊥ (fun _ => neg_inf) r

theorem v13_apply (r : Fin 4096) :
    (val_main_v13 (F := Ideal) x0 x2 (ix1 r) : EReal) = max ⊥ (Finset.univ.fold max ⊥ (fun j : Fin 4096 => (val_main_v10 (F := Ideal) x0 x2 (ix2 r j) : EReal))) := by
  have h12 : (val_main_v12 (F := Ideal) (ix1 r) : EReal) = ⊥ := by
    pointwise [val_main_v12, val_main_cst_2]
    exact neg_inf
  rw [val_main_v13_apply, Ideal.maximumf_def, h12, v11_apply]

theorem v17_apply (r j : Fin 4096) :
    (val_main_v17 (F := Ideal) x0 x2 (ix2 r j) : EReal) = num (fun j : Fin 4096 => (val_main_v10 (F := Ideal) x0 x2 (ix2 r j) : EReal)) j := by
  pointwise [val_main_v17, val_main_v16, val_main_v15, val_main_v14, v13_apply]
  rfl

theorem v21_apply (r j : Fin 4096) :
    (val_main_v21 (F := Ideal) x0 x2 (ix2 r j) : EReal) = Ideal.div (num (fun j : Fin 4096 => (val_main_v10 (F := Ideal) x0 x2 (ix2 r j) : EReal)) j)
      (∑ l, num (fun j : Fin 4096 => (val_main_v10 (F := Ideal) x0 x2 (ix2 r j) : EReal)) l) := by
  pointwise [val_main_v21, val_main_v20, val_main_v19, val_main_v18, val_main_cst_3, v17_apply]

theorem v27_apply (r : Fin 4096) (k : Fin 768) :
    (val_main_v27 (F := Ideal) x0 x2 (ix2 r k) : EReal) = Ideal.tanh (x0 (ix2 r k) + Ideal.ofBits .f32 0x3E4CCCCD#32 * ∑ j : Fin 4096, (val_main_v21 (F := Ideal) x0 x2 (ix2 r j) : EReal) * x0 (ix2 j k)) := by
  pointwise [val_main_v27, val_main_v26, val_main_v25, val_main_v24, val_main_v22, val_main_cst_4]

theorem v30_apply (r : Fin 4096) (k : Fin 768) :
    (val_main_v30 (F := Ideal) x0 x1 x2 (ix2 r k) : EReal) = x1 (ix2 r k) + Ideal.ofBits .f32 0x3E4CCCCD#32 * ∑ j : Fin 4096, (val_main_v21 (F := Ideal) x0 x2 (ix2 r j) : EReal) * x1 (ix2 j k) := by
  pointwise [val_main_v30, val_main_v29, val_main_v28, val_main_v23, val_main_cst_5]

theorem isTop_values (r : Fin 4096) :
    IsTop (TopFour.count fun j : Fin 4096 => (val_main_v6 (F := Ideal) x0 x2 (ix2 r j) : EReal)) fun k => (val_main_values (F := Ideal) x0 x2 (ix2 r k) : EReal) := by
  unfold val_main_values
  exact HostReads.topK_apply (by decide) _ _ r

theorem v54_apply (r : Fin 4096) (k : Fin 768) :
    (val_main_v54 (F := Ideal) x0 x1 x2 x3 x4 (ix2 r k) : EReal) =
      ln (Ideal.ofBits .f32 0x44400000#32) (fun k => (val_main_v30 (F := Ideal) x0 x1 x2 (ix2 r k) : EReal)) (fun k => x3 (ix1 k))
        (fun k => x4 (ix1 k)) k := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_6, val_main_cst_7, val_main_cst_8, val_main_cst_9, val_main_cst_10]
  rfl

end Cert.RefReads

end
-- ==== Proof.Values.lean ====
/- A block of the kernel's results is the same block of the reference's results, when the state and its weights are
   real numbers. -/
module

public import proofs.«01_k».proof.Proof.BodyReads
public import proofs.«01_k».proof.Proof.RefReads

@[expose] public section

noncomputable section

namespace Cert.Values

open Idealize.ShloMosaic Idealize.ShloMosaic.TcCoe Cert.ReferenceIdeal.Read Cert.RowOps Cert.TopFour Cert.Attend Cert.Body Cert.RefReads

variable (E V : FVec Ideal Cert.KernelIdeal.S4096x768 .f32) (w g b : FVec Ideal Cert.ReferenceIdeal.S768 .f32)

/-- Every entry is a real number. -/
def AllReal {s : Shape} (x : FVec Ideal s .f32) : Prop := ∀ i, ∃ r : ℝ, (x i : EReal) = r

/-- Row `r` of block `t`. -/
def at_ (t : Fin 16) (r : Fin 256) : Fin 4096 := ⟨256 * t.val + r.val, by omega⟩

theorem score_eq (W : FVec Ideal Cert.KernelIdeal.S1x768 .f32) (hW : ∀ l, W (ix2 0 l) = w (ix1 l)) (t : Fin 16) (r : Fin 256) :
    score (row (own E t) r) (row W 0) E = fun j => (val_main_v6 (F := Ideal) E w (ix2 (at_ t r) j) : EReal) := by
  funext j
  rw [v6_apply]
  refine congrArg (Ideal.div · _) (Finset.sum_congr rfl fun l _ => ?_)
  unfold row
  rw [hW]
  rfl

/-- The scores of a real state under real weights are real. -/
theorem score_real (hE : AllReal E) (hw : AllReal w) (r j : Fin 4096) :
    ∃ x : ℝ, (val_main_v6 (F := Ideal) E w (ix2 r j) : EReal) = x := by
  choose e he using hE
  choose u hu using hw
  rw [v6_apply]
  have h0 : (((Real.sqrt 768 : ℝ) : EReal)) ≠ 0 := by
    rw [Ne, EReal.coe_eq_zero]
    exact (Real.sqrt_pos.2 (by norm_num)).ne'
  refine ⟨(∑ l : Fin 768, e (ix2 r l) * u (ix1 l) * e (ix2 j l)) * (Real.sqrt 768)⁻¹, ?_⟩
  have hs : (∑ l : Fin 768, (E (ix2 r l) * w (ix1 l)) * E (ix2 j l) : EReal) = ((∑ l : Fin 768, e (ix2 r l) * u (ix1 l) * e (ix2 j l) : ℝ) : EReal) := by
    rw [← sum_coe]
    refine Finset.sum_congr rfl fun l _ => ?_
    show ((E (ix2 r l) : EReal) * (w (ix1 l) : EReal)) * (E (ix2 j l) : EReal) = _
    rw [he, hu, he, EReal.coe_mul, EReal.coe_mul]
  rw [hs]
  unfold Ideal.div
  rw [if_neg h0, EReal.coe_mul]
  rfl

/-- The kernel's weighted mean of a row is the reference's. -/
theorem mix_eq (W : FVec Ideal Cert.KernelIdeal.S1x768 .f32) (hW : ∀ l, W (ix2 0 l) = w (ix1 l))
    (hE : AllReal E) (hw : AllReal w) (t : Fin 16) (r : Fin 256) (k : Fin 768)
    (x : FVec Ideal Cert.KernelIdeal.S256x768 .f32) :
    (mix (own E t) W (blk E) (blk V) x (ix2 r k) : EReal) = x (ix2 r k) + Ideal.ofBits .f32 0x3E4CCCCD#32 *
      ∑ j : Fin 4096, (val_main_v21 (F := Ideal) E w (ix2 (at_ t r) j) : EReal) * V (ix2 j k) := by
  have hT := isTop_values E w (at_ t r)
  have hT' := hT
  rw [← score_eq E w W hW t r] at hT
  rw [mix_apply _ _ _ _ _ _ r k hT, score_eq E w W hW t r]
  choose f hf using score_real E w hE hw (at_ t r)
  rw [attend_eq _ _ _ hT' f hf]
  refine congrArg (fun y => (x (ix2 r k) : EReal) + Ideal.ofBits .f32 0x3E4CCCCD#32 * y) (Finset.sum_congr rfl fun j _ => ?_)
  rw [v21_apply]
  have e : (fun j => (val_main_v10 (F := Ideal) E w (ix2 (at_ t r) j) : EReal)) =
      masked ((val_main_values (F := Ideal) E w (ix2 (at_ t r) 3) : EReal)) (fun j => (val_main_v6 (F := Ideal) E w (ix2 (at_ t r) j) : EReal)) := by
    funext j
    exact v10_apply E w (at_ t r) j
  rw [e]

theorem out5_eq (W : FVec Ideal Cert.KernelIdeal.S1x768 .f32) (hW : ∀ l, W (ix2 0 l) = w (ix1 l))
    (hE : AllReal E) (hw : AllReal w) (t : Fin 16) (r : Fin 256) (k : Fin 768) :
    (out5 (own E t) W (blk E) (ix2 r k) : EReal) = val_main_v27 (F := Ideal) E w (ix2 (at_ t r) k) := by
  rw [v27_apply]
  exact congrArg Ideal.tanh (mix_eq E E w W hW hE hw t r k _)

theorem out6_eq (W G B : FVec Ideal Cert.KernelIdeal.S1x768 .f32) (hW : ∀ l, W (ix2 0 l) = w (ix1 l))
    (hG : ∀ l, G (ix2 0 l) = g (ix1 l)) (hB : ∀ l, B (ix2 0 l) = b (ix1 l))
    (hE : AllReal E) (hw : AllReal w) (t : Fin 16) (r : Fin 256) (k : Fin 768) :
    (out6 (own E t) (own V t) W G B (blk E) (blk V) (ix2 r k) : EReal) = val_main_v54 (F := Ideal) E V w g b (ix2 (at_ t r) k) := by
  rw [v54_apply]
  unfold out6
  rw [lnorm_apply]
  have e1 : row (mix (own E t) W (blk E) (blk V) (own V t)) r = fun k => (val_main_v30 (F := Ideal) E V w (ix2 (at_ t r) k) : EReal) := by
    funext k
    rw [v30_apply]
    exact mix_eq E V w W hW hE hw t r k _
  have e2 : row G 0 = fun k => g (ix1 k) := funext hG
  have e3 : row B 0 = fun k => b (ix1 k) := funext hB
  rw [e1, e2, e3]

end Cert.Values

end
-- ==== Proof.Arrays.lean ====
/- The kernel's result arrays after the run. -/
module

public import proofs.«01_k».proof.Proof.Values
public import Idealize.ShloMosaic.Lib.Claim

@[expose] public section

noncomputable section

namespace Cert.Arrays

open Idealize.ShloMosaic Idealize.ShloMosaic.TcCoe Idealize.ShloMosaic.Tactic Cert.KernelIdeal Cert.KernelIdeal.Gen Cert.KernelIdeal.Value Cert.ReferenceIdeal.Read Cert.RowOps Cert.Body

variable (m : (ℓ : Loc nD τ sig) → Buf (Elt Ideal) ℓ)

/-- Each input window's block is at index zero at every point. -/
theorem zero0 : ∀ (t : Fin cfg0.N) (a : Fin 2), win0_0.index t a = 0 := (by decide +kernel : ∀ (t : Fin grid0.N) (a : Fin 2), _)
theorem zero1 : ∀ (t : Fin cfg0.N) (a : Fin 2), win0_1.index t a = 0 := (by decide +kernel : ∀ (t : Fin grid0.N) (a : Fin 2), _)
theorem zero2 : ∀ (t : Fin cfg0.N) (a : Fin 2), win0_2.index t a = 0 := (by decide +kernel : ∀ (t : Fin grid0.N) (a : Fin 2), _)
theorem zero3 : ∀ (t : Fin cfg0.N) (a : Fin 2), win0_3.index t a = 0 := (by decide +kernel : ∀ (t : Fin grid0.N) (a : Fin 2), _)
theorem zero4 : ∀ (t : Fin cfg0.N) (a : Fin 2), win0_4.index t a = 0 := (by decide +kernel : ∀ (t : Fin grid0.N) (a : Fin 2), _)

theorem iblk0 (c : Dev nD) (t : Fin cfg0.N) : iblk m c 0 t = m ((c : Thread nD τ).loc main_arg0) := by
  rw [← V_main_arg0 m c]
  funext y
  show V m c main_arg0 (((cfg0.win 0).blk t).view.emb y) = V m c main_arg0 y
  refine congrArg _ (funext fun a => Fin.ext ?_)
  blk_simp
  have e : win0_0.index t a = 0 := zero0 t a
  rw [e, zero_mul, zero_add]

theorem iblk1 (c : Dev nD) (t : Fin cfg0.N) : iblk m c 1 t = m ((c : Thread nD τ).loc main_arg1) := by
  rw [← V_main_arg1 m c]
  funext y
  show V m c main_arg1 (((cfg0.win 1).blk t).view.emb y) = V m c main_arg1 y
  refine congrArg _ (funext fun a => Fin.ext ?_)
  blk_simp
  have e : win0_1.index t a = 0 := zero1 t a
  rw [e, zero_mul, zero_add]

theorem iblk2 (c : Dev nD) (t : Fin cfg0.N) (l : Fin 768) :
    iblk m c 2 t (ix2 0 l) = m ((c : Thread nD τ).loc main_arg2) (ix1 l) := by
  have e : ((cfg0.win 2).blk t).view.emb (ix2 0 l) = (ix2 0 l : S1x768.Idx) := by
    refine funext fun a => Fin.ext ?_
    blk_simp
    have e : win0_2.index t a = 0 := zero2 t a
    rw [e, zero_mul, zero_add]
  show V m c main_v0 (((cfg0.win 2).blk t).view.emb (ix2 0 l)) = _
  rw [e]
  entry_read
  pointwise

theorem iblk3 (c : Dev nD) (t : Fin cfg0.N) (l : Fin 768) :
    iblk m c 3 t (ix2 0 l) = m ((c : Thread nD τ).loc main_arg3) (ix1 l) := by
  have e : ((cfg0.win 3).blk t).view.emb (ix2 0 l) = (ix2 0 l : S1x768.Idx) := by
    refine funext fun a => Fin.ext ?_
    blk_simp
    have e : win0_3.index t a = 0 := zero3 t a
    rw [e, zero_mul, zero_add]
  show V m c main_v1 (((cfg0.win 3).blk t).view.emb (ix2 0 l)) = _
  rw [e]
  entry_read
  pointwise

theorem iblk4 (c : Dev nD) (t : Fin cfg0.N) (l : Fin 768) :
    iblk m c 4 t (ix2 0 l) = m ((c : Thread nD τ).loc main_arg4) (ix1 l) := by
  have e : ((cfg0.win 4).blk t).view.emb (ix2 0 l) = (ix2 0 l : S1x768.Idx) := by
    refine funext fun a => Fin.ext ?_
    blk_simp
    have e : win0_4.index t a = 0 := zero4 t a
    rw [e, zero_mul, zero_add]
  show V m c main_v2 (((cfg0.win 4).blk t).view.emb (ix2 0 l)) = _
  rw [e]
  entry_read
  pointwise

variable (hE : ∀ c : Dev nD, Values.AllReal (s := S4096x768) (m ((c : Thread nD τ).loc main_arg0)))
  (hw : ∀ c : Dev nD, Values.AllReal (s := S768) (m ((c : Thread nD τ).loc main_arg2)))

/-- A result's block at point `t` is block `t`. -/
theorem idx5 : ∀ t : Fin cfg0.N, win0_5.index t (0 : Fin 2) = (grid0.coords t 0).val ∧ win0_5.index t (1 : Fin 2) = 0 :=
  (by decide +kernel : ∀ t : Fin grid0.N, _)
theorem idx6 : ∀ t : Fin cfg0.N, win0_6.index t (0 : Fin 2) = (grid0.coords t 0).val ∧ win0_6.index t (1 : Fin 2) = 0 :=
  (by decide +kernel : ∀ t : Fin grid0.N, _)

/-- An index of a result's block at point `t`. -/
theorem emb5 (t : Fin cfg0.N) (r : Fin 256) (k : Fin 768) :
    ((cfg0.win 5).blk t).view.emb (ix2 r k) = (ix2 (Values.at_ (grid0.coords t 0) r) k : S4096x768.Idx) := by
  obtain ⟨e0, e1⟩ := idx5 t
  refine funext fun a => Fin.ext ?_
  match a with
  | ⟨0, _⟩ =>
    show win0_5.index t (0 : Fin 2) * 256 + 1 * r.val = 256 * (grid0.coords t 0).val + r.val
    rw [e0]
    omega
  | ⟨1, _⟩ =>
    show win0_5.index t (1 : Fin 2) * 768 + 1 * k.val = k.val
    rw [e1]
    omega

/-- An index of a result's block at point `t`. -/
theorem emb6 (t : Fin cfg0.N) (r : Fin 256) (k : Fin 768) :
    ((cfg0.win 6).blk t).view.emb (ix2 r k) = (ix2 (Values.at_ (grid0.coords t 0) r) k : S4096x768.Idx) := by
  obtain ⟨e0, e1⟩ := idx6 t
  refine funext fun a => Fin.ext ?_
  match a with
  | ⟨0, _⟩ =>
    show win0_6.index t (0 : Fin 2) * 256 + 1 * r.val = 256 * (grid0.coords t 0).val + r.val
    rw [e0]
    omega
  | ⟨1, _⟩ =>
    show win0_6.index t (1 : Fin 2) * 768 + 1 * k.val = k.val
    rw [e1]
    omega

include hE hw

/-- The first result array after the run. -/
theorem final5 (c : Dev nD) : (dats m 0 c).arrAt 5 cfg0.N =
    val_main_v27 (F := Ideal) (m ((c : Thread nD τ).loc main_arg0)) (m ((c : Thread nD τ).loc main_arg2)) := by
  refine (dats m 0 c).arrAt_eq_of_covers 5 _ (by decide +kernel) fun t _ y => ?_
  obtain ⟨r, k, rfl⟩ : ∃ (r : Fin 256) (k : Fin 768), y = ix2 r k := ⟨y 0, y 1, eq_ix2 y⟩
  rw [after0_5]
  simp only [outsAt0]
  rw [out0_A_5_eq, emb5]
  rw [iblk0]
  exact Values.out5_eq _ _ _ (iblk2 m c t) (hE c) (hw c) (grid0.coords t 0) r k

/-- The second result array after the run. -/
theorem final6 (c : Dev nD) : (dats m 0 c).arrAt 6 cfg0.N =
    val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨r, k, rfl⟩ : ∃ (r : Fin 256) (k : Fin 768), y = ix2 r k := ⟨y 0, y 1, eq_ix2 y⟩
  rw [after0_6]
  simp only [outsAt0]
  rw [out0_A_6_eq, emb6]
  rw [iblk0, iblk1]
  exact Values.out6_eq _ _ _ _ _ _ _ _ (iblk2 m c t) (iblk3 m c t) (iblk4 m c t) (hE c) (hw c) (grid0.coords t 0) r k

end Cert.Arrays

end
-- ==== Proof.Claims.lean ====
/- The claims about the expand propagation, one by one. -/
module

public import proofs.«01_k».proof.Defs
public import proofs.«01_k».proof.Proof.Gen.Kernel.Frame
public import proofs.«01_k».proof.Proof.Gen.Pre_finite
public import proofs.«01_k».proof.Proof.Gen.ReferenceIdeal.Run
public import proofs.«01_k».proof.Proof.Finite
public import proofs.«01_k».proof.Proof.Arrays
public import Idealize.ShloMosaic.Adequacy
public import Idealize.ShloMosaic.Init

@[expose] public section

noncomputable section

namespace Cert.Proof

open Idealize.ShloMosaic Idealize.ShloMosaic.TcCoe Idealize.SL.Sem

/-- The reference's frame: its run, and it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's two results are the reference's. -/
theorem algebraic : Cert.algebraic_KernelIdeal_ReferenceIdeal_pre_finite := by
  intro m g m' g' hpre hagree
  have hr := fun c => Cert.Finite.real _ _ _ _ _ (hpre c)
  have hE : ∀ c : Dev Cert.KernelIdeal.nD, Cert.Values.AllReal (s := Cert.KernelIdeal.S4096x768) (m ((c : Thread Cert.KernelIdeal.nD Cert.KernelIdeal.τ).loc Cert.KernelIdeal.main_arg0)) :=
    fun c => (hr c).1
  have hw : ∀ c : Dev Cert.KernelIdeal.nD, Cert.Values.AllReal (s := Cert.KernelIdeal.S768) (m ((c : Thread Cert.KernelIdeal.nD Cert.KernelIdeal.τ).loc Cert.KernelIdeal.main_arg2)) :=
    fun c => (hr c).2
  refine ⟨fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks (F := Ideal) m g, ?_⟩
  refine (θ_run Cert.ReferenceIdeal.defs _ _).mono (fun r h c => ⟨?_, ?_, (h c).2.2⟩) (Cert.ReferenceIdeal.Value.run (F := Ideal) m' g')
  · refine (h c).1.trans ?_
    show _ = (Cert.KernelIdeal.Gen.dats m 0 c).arrAt 5 Cert.KernelIdeal.cfg0.N
    rw [Cert.Arrays.final5 m hE hw c, ← (hagree c).1, ← (hagree c).2.2.1]
    exact Cert.ReferenceIdeal.Read.val_main_v27_eq m' c
  · refine (h c).2.1.trans ?_
    show _ = (Cert.KernelIdeal.Gen.dats m 0 c).arrAt 6 Cert.KernelIdeal.cfg0.N
    rw [Cert.Arrays.final6 m hE hw c, ← (hagree c).1, ← (hagree c).2.1, ← (hagree c).2.2.1, ← (hagree c).2.2.2.1,
      ← (hagree c).2.2.2.2]
    exact Cert.ReferenceIdeal.Read.val_main_v54_eq m' c

end Cert.Proof

end
-- ==== Proof.Window.lean ====
/- Attention over a window: every row weighs the rows at most four before and four after it.

   The reference puts minus infinity for the scores of the other rows and takes the softmax of the whole row. The kernel
   goes along the nine rows of the window, with minus infinity where a row does not exist. Over real scores the two weigh
   alike. -/
module

public import proofs.«01_k».proof.Proof.Attend
public import Mathlib.Tactic.FinCases

@[expose] public section

noncomputable section

namespace Cert.Window

open Idealize.ShloMosaic Cert.TopFour Cert.Attend

/-- Row `j` is in the window of row `r`. -/
def near (r j : Fin 2048) : Prop := r.val ≤ j.val + 4 ∧ j.val ≤ r.val + 4

/-- Place `d` of the window of row `r` is a row. -/
def inside (r : Fin 2048) (d : Fin 9) : Prop := 4 ≤ r.val + d.val ∧ r.val + d.val < 2052

instance (r j : Fin 2048) : Decidable (near r j) := inferInstanceAs (Decidable (_ ∧ _))
instance (r : Fin 2048) (d : Fin 9) : Decidable (inside r d) := inferInstanceAs (Decidable (_ ∧ _))

/-- The row at place `d` of the window of row `r`. -/
def at_ (r : Fin 2048) (d : Fin 9) (h : inside r d) : Fin 2048 := ⟨r.val + d.val - 4, by have := h.2; omega⟩

/-- What the rows hold, along the window of row `r`, and `z` where there is no row. -/
def along (r : Fin 2048) (z : EReal) (f : Fin 2048 → EReal) (d : Fin 9) : EReal := if h : inside r d then f (at_ r d h) else z

theorem near_at (r : Fin 2048) (d : Fin 9) (h : inside r d) : near r (at_ r d h) := by
  have := h.1
  have e : (at_ r d h).val = r.val + d.val - 4 := rfl
  unfold near
  omega

/-- The place of a row in the window. -/
theorem exists_place (r j : Fin 2048) (h : near r j) : ∃ d, ∃ hd : inside r d, at_ r d hd = j := by
  have h1 := h.1
  have h2 := h.2
  refine ⟨⟨j.val + 4 - r.val, by omega⟩, ⟨?_, ?_⟩, Fin.ext ?_⟩
  · show 4 ≤ r.val + (j.val + 4 - r.val); omega
  · show r.val + (j.val + 4 - r.val) < 2052; omega
  · show r.val + (j.val + 4 - r.val) - 4 = j.val; omega

theorem place_unique (r : Fin 2048) (d d' : Fin 9) (h : inside r d) (h' : inside r d') (e : at_ r d h = at_ r d' h') : d = d' := by
  have e' : r.val + d.val - 4 = r.val + d'.val - 4 := congrArg Fin.val e
  have := h.1
  have := h'.1
  exact Fin.ext (by omega)

/-- A sum over all rows of what is zero outside the window goes along the window. -/
theorem sum_along (r : Fin 2048) (f : Fin 2048 → EReal) (hf : ∀ j, ¬near r j → f j = 0) : ∑ d, along r 0 f d = ∑ j, f j := by
  have h1 : ∀ d, along r 0 f d = ∑ j, if ∃ hd : inside r d, at_ r d hd = j then f j else 0 := by
    intro d
    unfold along
    by_cases h : inside r d
    · rw [dif_pos h, Finset.sum_eq_single (at_ r d h), if_pos ⟨h, rfl⟩]
      · intro j _ hj
        exact if_neg fun ⟨_, e⟩ => hj e.symm
      · intro hj
        exact absurd (Finset.mem_univ _) hj
    · rw [dif_neg h]
      exact (Finset.sum_eq_zero fun j _ => if_neg fun ⟨hd, _⟩ => h hd).symm
  simp only [h1]
  rw [Finset.sum_comm]
  refine Finset.sum_congr rfl fun j _ => ?_
  by_cases hj : near r j
  · obtain ⟨d, hd, e⟩ := exists_place r j hj
    rw [Finset.sum_eq_single d, if_pos ⟨hd, e⟩]
    · intro d' _ hne
      exact if_neg fun ⟨hd', e'⟩ => hne (place_unique r d' d hd' hd (e'.trans e.symm))
    · intro hd'
      exact absurd (Finset.mem_univ _) hd'
  · rw [hf j hj]
    exact Finset.sum_eq_zero fun d _ => ite_self _

/-- The scores with those outside the window replaced by minus infinity. -/
def windowed (r : Fin 2048) (s : Fin 2048 → EReal) (j : Fin 2048) : EReal := if near r j then s j else ⊥

theorem along_windowed (r : Fin 2048) (s : Fin 2048 → EReal) : along r ⊥ (windowed r s) = along r ⊥ s := by
  funext d
  unfold along
  by_cases h : inside r d
  · rw [dif_pos h, dif_pos h]
    exact if_pos (near_at r d h)
  · rw [dif_neg h, dif_neg h]

theorem top_along (r : Fin 2048) (s : Fin 2048 → EReal) : top (along r ⊥ s) = top (windowed r s) := by
  rw [← along_windowed]
  apply le_antisymm
  · refine Finset.sup_le fun d _ => ?_
    unfold along
    split
    · exact le_top _ _
    · exact bot_le
  · refine Finset.sup_le fun j _ => ?_
    by_cases hj : near r j
    · obtain ⟨d, hd, rfl⟩ := exists_place r j hj
      refine le_trans (le_of_eq ?_) (le_top (along r ⊥ (windowed r s)) d)
      unfold along
      rw [dif_pos hd]
    · unfold windowed
      rw [if_neg hj]
      exact bot_le

/-- The softmax numerator at place `d` of a window with the scores `p`. -/
def weight (p : Fin 9 → EReal) (d : Fin 9) : EReal := Ideal.exp (p d - top p)

/-- The numerators along the window are the reference's. -/
theorem weight_along (r : Fin 2048) (s : Fin 2048 → EReal) : weight (along r ⊥ s) = along r 0 (num (windowed r s)) := by
  funext d
  unfold weight num
  rw [top_along, fold_eq_top, max_eq_right bot_le, ← along_windowed]
  unfold along
  by_cases h : inside r d
  · rw [dif_pos h, dif_pos h]
  · rw [dif_neg h, dif_neg h, EReal.bot_sub, exp_bot]

theorem num_outside (r : Fin 2048) (s : Fin 2048 → EReal) (j : Fin 2048) (h : ¬near r j) : num (windowed r s) j = 0 := by
  unfold num windowed
  rw [if_neg h, EReal.bot_sub, exp_bot]

theorem exp_nonneg (x : EReal) : 0 ≤ Ideal.exp x := by
  induction x using EReal.rec with
  | bot => rw [exp_bot]
  | top => exact le_top (a := (0 : EReal))
  | coe y => rw [exp_coe]; exact EReal.coe_nonneg.2 (Real.exp_pos y).le

/-- The numerators along the window do not add up to zero: the largest score's is one. -/
theorem total_ne (r : Fin 2048) (s : Fin 2048 → EReal) (f : Fin 2048 → ℝ) (hf : ∀ j, s j = f j) : ∑ d, weight (along r ⊥ s) d ≠ 0 := by
  obtain ⟨d, _, hd⟩ := Finset.exists_mem_eq_sup Finset.univ Finset.univ_nonempty (along r ⊥ s)
  have hd' : top (along r ⊥ s) = along r ⊥ s d := hd
  have h4 : inside r 4 := ⟨by show 4 ≤ r.val + 4; omega, by show r.val + 4 < 2052; omega⟩
  have hlt : ⊥ < top (along r ⊥ s) := by
    refine lt_of_lt_of_le ?_ (Cert.TopFour.le_top (along r ⊥ s) 4)
    unfold along
    rw [dif_pos h4, hf]
    exact EReal.bot_lt_coe _
  have hin : inside r d := by
    by_contra h
    rw [hd'] at hlt
    unfold along at hlt
    rw [dif_neg h] at hlt
    exact lt_irrefl _ hlt
  have h1 : weight (along r ⊥ s) d = 1 := by
    unfold weight
    rw [hd']
    unfold along
    rw [dif_pos hin, hf, ← EReal.coe_sub, sub_self, exp_coe, Real.exp_zero, EReal.coe_one]
  have hle : weight (along r ⊥ s) d ≤ ∑ d, weight (along r ⊥ s) d :=
    Finset.single_le_sum (f := weight (along r ⊥ s)) (fun d _ => exp_nonneg _) (Finset.mem_univ d)
  rw [h1] at hle
  exact (lt_of_lt_of_le zero_lt_one hle).ne'

theorem zero_div (x : EReal) (h : x ≠ 0) : Ideal.div 0 x = 0 := by
  unfold Ideal.div
  rw [if_neg h, zero_mul]

/-- The kernel's weighted sum along the window is the reference's over all rows. -/
theorem mean_eq (r : Fin 2048) (s v : Fin 2048 → EReal) (f : Fin 2048 → ℝ) (hf : ∀ j, s j = f j) :
    ∑ d, Ideal.div (weight (along r ⊥ s) d) (∑ l, weight (along r ⊥ s) l) * along r 0 v d =
      ∑ j, Ideal.div (num (windowed r s) j) (∑ l, num (windowed r s) l) * v j := by
  have hne := total_ne r s f hf
  have hs : ∑ l, weight (along r ⊥ s) l = ∑ l, num (windowed r s) l := by
    rw [weight_along]
    exact sum_along r _ (num_outside r s)
  rw [hs] at hne ⊢
  rw [← sum_along r (fun j => Ideal.div (num (windowed r s) j) (∑ l, num (windowed r s) l) * v j) fun j hj => by
    rw [num_outside r s j hj, zero_div _ hne, zero_mul]]
  refine Finset.sum_congr rfl fun d _ => ?_
  rw [weight_along]
  unfold along
  by_cases h : inside r d
  · rw [dif_pos h, dif_pos h, dif_pos h]
  · rw [dif_neg h, dif_neg h, dif_neg h, mul_zero]

/-- A score of real rows under real weights is real. -/
theorem score_real (q w k : Fin 768 → EReal) (hq : ∀ l, ∃ x : ℝ, q l = x) (hw : ∀ l, ∃ x : ℝ, w l = x) (hk : ∀ l, ∃ x : ℝ, k l = x) :
    ∃ x : ℝ, Ideal.div (∑ l, q l * w l * k l) ((Real.sqrt 768 : ℝ) : EReal) = x := by
  choose a ha using hq
  choose b hb using hw
  choose c hc using hk
  have h0 : (((Real.sqrt 768 : ℝ) : EReal)) ≠ 0 := by
    rw [Ne, EReal.coe_eq_zero]
    exact (Real.sqrt_pos.2 (by norm_num)).ne'
  refine ⟨(∑ l, a l * b l * c l) * (Real.sqrt 768)⁻¹, ?_⟩
  have hs : ∑ l, q l * w l * k l = ((∑ l, a l * b l * c l : ℝ) : EReal) := by
    rw [← sum_coe]
    exact Finset.sum_congr rfl fun l _ => by rw [ha, hb, hc, EReal.coe_mul, EReal.coe_mul]
  rw [hs]
  unfold Ideal.div
  rw [if_neg h0, EReal.coe_mul]
  rfl

/-- The largest of nine, one after the other. -/
theorem top_nine (p : Fin 9 → EReal) :
    max (max (max (max (max (max (max (max (p 0) (p 1)) (p 2)) (p 3)) (p 4)) (p 5)) (p 6)) (p 7)) (p 8) = top p := by
  apply le_antisymm
  · simp only [max_le_iff, Cert.TopFour.le_top, and_self]
  · refine Finset.sup_le fun d _ => ?_
    fin_cases d <;> simp [le_max_iff]

theorem sum_nine (p : Fin 9 → EReal) : p 0 + p 1 + p 2 + p 3 + p 4 + p 5 + p 6 + p 7 + p 8 = ∑ d, p d := by
  rw [Fin.sum_univ_castSucc, Fin.sum_univ_eight]
  rfl

/-- A selection by a decided bit. -/
theorem select_decide {α : Type} (p : Prop) [Decidable p] (a b : α) : Scalar.select (BitVec.ofBool (decide p)) a b = if p then a else b := by
  unfold Scalar.select
  by_cases h : p <;> simp [h]

theorem sub_word (a b : ℕ) (h : b ≤ a) (ha : a < 2 ^ 32) : IntOp.subi (BitVec.ofNat 32 a) (BitVec.ofNat 32 b) = BitVec.ofNat 32 (a - b) := by
  show BitVec.ofNat 32 a - BitVec.ofNat 32 b = _
  apply BitVec.eq_of_toNat_eq
  rw [BitVec.toNat_sub, BitVec.toNat_ofNat, BitVec.toNat_ofNat, BitVec.toNat_ofNat]
  omega

theorem sub_word_neg (a b : ℕ) (h : a ≤ b) (hb : b < 2 ^ 32) : IntOp.subi (BitVec.ofNat 32 a) (BitVec.ofNat 32 b) = -BitVec.ofNat 32 (b - a) := by
  show BitVec.ofNat 32 a - BitVec.ofNat 32 b = _
  apply BitVec.eq_of_toNat_eq
  rw [BitVec.toNat_sub, BitVec.toNat_neg, BitVec.toNat_ofNat, BitVec.toNat_ofNat, BitVec.toNat_ofNat]
  omega

theorem abs_word : ∀ n : Fin 2048, IntOp.cmpi .sle (IntOp.absi (BitVec.ofNat 32 n.val)) 4#32 = BitVec.ofBool (decide (n.val ≤ 4)) ∧
    IntOp.cmpi .sle (IntOp.absi (-BitVec.ofNat 32 n.val)) 4#32 = BitVec.ofBool (decide (n.val ≤ 4)) := by
  decide +kernel

/-- The reference's test for the window. -/
theorem near_word (r j : Fin 2048) :
    IntOp.cmpi .sle (IntOp.absi (IntOp.subi (BitVec.ofNat 32 r.val) (BitVec.ofNat 32 j.val))) 4#32 = BitVec.ofBool (decide (near r j)) := by
  have hr := r.isLt
  have hj := j.isLt
  rcases Nat.le_total j.val r.val with h | h
  · rw [sub_word _ _ h (by omega), (abs_word ⟨r.val - j.val, by omega⟩).1]
    refine congrArg BitVec.ofBool (decide_eq_decide.2 ?_)
    show r.val - j.val ≤ 4 ↔ r.val ≤ j.val + 4 ∧ j.val ≤ r.val + 4
    omega
  · rw [sub_word_neg _ _ h (by omega), (abs_word ⟨j.val - r.val, by omega⟩).2]
    refine congrArg BitVec.ofBool (decide_eq_decide.2 ?_)
    show j.val - r.val ≤ 4 ↔ r.val ≤ j.val + 4 ∧ j.val ≤ r.val + 4
    omega

/-- The kernel's test for a place that is a row. -/
theorem inside_word : ∀ (r : Fin 2048) (d : Fin 9),
    IntOp.andi (IntOp.cmpi .sge (IntOp.addi (BitVec.ofNat 32 r.val) (BitVec.ofNat 32 d.val - 4#32)) 0#32)
      (IntOp.cmpi .slt (IntOp.addi (BitVec.ofNat 32 r.val) (BitVec.ofNat 32 d.val - 4#32)) 2048#32) = BitVec.ofBool (decide (inside r d)) := by
  decide +kernel

/-- The kernel's test for a diagonal of its block of scores. -/
theorem diagonal_word (r : Fin 256) (c : Fin 264) (d : Fin 9) :
    IntOp.cmpi .eq (IntOp.subi (BitVec.ofNat 32 c.val) (BitVec.ofNat 32 r.val)) (BitVec.ofNat 32 d.val) =
      BitVec.ofBool (decide (c = ⟨r.val + d.val, by omega⟩)) := by
  have hr := r.isLt
  have hc := c.isLt
  have hd := d.isLt
  show BitVec.ofBool (IntOp.subi (BitVec.ofNat 32 c.val) (BitVec.ofNat 32 r.val) == BitVec.ofNat 32 d.val) = _
  refine congrArg BitVec.ofBool (Bool.eq_iff_iff.2 ?_)
  rw [beq_iff_eq, decide_eq_true_iff, Fin.ext_iff]
  show IntOp.subi (BitVec.ofNat 32 c.val) (BitVec.ofNat 32 r.val) = BitVec.ofNat 32 d.val ↔ c.val = r.val + d.val
  rcases Nat.le_total r.val c.val with h | h
  · rw [sub_word _ _ h (by omega)]
    constructor
    · intro e
      have e' := congrArg BitVec.toNat e
      rw [BitVec.toNat_ofNat, BitVec.toNat_ofNat] at e'
      omega
    · intro e
      rw [e, Nat.add_sub_cancel_left]
  · rw [sub_word_neg _ _ h (by omega)]
    constructor
    · intro e
      have e' := congrArg BitVec.toNat e
      rw [BitVec.toNat_neg, BitVec.toNat_ofNat, BitVec.toNat_ofNat] at e'
      omega
    · intro e
      have : d.val = 0 := by omega
      rw [this, show r.val - c.val = 0 by omega]
      rfl

end Cert.Window

end
-- ==== Proof.SpropBody.lean ====
/- What one grid step of the sequence layer's propagation writes, as the named row operations on the blocks that it loads,
   and its value at an index over the extended reals. -/
module

public import proofs.«01_k».proof.Proof.Gen.SpropIdeal.Value
public import Idealize.ShloMosaic.Lib.Pipeline.ValueKit
public import proofs.«01_k».proof.Proof.RowReads
public import proofs.«01_k».proof.Proof.Window

@[expose] public section

noncomputable section

namespace Cert.SpropBody

open Idealize.ShloMosaic Idealize.ShloMosaic.TcCoe Idealize.ShloMosaic.Tactic Cert.SpropIdeal Cert.SpropIdeal.Gen Cert.RowOps Cert.Window

instance : Rows 256 264 := ⟨by decide, by decide, by decide⟩

theorem slides : ∀ d : Fin 9, S264x768.Slices ![d.val, 0] S256x768 := by decide

section
variable {F : FTy → Type} [FloatOps F]

/-- A block with its rows above and below, in its own shape. -/
def same (x : FVec F S264x768 .f32) : FVec F S264x768 .f32 := shapeCast S264x768 x shapeCasts_S264x768_S264x768

/-- The 256 rows that start at row `d`. -/
def slide (d : Fin 9) (x : FVec F S264x768 .f32) : FVec F S256x768 .f32 := extractStridedSlice S256x768 ![d.val, 0] x (slides d)

/-- The numbers of a step's rows in the whole sequence, moved by `d - 4`. -/
def places (i : grid0.Coords) (d : Fin 9) : IVec S256x1 32 :=
  addi (addi (broadcast S256x1 (Scalar.muli (BitVec.ofNat 32 (i 0).val) 256#32)) (iota .tc S256x1 32 [0] iota_S256x1_d0_w32))
    (broadcast S256x1 (BitVec.ofNat 32 d.val - 4#32))

/-- Diagonal `d` of a block of scores, as a column. -/
def diagonal (s : FVec F S256x264 .f32) (d : Fin 9) : FVec F S256x1 .f32 :=
  rsum (select (cmpi .eq (subi (iota .tc S256x264 32 [1] iota_S256x264_d1_w32) (iota .tc S256x264 32 [0] iota_S256x264_d0_w32))
    (broadcast S256x264 (BitVec.ofNat 32 d.val))) s (broadcast S256x264 (Scalar.ofBits .f32 0x00000000#32)))

/-- The scores of a step's rows at place `d` of their windows. -/
def score (i : grid0.Coords) (s : FVec F S256x264 .f32) (d : Fin 9) : FVec F S256x1 .f32 :=
  select (andi (cmpi .sge (places i d) (broadcast S256x1 0#32)) (cmpi .slt (places i d) (broadcast S256x1 2048#32))) (diagonal s d)
    (broadcast S256x1 (Scalar.ofBits .f32 0xFF800000#32))

/-- The largest of nine columns. -/
def largest (p : Fin 9 → FVec F S256x1 .f32) : FVec F S256x1 .f32 :=
  maximumf (maximumf (maximumf (maximumf (maximumf (maximumf (maximumf (maximumf (p 0) (p 1)) (p 2)) (p 3)) (p 4)) (p 5)) (p 6)) (p 7)) (p 8)

/-- The softmax numerators of nine columns. -/
def part (p : Fin 9 → FVec F S256x1 .f32) (d : Fin 9) : FVec F S256x1 .f32 := exp (subf (p d) (largest p))

/-- Nine columns added. -/
def total (e : Fin 9 → FVec F S256x1 .f32) : FVec F S256x1 .f32 :=
  addf (addf (addf (addf (addf (addf (addf (addf (e 0) (e 1)) (e 2)) (e 3)) (e 4)) (e 5)) (e 6)) (e 7)) (e 8)

/-- The rows at place `d` of the windows, each with its share. -/
def shared (e : Fin 9 → FVec F S256x1 .f32) (x : FVec F S264x768 .f32) (d : Fin 9) : FVec F S256x768 .f32 :=
  mulf (spread 768 (extf .f32 (truncf .bf16 (divf (e d) (total e)) bitsLt_bf16_f32) bitsLt_bf16_f32))
    (extf .f32 (truncf .bf16 (slide d x) bitsLt_bf16_f32) bitsLt_bf16_f32)

/-- Nine blocks added to zero. -/
def nine (f : Fin 9 → FVec F S256x768 .f32) : FVec F S256x768 .f32 :=
  addf (addf (addf (addf (addf (addf (addf (addf (addf (broadcast S256x768 (Scalar.ofBits .f32 0x00000000#32)) (f 0)) (f 1)) (f 2)) (f 3)) (f 4)) (f 5)) (f 6)) (f 7)) (f 8)

/-- What the windows gather of the rows of `x`, with the factor 0.25, added onto the rows themselves. -/
def mix (e : Fin 9 → FVec F S256x1 .f32) (x : FVec F S264x768 .f32) : FVec F S256x768 .f32 :=
  addf (slide 4 x) (mulf (broadcast S256x768 (Scalar.ofBits .f32 0x3E800000#32)) (nine (shared e x)))

variable [Named F]

/-- A step's block of scores. -/
def S (x : FVec F S264x768 .f32) (w : FVec F S1x768 .f32) : FVec F S256x264 .f32 :=
  scores dot_S256x768_S264x768_S256x264_1_1_0_0_n_n (Named.named κ "sqrt_dim" 0x41DDB3D7#32) (mulf (slide 4 x) (lift 256 w)) x

/-- The block of the first result. -/
def out5 (i : grid0.Coords) (x : FVec F S264x768 .f32) (w : FVec F S1x768 .f32) : FVec F S256x768 .f32 :=
  tanh (mix (part (score i (S (same x) w))) (same x))

/-- The block of the second result. -/
def out6 (i : grid0.Coords) (x y : FVec F S264x768 .f32) (w g b : FVec F S1x768 .f32) : FVec F S256x768 .f32 :=
  lnorm 0x44400000#32 (mix (part (score i (S (same x) w))) (same y)) g b

/-- The rows that a step loads. -/
def halo {α : Type} (P : S2056x768.Idx → α) (t : Fin 8) : S264x768.Idx → α :=
  fun y => P (ix2 ⟨256 * t.val + (y 0).val, by have h : (y 0).val < 264 := (y 0).isLt; omega⟩ (y 1))

theorem off_eq (i : grid0.Coords) : k0_off1 i = ![256 * (i 0).val, 0] := by
  have h : (i 0).val < 8 := (i 0).isLt
  have e : (Scalar.muli (BitVec.ofNat 32 (i 0).val) 256#32).toNat = 256 * (i 0).val := by
    show (BitVec.ofNat 32 (i 0).val * 256#32).toNat = _
    rw [BitVec.toNat_mul, BitVec.toNat_ofNat, BitVec.toNat_ofNat]
    omega
  show ![(Scalar.muli (BitVec.ofNat 32 (i 0).val) 256#32).toNat, 0] = _
  rw [e]

theorem load_halo {m : Memref sig .tc .vmem S2056x768 .f32} (h : m.IsWhole) (P : FVec F S2056x768 .f32) (i : grid0.Coords) :
    View.readAt (Elt F) m.view (Rect.unit (s := S2056x768) (k0_off1 i) S264x768.size (k0_off1_inb i)).toLoadRect (h.unread P) = halo P (i 0) := by
  have key : ∀ (off : Fin S2056x768.rank → ℕ) (inb : ∀ a, off a + S264x768.size a ≤ S2056x768.size a), off = ![256 * (i 0).val, 0] →
      View.readAt (Elt F) m.view (Rect.unit (s := S2056x768) off S264x768.size inb).toLoadRect (h.unread P) = halo P (i 0) := by
    intro off inb hoff
    subst hoff
    rw [View.readAt_eq_ld, h.read_unread]
    funext y
    obtain ⟨r, k, rfl⟩ : ∃ r k, y = ix2 r k := ⟨y 0, y 1, eq_ix2 y⟩
    have h8 : (i 0).val < 8 := (i 0).isLt
    pointwise [halo]
  exact key _ _ (off_eq i)

theorem load_row {m : Memref sig .tc .vmem S1x768 .f32} (h : m.IsWhole) (w : FVec F S1x768 .f32) :
    View.readAt (Elt F) m.view (Rect.unit (s := S1x768) ![0, 0] S1x768.size inb_S1x768_S1x768_0_0).toLoadRect (h.unread w) = w := by
  rw [View.readAt_eq_ld, h.read_unread, View.ld_unit_zero (by decide)]

variable (c : Dev nD) (i : grid0.Coords) (arg1 : Memref sig .tc .vmem S2056x768 .f32) (harg1 : arg1.IsWhole) (arg2 : Memref sig .tc .vmem S2056x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S256x768 .f32) (harg6 : arg6.IsWhole) (arg7 : Memref sig .tc .vmem S256x768 .f32) (harg7 : arg7.IsWhole)
  (x0 x1 : Vec F S2056x768 .f32) (x2 x3 x4 : Vec F S1x768 .f32)

theorem out5_eq : out0_A_5 c i arg1 harg1 arg2 harg2 arg3 harg3 arg4 harg4 arg5 harg5 arg6 harg6 arg7 harg7 x0 x1 x2 x3 x4 = out5 i (halo x0 (i 0)) x2 := by
  conv_rhs => rw [← load_halo harg1 x0 i, ← load_row harg3 x2]
  unfold out0_A_5
  rw [View.read_writes_junk_eq_canon]
  unfold kernelRun0_A
  dsimp only
  sl_unfold_run_names
  rw [View.canon_unit_zero (by decide)]
  sl_kernel_rfl

theorem out6_eq : out0_A_6 c i arg1 harg1 arg2 harg2 arg3 harg3 arg4 harg4 arg5 harg5 arg6 harg6 arg7 harg7 x0 x1 x2 x3 x4 =
    out6 i (halo x0 (i 0)) (halo x1 (i 0)) x2 x3 x4 := by
  conv_rhs => rw [← load_halo harg1 x0 i, ← load_halo harg2 x1 i, ← load_row harg3 x2, ← load_row harg4 x3, ← load_row harg5 x4]
  unfold out0_A_6
  rw [View.read_writes_junk_eq_canon]
  unfold kernelRun0_A
  dsimp only
  sl_unfold_run_names
  rw [View.canon_unit_zero (by decide)]
  sl_kernel_rfl

end

theorem named_eq : (Named.named κ "sqrt_dim" 0x41DDB3D7#32 : Ideal .f32) = ((Real.sqrt 768 : ℝ) : EReal) :=
  IdealRules.named_const.ideal_named_scalar _ _ _ _ rfl

theorem dot_rows (a : FVec Ideal S256x768 .bf16) (b : FVec Ideal S264x768 .bf16) (r : Fin 256) (j : Fin 264) :
    matmul dot_S256x768_S264x768_S256x264_1_1_0_0_n_n none a b (constant S256x264 .f32 0x00000000#32) (ix2 r j)
      = ∑ l : Fin 768, a (ix2 r l) * b (ix2 j l) := by
  pointwise

theorem same_eq (x : FVec Ideal S264x768 .f32) : same x = x := by
  funext y
  obtain ⟨r, j, rfl⟩ : ∃ (r : Fin 264) (j : Fin 768), y = ix2 r j := ⟨y 0, y 1, eq_ix2 y⟩
  pointwise [same]

/-- Row `r` of the block at place `d` of its window. -/
def low (r : Fin 256) (d : Fin 9) : Fin 264 := ⟨r.val + d.val, by omega⟩

theorem slide_apply (d : Fin 9) (x : FVec Ideal S264x768 .f32) (r : Fin 256) (k : Fin 768) : slide d x (ix2 r k) = x (ix2 (low r d) k) := by
  refine congrArg x (funext fun a => Fin.ext ?_)
  match a with
  | ⟨0, _⟩ => show d.val + r.val = r.val + d.val; omega
  | ⟨1, _⟩ => show 0 + k.val = k.val; omega

/-- Row `r` of block `t`. -/
def row_ (t : Fin 8) (r : Fin 256) : Fin 2048 := ⟨256 * t.val + r.val, by omega⟩

theorem place_word (t : Fin 8) (r : Fin 256) :
    IntOp.addi (Scalar.muli (BitVec.ofNat 32 t.val) 256#32) (BitVec.ofNat 32 r.val) = BitVec.ofNat 32 (row_ t r).val := by
  show BitVec.ofNat 32 t.val * 256#32 + BitVec.ofNat 32 r.val = BitVec.ofNat 32 (256 * t.val + r.val)
  apply BitVec.eq_of_toNat_eq
  rw [BitVec.toNat_add, BitVec.toNat_mul, BitVec.toNat_ofNat, BitVec.toNat_ofNat, BitVec.toNat_ofNat, BitVec.toNat_ofNat]
  omega

theorem diagonal_apply (s : FVec Ideal S256x264 .f32) (d : Fin 9) (r : Fin 256) (k : Fin 1) : diagonal s d (ix2 r k) = s (ix2 r (low r d)) := by
  unfold diagonal
  rw [rsum_apply]
  have h : ∀ c : Fin 264, select (cmpi .eq (subi (iota .tc S256x264 32 [1] iota_S256x264_d1_w32) (iota .tc S256x264 32 [0] iota_S256x264_d0_w32))
      (broadcast S256x264 (BitVec.ofNat 32 d.val))) s (broadcast S256x264 (Scalar.ofBits .f32 0x00000000#32)) (ix2 r c) =
      if c = low r d then s (ix2 r c) else (0 : EReal) := by
    intro c
    rw [← zero_word, ← select_decide]
    refine Eq.trans ?_ (congrArg (Scalar.select · _ _) (diagonal_word r c d))
    pointwise
  simp only [h]
  rw [Finset.sum_ite_eq' Finset.univ (low r d), if_pos (Finset.mem_univ _)]

theorem score_apply (i : grid0.Coords) (t : Fin 8) (ht : (i 0).val = t.val) (s : FVec Ideal S256x264 .f32) (d : Fin 9) (r : Fin 256) (k : Fin 1) :
    score i s d (ix2 r k) = if inside (row_ t r) d then s (ix2 r (low r d)) else (⊥ : EReal) := by
  have h : places i d (ix2 r k) = IntOp.addi (BitVec.ofNat 32 (row_ t r).val) (BitVec.ofNat 32 d.val - 4#32) := by
    rw [← place_word t r, ← ht]
    pointwise [places]
  rw [← RowOps.neg_inf, ← select_decide, ← inside_word, ← h, ← diagonal_apply s d r k]
  rfl

theorem largest_apply (p : Fin 9 → FVec Ideal S256x1 .f32) (y : S256x1.Idx) : largest p y = TopFour.top fun d => (p d y : EReal) := by
  rw [← top_nine]
  rfl

theorem total_apply (e : Fin 9 → FVec Ideal S256x1 .f32) (y : S256x1.Idx) : total e y = ∑ d, (e d y : EReal) := by
  rw [← sum_nine]
  rfl

theorem part_apply (p : Fin 9 → FVec Ideal S256x1 .f32) (d : Fin 9) (y : S256x1.Idx) : part p d y = weight (fun d => (p d y : EReal)) d := by
  unfold weight
  rw [← largest_apply]
  rfl

theorem nine_apply (f : Fin 9 → FVec Ideal S256x768 .f32) (y : S256x768.Idx) : nine f y = ∑ d, (f d y : EReal) := by
  rw [← sum_nine]
  show Ideal.ofBits .f32 0x00000000#32 + f 0 y + f 1 y + f 2 y + f 3 y + f 4 y + f 5 y + f 6 y + f 7 y + f 8 y = _
  rw [zero_word, zero_add]

theorem product_apply (a : FVec Ideal S256x768 .f32) (x : FVec Ideal S256x768 .f32) (y : S256x768.Idx) :
    mulf a (extf .f32 (truncf .bf16 x bitsLt_bf16_f32) bitsLt_bf16_f32) y = (a y * x y : EReal) := rfl

theorem quotient_apply (a b : FVec Ideal S256x1 .f32) (y : S256x1.Idx) :
    extf .f32 (truncf .bf16 (divf a b) bitsLt_bf16_f32) bitsLt_bf16_f32 y = Ideal.div (a y) (b y) := rfl

theorem shared_apply (e : Fin 9 → FVec Ideal S256x1 .f32) (x : FVec Ideal S264x768 .f32) (d : Fin 9) (r : Fin 256) (k : Fin 768) :
    shared e x d (ix2 r k) = Ideal.div (e d (ix2 r 0)) (∑ l, (e l (ix2 r 0) : EReal)) * x (ix2 (low r d) k) := by
  unfold shared
  rw [product_apply, spread_apply, quotient_apply, total_apply, slide_apply]

theorem fourth_apply (x z : FVec Ideal S256x768 .f32) (y : S256x768.Idx) :
    addf x (mulf (broadcast S256x768 (Scalar.ofBits .f32 0x3E800000#32)) z) y = (x y + Ideal.ofBits .f32 0x3E800000#32 * z y : EReal) := rfl

theorem mix_apply (e : Fin 9 → FVec Ideal S256x1 .f32) (x : FVec Ideal S264x768 .f32) (r : Fin 256) (k : Fin 768) :
    mix e x (ix2 r k) = x (ix2 (low r 4) k) + Ideal.ofBits .f32 0x3E800000#32 *
      ∑ d, Ideal.div (e d (ix2 r 0)) (∑ l, (e l (ix2 r 0) : EReal)) * x (ix2 (low r d) k) := by
  unfold mix
  rw [fourth_apply, slide_apply, nine_apply]
  simp only [shared_apply]

theorem S_apply (x : FVec Ideal S264x768 .f32) (w : FVec Ideal S1x768 .f32) (r : Fin 256) (j : Fin 264) :
    S x w (ix2 r j) = Ideal.div (∑ l : Fin 768, (x (ix2 (low r 4) l) * w (ix2 0 l)) * x (ix2 j l)) ((Real.sqrt 768 : ℝ) : EReal) := by
  unfold S
  rw [named_eq, scores_apply _ _ _ _ dot_rows]
  refine congrArg (Ideal.div · _) (Finset.sum_congr rfl fun l _ => ?_)
  show (slide 4 x (ix2 r l) * lift 256 w (ix2 r l)) * _ = _
  rw [lift_apply, slide_apply]

end Cert.SpropBody

end
-- ==== Proof.SpropRef.lean ====
/- The sequence layer's reference, read at an index over the extended reals. -/
module

public import proofs.«01_k».proof.Proof.Gen.SpropReferenceIdeal.Read
public import proofs.«01_k».proof.Proof.RefReads
public import proofs.«01_k».proof.Proof.Window

@[expose] public section

noncomputable section

namespace Cert.SpropRef

open Idealize.ShloMosaic Idealize.ShloMosaic.TcCoe Cert.SpropReferenceIdeal Cert.SpropReferenceIdeal.Gen Cert.SpropReferenceIdeal.Read Cert.RowOps Cert.TopFour Cert.Attend Cert.Window

variable (x0 x1 : FVec Ideal S2048x768 .f32) (x2 x3 x4 : FVec Ideal S768 .f32)

theorem red : (Mat 2048 2048).Reduces [1] (Row1 2048) := by decide

/-- The scores of row `r`. -/
def sc (r j : Fin 2048) : EReal := Ideal.div (∑ l : Fin 768, (x0 (ix2 r l) * x2 (ix1 l)) * x0 (ix2 j l)) ((Real.sqrt 768 : ℝ) : EReal)

theorem v6_apply (r j : Fin 2048) : (val_main_v6 (F := Ideal) x0 x2 (ix2 r j) : EReal) = sc x0 x2 r j := by
  pointwise [val_main_v6, val_main_v3, val_main_v5, val_main_v4, val_main_cst, val_main_v2, val_main_v1, val_main_v0]
  rw [RefReads.word_768, RefReads.sqrt_768]
  rfl

theorem v15_apply (r j : Fin 2048) : val_main_v15 (F := Ideal) (ix2 r j) = BitVec.ofBool (decide (near r j)) := by
  rw [← near_word]
  pointwise [val_main_v15, val_main_v14, val_main_v13, val_main_v12, val_main_v11, val_main_v10, val_main_v9, val_main_v8, val_main_v7, val_main_c]

theorem v16_apply (r j : Fin 2048) : (val_main_v16 (F := Ideal) x0 x2 (ix2 r j) : EReal) = windowed r (sc x0 x2 r) j := by
  rw [val_main_v16_apply, v15_apply, select_decide, v6_apply]
  have h : (val_main_call0_v1 (F := Ideal) (ix2 r j) : EReal) = ⊥ := by
    pointwise [val_main_call0_v1, val_main_call0_v0, val_main_cst_0]
    exact neg_inf
  rw [h]
  rfl

theorem v17_apply (r : Fin 2048) : (val_main_v17 (F := Ideal) x0 x2 (ix1 r) : EReal) = Finset.univ.fold max ⊥ (windowed r (sc x0 x2 r)) := by
  unfold val_main_v17
  refine (HostReads.hostMax_apply _ _ _ red _ ⊥ (fun _ => neg_inf) r).trans ?_
  exact congrArg (Finset.univ.fold max ⊥) (funext fun j => v16_apply x0 x2 r j)

theorem v19_apply (r : Fin 2048) : (val_main_v19 (F := Ideal) x0 x2 (ix1 r) : EReal) = max ⊥ (Finset.univ.fold max ⊥ (windowed r (sc x0 x2 r))) := by
  have h : (val_main_v18 (F := Ideal) (ix1 r) : EReal) = ⊥ := by
    pointwise [val_main_v18, val_main_cst_2]
    exact neg_inf
  rw [val_main_v19_apply, Ideal.maximumf_def, h, v17_apply]

theorem v23_apply (r j : Fin 2048) : (val_main_v23 (F := Ideal) x0 x2 (ix2 r j) : EReal) = num (windowed r (sc x0 x2 r)) j := by
  pointwise [val_main_v23, val_main_v22, val_main_v21, val_main_v20, v19_apply, v16_apply]
  rfl

/-- What the window of row `r` gathers of the column `v`. -/
def gather (r : Fin 2048) (v : Fin 2048 → EReal) : EReal :=
  ∑ j, Ideal.div (num (windowed r (sc x0 x2 r)) j) (∑ l, num (windowed r (sc x0 x2 r)) l) * v j

theorem v27_apply (r j : Fin 2048) : (val_main_v27 (F := Ideal) x0 x2 (ix2 r j) : EReal) =
    Ideal.div (num (windowed r (sc x0 x2 r)) j) (∑ l, num (windowed r (sc x0 x2 r)) l) := by
  pointwise [val_main_v27, val_main_v26, val_main_v25, val_main_v24, val_main_cst_3, v23_apply]

theorem v33_apply (r : Fin 2048) (k : Fin 768) : (val_main_v33 (F := Ideal) x0 x2 (ix2 r k) : EReal) =
    Ideal.tanh (x0 (ix2 r k) + Ideal.ofBits .f32 0x3E800000#32 * gather x0 x2 r fun j => x0 (ix2 j k)) := by
  pointwise [val_main_v33, val_main_v32, val_main_v31, val_main_v30, val_main_v28, val_main_cst_4, v27_apply]
  rfl

theorem v36_apply (r : Fin 2048) (k : Fin 768) : (val_main_v36 (F := Ideal) x0 x1 x2 (ix2 r k) : EReal) =
    x1 (ix2 r k) + Ideal.ofBits .f32 0x3E800000#32 * gather x0 x2 r fun j => x1 (ix2 j k) := by
  pointwise [val_main_v36, val_main_v35, val_main_v34, val_main_v29, val_main_cst_5, v27_apply]
  rfl

theorem v60_apply (r : Fin 2048) (k : Fin 768) : (val_main_v60 (F := Ideal) x0 x1 x2 x3 x4 (ix2 r k) : EReal) =
    ln (Ideal.ofBits .f32 0x44400000#32) (fun k => (val_main_v36 (F := Ideal) x0 x1 x2 (ix2 r k) : EReal)) (fun k => x3 (ix1 k))
      (fun k => x4 (ix1 k)) k := by
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_cst_6, val_main_cst_7, val_main_cst_8, val_main_cst_9, val_main_cst_10]
  rfl

end Cert.SpropRef

end
-- ==== Proof.SpropArrays.lean ====
/- The sequence layer's result arrays after the run, when the state and its weights are real numbers. -/
module

public import proofs.«01_k».proof.Proof.SpropBody
public import proofs.«01_k».proof.Proof.SpropRef
public import Idealize.ShloMosaic.Lib.Claim

@[expose] public section

noncomputable section

namespace Cert.SpropArrays

open Idealize.ShloMosaic Idealize.ShloMosaic.TcCoe Idealize.ShloMosaic.Tactic Cert.SpropIdeal Cert.SpropIdeal.Gen Cert.SpropIdeal.Value Cert.SpropReferenceIdeal.Read Cert.RowOps Cert.Window Cert.SpropBody

/-- Every entry is a real number. -/
def AllReal {s : Shape} (x : FVec Ideal s .f32) : Prop := ∀ i, ∃ r : ℝ, (x i : EReal) = r

/-- `P` is `x` with four rows of zeros above and below. -/
def Padded (P : FVec Ideal S2056x768 .f32) (x : FVec Ideal S2048x768 .f32) : Prop :=
  ∀ (i : Fin 2056) (k : Fin 768), (P (ix2 i k) : EReal) = if h : 4 ≤ i.val ∧ i.val < 2052 then x (ix2 ⟨i.val - 4, by omega⟩ k) else 0

section
variable (P Q : FVec Ideal S2056x768 .f32) (x y : FVec Ideal S2048x768 .f32) (w g b : FVec Ideal S768 .f32)

/-- The row that a step reads at place `d` of the window of its row `r`. -/
theorem halo_apply (hP : Padded P x) (t : Fin 8) (r : Fin 256) (d : Fin 9) (k : Fin 768) :
    (halo P t (ix2 (low r d) k) : EReal) = along (row_ t r) 0 (fun j => x (ix2 j k)) d := by
  refine (hP ⟨256 * t.val + (low r d).val, by omega⟩ k).trans ?_
  have e : 256 * t.val + (low r d).val = (row_ t r).val + d.val := by
    show 256 * t.val + (r.val + d.val) = 256 * t.val + r.val + d.val
    omega
  unfold along
  by_cases h : inside (row_ t r) d
  · have h' : 4 ≤ 256 * t.val + (low r d).val ∧ 256 * t.val + (low r d).val < 2052 := by rw [e]; exact h
    rw [dif_pos h, dif_pos h']
    refine congrArg (fun j => (x (ix2 j k) : EReal)) (Fin.ext ?_)
    show 256 * t.val + (low r d).val - 4 = (row_ t r).val + d.val - 4
    rw [e]
  · have h' : ¬(4 ≤ 256 * t.val + (low r d).val ∧ 256 * t.val + (low r d).val < 2052) := by rw [e]; exact h
    rw [dif_neg h, dif_neg h']

theorem halo_own (hP : Padded P x) (t : Fin 8) (r : Fin 256) (k : Fin 768) : (halo P t (ix2 (low r 4) k) : EReal) = x (ix2 (row_ t r) k) := by
  rw [halo_apply P x hP]
  have h : inside (row_ t r) 4 := ⟨by show 4 ≤ (row_ t r).val + 4; omega, by show (row_ t r).val + 4 < 2052; omega⟩
  unfold along
  rw [dif_pos h]
  exact congrArg (fun j => (x (ix2 j k) : EReal)) (Fin.ext (Nat.add_sub_cancel _ _))

variable (W G B : FVec Ideal S1x768 .f32) (hP : Padded P x) (hQ : Padded Q y) (hW : ∀ l, W (ix2 0 l) = w (ix1 l))

include hP hW

/-- The scores along a row's window are the reference's. -/
theorem score_eq (i : grid0.Coords) (t : Fin 8) (ht : (i 0).val = t.val) (r : Fin 256) :
    (fun d => (score i (S (halo P t) W) d (ix2 r 0) : EReal)) = along (row_ t r) ⊥ (SpropRef.sc x w (row_ t r)) := by
  funext d
  rw [score_apply i t ht]
  unfold along
  by_cases h : inside (row_ t r) d
  · rw [if_pos h, dif_pos h, S_apply]
    refine congrArg (Ideal.div · _) (Finset.sum_congr rfl fun l _ => ?_)
    rw [halo_own P x hP, hW, halo_apply P x hP]
    unfold along
    rw [dif_pos h]
  · rw [if_neg h, dif_neg h]

/-- What a step adds to a row is what the reference adds. -/
theorem mix_eq (hx : AllReal x) (hw : AllReal w) (hQ : Padded Q y) (i : grid0.Coords) (t : Fin 8) (ht : (i 0).val = t.val) (r : Fin 256) (k : Fin 768) :
    (mix (part (score i (S (halo P t) W))) (halo Q t) (ix2 r k) : EReal) =
      y (ix2 (row_ t r) k) + Ideal.ofBits .f32 0x3E800000#32 * SpropRef.gather x w (row_ t r) fun j => y (ix2 j k) := by
  rw [mix_apply, halo_own Q y hQ]
  simp only [part_apply, score_eq P x w W hP hW i t ht r, halo_apply Q y hQ]
  choose f hf using fun j => score_real (fun l => x (ix2 (row_ t r) l)) (fun l => w (ix1 l)) (fun l => x (ix2 j l))
    (fun l => hx _) (fun l => hw _) (fun l => hx _)
  rw [mean_eq (row_ t r) (SpropRef.sc x w (row_ t r)) (fun j => y (ix2 j k)) f hf]
  rfl

theorem block5 (hx : AllReal x) (hw : AllReal w) (i : grid0.Coords) (t : Fin 8) (ht : (i 0).val = t.val) (r : Fin 256) (k : Fin 768) :
    (out5 i (halo P t) W (ix2 r k) : EReal) = val_main_v33 (F := Ideal) x w (ix2 (row_ t r) k) := by
  rw [SpropRef.v33_apply]
  unfold out5
  rw [same_eq]
  exact congrArg Ideal.tanh (mix_eq P P x x w W hP hW hx hw hP i t ht r k)

theorem block6 (hx : AllReal x) (hw : AllReal w) (hQ : Padded Q y) (hG : ∀ l, G (ix2 0 l) = g (ix1 l)) (hB : ∀ l, B (ix2 0 l) = b (ix1 l))
    (i : grid0.Coords) (t : Fin 8) (ht : (i 0).val = t.val) (r : Fin 256) (k : Fin 768) :
    (out6 i (halo P t) (halo Q t) W G B (ix2 r k) : EReal) = val_main_v60 (F := Ideal) x y w g b (ix2 (row_ t r) k) := by
  rw [SpropRef.v60_apply]
  unfold out6
  rw [same_eq, same_eq, lnorm_apply]
  have e1 : row (mix (part (score i (S (halo P t) W))) (halo Q t)) r = fun k => (val_main_v36 (F := Ideal) x y w (ix2 (row_ t r) k) : EReal) := by
    funext k
    rw [SpropRef.v36_apply]
    exact mix_eq P Q x y w W hP hW hx hw hQ i t ht r k
  have e2 : row G 0 = fun k => g (ix1 k) := funext hG
  have e3 : row B 0 = fun k => b (ix1 k) := funext hB
  rw [e1, e2, e3]

end

variable (m : (ℓ : Loc nD τ sig) → Buf (Elt Ideal) ℓ)

theorem zero0 : ∀ (t : Fin cfg0.N) (a : Fin 2), win0_0.index t a = 0 := (by decide +kernel : ∀ (t : Fin grid0.N) (a : Fin 2), _)
theorem zero1 : ∀ (t : Fin cfg0.N) (a : Fin 2), win0_1.index t a = 0 := (by decide +kernel : ∀ (t : Fin grid0.N) (a : Fin 2), _)
theorem zero2 : ∀ (t : Fin cfg0.N) (a : Fin 2), win0_2.index t a = 0 := (by decide +kernel : ∀ (t : Fin grid0.N) (a : Fin 2), _)
theorem zero3 : ∀ (t : Fin cfg0.N) (a : Fin 2), win0_3.index t a = 0 := (by decide +kernel : ∀ (t : Fin grid0.N) (a : Fin 2), _)
theorem zero4 : ∀ (t : Fin cfg0.N) (a : Fin 2), win0_4.index t a = 0 := (by decide +kernel : ∀ (t : Fin grid0.N) (a : Fin 2), _)
theorem step5 : ∀ t : Fin cfg0.N, win0_5.index t (0 : Fin 2) = t.val ∧ win0_5.index t (1 : Fin 2) = 0 := (by decide +kernel : ∀ t : Fin grid0.N, _)
theorem step6 : ∀ t : Fin cfg0.N, win0_6.index t (0 : Fin 2) = t.val ∧ win0_6.index t (1 : Fin 2) = 0 := (by decide +kernel : ∀ t : Fin grid0.N, _)
theorem point : ∀ t : Fin cfg0.N, (grid0.coords t 0).val = t.val := (by decide +kernel : ∀ t : Fin grid0.N, _)

/-- The block that a point writes. -/
def of (t : Fin cfg0.N) : Fin 8 := ⟨t.val, t.isLt⟩

theorem of_eq (t : Fin cfg0.N) : grid0.coords t 0 = of t := Fin.ext (point t)

/-- The arguments. -/
abbrev X (c : Dev nD) : FVec Ideal S2048x768 .f32 := m ((c : Thread nD τ).loc main_arg0)
abbrev Y (c : Dev nD) : FVec Ideal S2048x768 .f32 := m ((c : Thread nD τ).loc main_arg1)
abbrev W (c : Dev nD) : FVec Ideal S768 .f32 := m ((c : Thread nD τ).loc main_arg2)
abbrev G (c : Dev nD) : FVec Ideal S768 .f32 := m ((c : Thread nD τ).loc main_arg3)
abbrev B (c : Dev nD) : FVec Ideal S768 .f32 := m ((c : Thread nD τ).loc main_arg4)

/-- Four rows of zeros, a state, four rows of zeros. -/
def pad (z : FVec Ideal S4x768 .f32) (x : FVec Ideal S2048x768 .f32) : FVec Ideal S2056x768 .f32 :=
  concatenate S2056x768 0 [⟨S4x768, z⟩, ⟨S2048x768, x⟩, ⟨S4x768, z⟩] concatenates_S4x768_S2048x768_S4x768_S2056x768_d0

theorem pad_padded (z : FVec Ideal S4x768 .f32) (x : FVec Ideal S2048x768 .f32) (hz : ∀ i, (z i : EReal) = 0) : Padded (pad z x) x := by
  intro i k
  by_cases h : 4 ≤ i.val ∧ i.val < 2052
  · rw [dif_pos h]
    refine concatenate_apply_piece 0 _ _ (ix2 i k) 1 (by simp) S2048x768 x rfl rfl 4 rfl (ix2 ⟨i.val - 4, by omega⟩ k) ?_ ?_
    · intro b hb
      match b with
      | ⟨0, _⟩ => exact absurd rfl hb
      | ⟨1, _⟩ => rfl
    · show 4 + (i.val - 4) = i.val
      omega
  · rw [dif_neg h]
    by_cases h4 : i.val < 4
    · refine (concatenate_apply_piece 0 _ _ (ix2 i k) 0 (by simp) S4x768 z rfl rfl 0 rfl (ix2 ⟨i.val, h4⟩ k) ?_ ?_).trans (hz _)
      · intro b hb
        match b with
        | ⟨0, _⟩ => exact absurd rfl hb
        | ⟨1, _⟩ => rfl
      · exact Nat.zero_add _
    · refine (concatenate_apply_piece 0 _ _ (ix2 i k) 2 (by simp) S4x768 z rfl rfl 2052 rfl (ix2 ⟨i.val - 2052, by omega⟩ k) ?_ ?_).trans (hz _)
      · intro b hb
        match b with
        | ⟨0, _⟩ => exact absurd rfl hb
        | ⟨1, _⟩ => rfl
      · show 2052 + (i.val - 2052) = i.val
        omega

/-- The rows of zeros. -/
def border : FVec Ideal S4x768 .f32 := broadcastInDim S4x768 ![] bcast_S_S4x768 (constant S_ .f32 0x00000000#32)

theorem border_zero (i : S4x768.Idx) : (border i : EReal) = 0 := zero_word

/-- What the host's concatenations make of what their operands hold. -/
theorem pad_read4 (F : Valuation τ sig (Elt Ideal)) (z : FVec Ideal S4x768 .f32) (x : FVec Ideal S2048x768 .f32)
    (hz : F (Proc.devRef .tc main_v3) = z) (hx : F (Proc.devRef .tc main_arg0) = x) :
    concatenate S2056x768 0 [⟨S4x768, (fun k => F (Proc.devRef .tc (![main_v3, main_arg0, main_v3] k))) 0⟩,
      ⟨S2048x768, (fun k => F (Proc.devRef .tc (![main_v3, main_arg0, main_v3] k))) 1⟩,
      ⟨S4x768, (fun k => F (Proc.devRef .tc (![main_v3, main_arg0, main_v3] k))) 2⟩] concatenates_S4x768_S2048x768_S4x768_S2056x768_d0 = pad z x := by
  subst hz hx
  rfl

theorem pad_read5 (F : Valuation τ sig (Elt Ideal)) (z : FVec Ideal S4x768 .f32) (x : FVec Ideal S2048x768 .f32)
    (hz : F (Proc.devRef .tc main_v3) = z) (hx : F (Proc.devRef .tc main_arg1) = x) :
    concatenate S2056x768 0 [⟨S4x768, (fun k => F (Proc.devRef .tc (![main_v3, main_arg1, main_v3] k))) 0⟩,
      ⟨S2048x768, (fun k => F (Proc.devRef .tc (![main_v3, main_arg1, main_v3] k))) 1⟩,
      ⟨S4x768, (fun k => F (Proc.devRef .tc (![main_v3, main_arg1, main_v3] k))) 2⟩] concatenates_S4x768_S2048x768_S4x768_S2056x768_d0 = pad z x := by
  subst hz hx
  rfl

theorem V4 (c : Dev nD) : V m c main_v4 = pad border (X m c) := by
  unfold V
  after_results
  refine pad_read4 _ _ _ ?_ ?_ <;> after_results_simp <;> rfl

theorem V5 (c : Dev nD) : V m c main_v5 = pad border (Y m c) := by
  unfold V
  after_results
  refine pad_read5 _ _ _ ?_ ?_ <;> after_results_simp <;> rfl

theorem iblk0 (c : Dev nD) (t : Fin cfg0.N) : Padded (iblk m c 0 t) (X m c) := by
  intro i k
  have e : ((cfg0.win 0).blk t).view.emb (ix2 i k) = (ix2 i k : S2056x768.Idx) := by
    refine funext fun a => Fin.ext ?_
    blk_simp
    have e : win0_0.index t a = 0 := zero0 t a
    rw [e, zero_mul, zero_add]
  show V m c main_v4 (((cfg0.win 0).blk t).view.emb (ix2 i k)) = _
  rw [e]
  rw [V4]
  exact pad_padded border _ border_zero i k

theorem iblk1 (c : Dev nD) (t : Fin cfg0.N) : Padded (iblk m c 1 t) (Y m c) := by
  intro i k
  have e : ((cfg0.win 1).blk t).view.emb (ix2 i k) = (ix2 i k : S2056x768.Idx) := by
    refine funext fun a => Fin.ext ?_
    blk_simp
    have e : win0_1.index t a = 0 := zero1 t a
    rw [e, zero_mul, zero_add]
  show V m c main_v5 (((cfg0.win 1).blk t).view.emb (ix2 i k)) = _
  rw [e]
  rw [V5]
  exact pad_padded border _ border_zero i k

theorem iblk2 (c : Dev nD) (t : Fin cfg0.N) (l : Fin 768) : iblk m c 2 t (ix2 0 l) = W m c (ix1 l) := by
  have e : ((cfg0.win 2).blk t).view.emb (ix2 0 l) = (ix2 0 l : S1x768.Idx) := by
    refine funext fun a => Fin.ext ?_
    blk_simp
    have e : win0_2.index t a = 0 := zero2 t a
    rw [e, zero_mul, zero_add]
  show V m c main_v0 (((cfg0.win 2).blk t).view.emb (ix2 0 l)) = _
  rw [e]
  entry_read
  pointwise

theorem iblk3 (c : Dev nD) (t : Fin cfg0.N) (l : Fin 768) : iblk m c 3 t (ix2 0 l) = G m c (ix1 l) := by
  have e : ((cfg0.win 3).blk t).view.emb (ix2 0 l) = (ix2 0 l : S1x768.Idx) := by
    refine funext fun a => Fin.ext ?_
    blk_simp
    have e : win0_3.index t a = 0 := zero3 t a
    rw [e, zero_mul, zero_add]
  show V m c main_v1 (((cfg0.win 3).blk t).view.emb (ix2 0 l)) = _
  rw [e]
  entry_read
  pointwise

theorem iblk4 (c : Dev nD) (t : Fin cfg0.N) (l : Fin 768) : iblk m c 4 t (ix2 0 l) = B m c (ix1 l) := by
  have e : ((cfg0.win 4).blk t).view.emb (ix2 0 l) = (ix2 0 l : S1x768.Idx) := by
    refine funext fun a => Fin.ext ?_
    blk_simp
    have e : win0_4.index t a = 0 := zero4 t a
    rw [e, zero_mul, zero_add]
  show V m c main_v2 (((cfg0.win 4).blk t).view.emb (ix2 0 l)) = _
  rw [e]
  entry_read
  pointwise

theorem emb5 (t : Fin cfg0.N) (r : Fin 256) (k : Fin 768) :
    ((cfg0.win 5).blk t).view.emb (ix2 r k) = (ix2 (row_ (of t) r) k : S2048x768.Idx) := by
  obtain ⟨e0, e1⟩ := step5 t
  refine funext fun a => Fin.ext ?_
  match a with
  | ⟨0, _⟩ =>
    show win0_5.index t (0 : Fin 2) * 256 + 1 * r.val = 256 * t.val + r.val
    rw [e0]
    omega
  | ⟨1, _⟩ =>
    show win0_5.index t (1 : Fin 2) * 768 + 1 * k.val = k.val
    rw [e1]
    omega

theorem emb6 (t : Fin cfg0.N) (r : Fin 256) (k : Fin 768) :
    ((cfg0.win 6).blk t).view.emb (ix2 r k) = (ix2 (row_ (of t) r) k : S2048x768.Idx) := by
  obtain ⟨e0, e1⟩ := step6 t
  refine funext fun a => Fin.ext ?_
  match a with
  | ⟨0, _⟩ =>
    show win0_6.index t (0 : Fin 2) * 256 + 1 * r.val = 256 * t.val + r.val
    rw [e0]
    omega
  | ⟨1, _⟩ =>
    show win0_6.index t (1 : Fin 2) * 768 + 1 * k.val = k.val
    rw [e1]
    omega

variable (hx : ∀ c : Dev nD, AllReal (X m c)) (hw : ∀ c : Dev nD, AllReal (W m c))

include hx hw

theorem written5 (c : Dev nD) (t : Fin cfg0.N) (r : Fin 256) (k : Fin 768) :
    ((outsAt0 m c t).1 (ix2 r k) : EReal) = val_main_v33 (F := Ideal) (X m c) (W m c) (ix2 (row_ (of t) r) k) := by
  simp only [outsAt0]
  rw [out5_eq, of_eq]
  exact block5 _ _ _ _ (iblk0 m c t) (iblk2 m c t) (hx c) (hw c) _ (of t) (point t) r k

theorem written6 (c : Dev nD) (t : Fin cfg0.N) (r : Fin 256) (k : Fin 768) :
    ((outsAt0 m c t).2 (ix2 r k) : EReal) = val_main_v60 (F := Ideal) (X m c) (Y m c) (W m c) (G m c) (B m c) (ix2 (row_ (of t) r) k) := by
  simp only [outsAt0]
  rw [out6_eq, of_eq]
  exact block6 _ _ _ _ _ _ _ _ _ _ (iblk0 m c t) (iblk2 m c t) (hx c) (hw c) (iblk1 m c t) (iblk3 m c t) (iblk4 m c t) _ (of t) (point t) r k

theorem final5 (c : Dev nD) : (dats m 0 c).arrAt 5 cfg0.N = val_main_v33 (F := Ideal) (X m c) (W m c) := by
  refine (dats m 0 c).arrAt_eq_of_covers 5 _ (by decide +kernel) fun t _ y => ?_
  obtain ⟨r, k, rfl⟩ : ∃ (r : Fin 256) (k : Fin 768), y = ix2 r k := ⟨y 0, y 1, eq_ix2 y⟩
  rw [after0_5, emb5]
  have h := written5 m hx hw c t r k
  generalize (outsAt0 m c t).1 = w at h ⊢
  exact h

theorem final6 (c : Dev nD) : (dats m 0 c).arrAt 6 cfg0.N = val_main_v60 (F := Ideal) (X m c) (Y m c) (W m c) (G m c) (B m c) := by
  refine (dats m 0 c).arrAt_eq_of_covers 6 _ (by decide +kernel) fun t _ y => ?_
  obtain ⟨r, k, rfl⟩ : ∃ (r : Fin 256) (k : Fin 768), y = ix2 r k := ⟨y 0, y 1, eq_ix2 y⟩
  rw [after0_6, emb6]
  have h := written6 m hx hw c t r k
  generalize (outsAt0 m c t).2 = w at h ⊢
  exact h

end Cert.SpropArrays

end
-- ==== Proof.SpropClaims.lean ====
/- The claims about the sequence propagation, one by one. -/
module

public import proofs.«01_k».proof.Defs
public import proofs.«01_k».proof.Proof.Gen.SpropReferenceIdeal.Run
public import proofs.«01_k».proof.Proof.Gen.Pre_finite_s
public import proofs.«01_k».proof.Proof.Finite
public import proofs.«01_k».proof.Proof.SpropArrays
public import Idealize.ShloMosaic.Adequacy
public import Idealize.ShloMosaic.Init

@[expose] public section

noncomputable section

namespace Cert.SpropClaims

open Idealize.ShloMosaic Idealize.ShloMosaic.TcCoe Idealize.SL.Sem

/-- What the precondition says: every entry of the state and of its weights is a real number. -/
theorem real [Cert.Pre_finite_s.Facts] (a0 a1 : FVec Ideal Cert.Pre_finite_s.S2048x768 .f32) (a2 a3 a4 : FVec Ideal Cert.Pre_finite_s.S768 .f32)
    (h : Cert.Pre_finite_s.fn (F := Ideal) a0 a1 a2 a3 a4 = fun _ => 1#1) :
    (∀ i, ∃ r : ℝ, (a0 i : EReal) = r) ∧ (∀ i, ∃ r : ℝ, (a2 i : EReal) = r) := by
  have h0 := congrFun h (Shape.Idx.first Cert.Pre_finite_s.Facts.h_S_)
  dsimp only [Cert.Pre_finite_s.fn] at h0
  have h1 := IntOp.andi_eq_one.1 h0
  exact ⟨fun i => Cert.Finite.real_of_abs _ (Host.reduce_andi_all _ _ _ _ _ h1.1 i),
    fun i => Cert.Finite.real_of_abs _ (Host.reduce_andi_all _ _ _ _ _ h1.2 i)⟩

/-- The reference's frame: its run, and it declares no semaphore. -/
theorem frame_reference : Cert.quiescent_SpropReferenceIdeal := fun m ρ _ =>
  (θ_run Cert.SpropReferenceIdeal.defs _ _).mono (fun r h => ⟨fun c => (h c).2.2, sem_eq_zero_of_no_sems (by decide) r.2⟩)
    (Cert.SpropReferenceIdeal.Value.run (F := Ideal) m ρ)

/-- The kernel's two results are the reference's. -/
theorem algebraic : Cert.algebraic_SpropIdeal_SpropReferenceIdeal_pre_finite_s := by
  intro m g m' g' hpre hagree
  have hr := fun c => real _ _ _ _ _ (hpre c)
  have hx : ∀ c : Dev Cert.SpropIdeal.nD, Cert.SpropArrays.AllReal (Cert.SpropArrays.X m c) := fun c => (hr c).1
  have hw : ∀ c : Dev Cert.SpropIdeal.nD, Cert.SpropArrays.AllReal (Cert.SpropArrays.W m c) := fun c => (hr c).2
  refine ⟨fun c => (Cert.SpropIdeal.Gen.dats m 0 c).arrAt 5 Cert.SpropIdeal.cfg0.N,
    fun c => (Cert.SpropIdeal.Gen.dats m 0 c).arrAt 6 Cert.SpropIdeal.cfg0.N,
    Cert.SpropIdeal.Value.run_blocks (F := Ideal) m g, ?_⟩
  refine (θ_run Cert.SpropReferenceIdeal.defs _ _).mono (fun r h c => ⟨?_, ?_, (h c).2.2⟩) (Cert.SpropReferenceIdeal.Value.run (F := Ideal) m' g')
  · refine (h c).1.trans ?_
    show _ = (Cert.SpropIdeal.Gen.dats m 0 c).arrAt 5 Cert.SpropIdeal.cfg0.N
    rw [Cert.SpropArrays.final5 m hx hw c]
    simp only [Cert.SpropArrays.X, Cert.SpropArrays.W]
    rw [← (hagree c).1, ← (hagree c).2.2.1]
    exact Cert.SpropReferenceIdeal.Read.val_main_v33_eq m' c
  · refine (h c).2.1.trans ?_
    show _ = (Cert.SpropIdeal.Gen.dats m 0 c).arrAt 6 Cert.SpropIdeal.cfg0.N
    rw [Cert.SpropArrays.final6 m hx hw c]
    simp only [Cert.SpropArrays.X, Cert.SpropArrays.Y, Cert.SpropArrays.W, Cert.SpropArrays.G, Cert.SpropArrays.B]
    rw [← (hagree c).1, ← (hagree c).2.1, ← (hagree c).2.2.1, ← (hagree c).2.2.2.1, ← (hagree c).2.2.2.2]
    exact Cert.SpropReferenceIdeal.Read.val_main_v60_eq m' c

end Cert.SpropClaims

end
-- ==== Proof.LogitsRun.lean ====
/- The call of the expansion's logits runs, and what it leaves in its outputs point by point. -/
module

public import proofs.«01_k».proof.Proof.Gen.LogitsIdeal.Launch
public import proofs.«01_k».proof.Proof.Gen.LogitsIdeal.Skeleton
public import proofs.«01_k».proof.Proof.Gen.LogitsIdeal.Points
public import Idealize.ShloMosaic.Lib.Pipeline.FrameBody
public import Idealize.ShloMosaic.Lib.Pipeline.TableIdle
public import Idealize.ShloMosaic.Lib.Pipeline.Value
public import Idealize.ShloMosaic.Lib.WordCmp
public import Idealize.ShloMosaic.Lib.VecWindow
public import Idealize.ShloMosaic.Lib.Ring
public import Idealize.ShloMosaic.Lib.Tactic
public import Idealize.ShloMosaic.Lib.Claim

@[expose] public section

set_option maxRecDepth 16384

noncomputable section

namespace Cert.LogitsRun

open Cert.LogitsIdeal Cert.LogitsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg1 : Memref sig .tc .vmem S512x768 .f32) (harg1 : arg1.IsWhole) (arg2 : Memref sig .tc .vmem S512x768 .f32) (harg2 : arg2.IsWhole)
  (arg3 : Memref sig .tc .vmem S768x1024 .f32) (harg3 : arg3.IsWhole) (arg4 : Memref sig .tc .vmem S1x768 .f32) (harg4 : arg4.IsWhole)
  (arg5 : Memref sig .tc .vmem S1x768 .f32) (harg5 : arg5.IsWhole) (arg6 : Memref sig .tc .vmem S512x1024 .f32) (harg6 : arg6.IsWhole)
  (arg7 : Memref sig .tc .vmem S512x768 .f32) (harg7 : arg7.IsWhole) (arg8 : Memref sig .tc .vmem S512x768 .f32) (harg8 : arg8.IsWhole)
  (x0 x1 : Vec F S512x768 .f32) (x2 : Vec F S768x1024 .f32) (x3 x4 : Vec F S1x768 .f32)

theorem load_state {m : Memref sig .tc .vmem S512x768 .f32} (h : m.IsWhole) (w : Vec F S512x768 .f32) :
    View.readAt (Elt F) m.view (Rect.unit (s := S512x768) ![0, 0] S512x768.size inb_S512x768_S512x768_0_0).toLoadRect (h.unread w) = w := by
  rw [View.readAt_eq_ld, h.read_unread, View.ld_unit_zero (by decide)]

theorem load_weights {m : Memref sig .tc .vmem S768x1024 .f32} (h : m.IsWhole) (w : Vec F S768x1024 .f32) :
    View.readAt (Elt F) m.view (Rect.unit (s := S768x1024) ![0, 0] S768x1024.size inb_S768x1024_S768x1024_0_0).toLoadRect (h.unread w) = w := by
  rw [View.readAt_eq_ld, h.read_unread, View.ld_unit_zero (by decide)]

theorem load_row {m : Memref sig .tc .vmem S1x768 .f32} (h : m.IsWhole) (w : Vec F S1x768 .f32) :
    View.readAt (Elt F) m.view (Rect.unit (s := S1x768) ![0, 0] S1x768.size inb_S1x768_S1x768_0_0).toLoadRect (h.unread w) = w := by
  rw [View.readAt_eq_ld, h.read_unread, View.ld_unit_zero (by decide)]

set_option maxHeartbeats 1000000 in
/-- The first point: all three outputs are stored. -/
theorem run_first (hc : k0_cond1 i = 1#1) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ x, owns (c : Thread nD τ) arg6 fullShare x) ∗ (∃ x, owns (c : Thread nD τ) arg7 fullShare x) ∗ (∃ x, owns (c : Thread nD τ) arg8 fullShare x)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 x2) ∗ owns (c : Thread nD τ) arg7 fullShare (k0_pay1 x0)
            ∗ owns (c : Thread nD τ) arg8 fullShare (k0_pay3 x1 x3 x4)) -∗ K ⟨⟩))
      ⊢ wp frame (wpE (defs₀ (F := F)) Variants.none c none) E
          (cc0__expand_logits_body i arg1 harg1 arg2 harg2 arg3 harg3 arg4 harg4 arg5 harg5 arg6 harg6 arg7 harg7 arg8 harg8) K := by
  simp only [cc0__expand_logits_body_eq_skeleton]
  unfold cc0__expand_logits_body_skel owns
  iintro ⟨⟨%f0, %hf0, H0⟩, ⟨%f1, %hf1, H1⟩, ⟨%f2, %hf2, H2⟩, ⟨%f3, %hf3, H3⟩, ⟨%f4, %hf4, H4⟩, ⟨%x5, %f5, %hf5, H5⟩, ⟨%x6, %f6, %hf6, H6⟩, ⟨%x7, %f7, %hf7, H7⟩, Hk⟩
  obtain rfl := harg1.eq_unread hf0; obtain rfl := harg2.eq_unread hf1; obtain rfl := harg3.eq_unread hf2
  obtain rfl := harg4.eq_unread hf3; obtain rfl := harg5.eq_unread hf4
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (View.read_writes_full _ _ _ _ _).trans ?_
    sl_unfold_run_names
    rw [load_state, load_weights]
  isplitl [H6]
  · iexists _; isplitr
    swap; · iexact H6
    ipureintro
    refine (View.read_writes_full _ _ _ _ _).trans ?_
    sl_unfold_run_names
    rw [load_state]
  iexists _; isplitr
  swap; · iexact H7
  ipureintro
  refine (View.read_writes_full _ _ _ _ _).trans ?_
  sl_unfold_run_names
  rw [load_state, load_row, load_row]

set_option maxHeartbeats 1000000 in
/-- The other points: only the logits are stored. -/
theorem run_next (hc : ¬k0_cond1 i = 1#1) (E : Set ℕ) (K : PUnit → sProp 𝕄) :
    iprop(owns (c : Thread nD τ) arg1 fullShare x0 ∗ owns (c : Thread nD τ) arg3 fullShare x2 ∗ (∃ x, owns (c : Thread nD τ) arg6 fullShare x)
        ∗ (iprop(owns (c : Thread nD τ) arg1 fullShare x0 ∗ owns (c : Thread nD τ) arg3 fullShare x2
            ∗ owns (c : Thread nD τ) arg6 fullShare (k0_pay2 x0 x2)) -∗ K ⟨⟩))
      ⊢ wp frame (wpE (defs₀ (F := F)) Variants.none c none) E
          (cc0__expand_logits_body i arg1 harg1 arg2 harg2 arg3 harg3 arg4 harg4 arg5 harg5 arg6 harg6 arg7 harg7 arg8 harg8) K := by
  simp only [cc0__expand_logits_body_eq_skeleton]
  unfold cc0__expand_logits_body_skel owns
  iintro ⟨⟨%f0, %hf0, H0⟩, ⟨%f2, %hf2, H2⟩, ⟨%x5, %f5, %hf5, H5⟩, Hk⟩
  obtain rfl := harg1.eq_unread hf0; obtain rfl := harg3.eq_unread hf2
  sl_exec (disch := sl_exact hc)
  sl_step
  iapply Hk
  isplitl [H0]
  · iexists _; isplitr; · ipureintro; exact harg1.read_unread _
    iexact H0
  isplitl [H2]
  · iexists _; isplitr; · ipureintro; exact harg3.read_unread _
    iexact H2
  iexists _; isplitr
  swap; · iexact H5
  ipureintro
  refine (View.read_writes_full _ _ _ _ _).trans ?_
  sl_unfold_run_names
  rw [load_state, load_weights]

end

variable (m : (ℓ : Loc nD τ sig) → Buf (Elt F) ℓ) (ρ : Dev nD → PrngReg)

/-- The buffers when the call is entered: the two rows have been reshaped. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every buffer but the two reshaped rows is as launched. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's branch is taken at the first point only. -/
theorem taken : ∀ t : Fin cfg0.N, k0_cond1 (grid0.coords t) = 1#1 ↔ t.val = 0 :=
  (by decide +kernel : ∀ t : Fin grid0.N, k0_cond1 (grid0.coords t) = 1#1 ↔ t.val = 0)

theorem idle6 : ∀ t : Fin cfg0.N, cfg0.idle 6 (grid0.coords t) = decide (t.val ≠ 0) :=
  (by decide +kernel : ∀ t : Fin grid0.N, idle0 6 (grid0.coords t) = decide (t.val ≠ 0))
theorem idle7 : ∀ t : Fin cfg0.N, cfg0.idle 7 (grid0.coords t) = decide (t.val ≠ 0) :=
  (by decide +kernel : ∀ t : Fin grid0.N, idle0 7 (grid0.coords t) = decide (t.val ≠ 0))

/-- Before which points the two outputs that are stored once hold nothing yet. -/
def unwritten : ℕ → Bool
  | 0 => true
  | n + 1 => n == 3

theorem unwritten6 : ∀ t : Fin cfg0.N, unwritten (t.val + 1) = ((cfg0.win 6).flush t || (cfg0.idle 6 (cfg0.grid.coords t) && unwritten t.val)) := by
  decide +kernel
theorem unwritten7 : ∀ t : Fin cfg0.N, unwritten (t.val + 1) = ((cfg0.win 7).flush t || (cfg0.idle 7 (cfg0.grid.coords t) && unwritten t.val)) := by
  decide +kernel
theorem written : ∀ t : Fin cfg0.N, t.val ≠ 0 → unwritten t.val = false :=
  (by decide +kernel : ∀ t : Fin grid0.N, t.val ≠ 0 → unwritten t.val = false)

/-- What the outputs hold after the body at each point: the block of logits of that point, and the two small outputs as
    the first point stored them. -/
def logits (c : Dev nD) (t : Fin cfg0.N) : Vec F S512x1024 .f32 := k0_pay2 (iblk m c 0 t) (iblk m c 2 t)
def state (c : Dev nD) : Vec F S512x768 .f32 := k0_pay1 (iblk m c 0 t0_0)
def value (c : Dev nD) : Vec F S512x768 .f32 := k0_pay3 (iblk m c 1 t0_0) (iblk m c 3 t0_0) (iblk m c 4 t0_0)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => logits m c t
    | ⟨6, _⟩ => state m c
    | ⟨7, _⟩ => value m c
  Φ _ := Pipeline.ΦA spec0 c
  q _ := fullShare
  owed _ := 0

theorem A_eq (c : Dev nD) (w : Fin cfg0.W) : (dats m 0 c).A w = V m c (Pipeline.arrRef spec0 w) := by
  dsimp only [dats]

theorem before6 (c : Dev nD) (t : Fin cfg0.N) (h : t.val ≠ 0) (d) : (dats m 0 c).before 6 t d = state m c := by
  rw [Dat.before_out_traj _ 6 rfl (fun _ _ => rfl) (fun _ _ _ _ => by dsimp only [dats]) t.val t rfl d,
    if_neg (by
      rw [Pipeline.Cfg.fresh_tab cfg0 6 unwritten rfl unwritten6 t.val (Nat.le_of_lt t.isLt), written t h]
      exact Bool.false_ne_true)]
  dsimp only [dats]

theorem before7 (c : Dev nD) (t : Fin cfg0.N) (h : t.val ≠ 0) (d) : (dats m 0 c).before 7 t d = value m c := by
  rw [Dat.before_out_traj _ 7 rfl (fun _ _ => rfl) (fun _ _ _ _ => by dsimp only [dats]) t.val t rfl d,
    if_neg (by
      rw [Pipeline.Cfg.fresh_tab cfg0 7 unwritten rfl unwritten7 t.val (Nat.le_of_lt t.isLt), written t h]
      exact Bool.false_ne_true)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- An input's buffer holds its block at every point. -/
theorem held (c : Dev nD) (w : Fin cfg0.W) (hw : (cfg0.win w).isOut = false) (hi : ∀ i, cfg0.idle w i = false)
    (hc : ∀ t t' : Fin cfg0.N, (cfg0.win w).index t = (cfg0.win w).index t' →
      (cfg0.win w).clip (cfg0.grid.coords t) = (cfg0.win w).clip (cfg0.grid.coords t'))
    (ha : ∀ t : Fin cfg0.N, (cfg0.win w).cut (cfg0.grid.coords t) ((dats m 0 c).after w t) = (dats m 0 c).blockOf w t) (t : Fin cfg0.N) (d) :
    (dats m 0 c).before w t d = (dats m 0 c).fetched w t d :=
  (dats m 0 c).before_in_eq_fetched w hw hi hc ha t d

theorem before0 (c : Dev nD) (t : Fin cfg0.N) (d) : (dats m 0 c).before 0 t d = iblk m c 0 t :=
  held m c 0 rfl (fun _ => rfl) (fun _ _ _ => rfl) (fun _ => rfl) t d
theorem before1 (c : Dev nD) (t : Fin cfg0.N) (d) : (dats m 0 c).before 1 t d = iblk m c 1 t :=
  held m c 1 rfl (fun _ => rfl) (fun _ _ _ => rfl) (fun _ => rfl) t d
theorem before2 (c : Dev nD) (t : Fin cfg0.N) (d) : (dats m 0 c).before 2 t d = iblk m c 2 t :=
  held m c 2 rfl (fun _ => rfl) (fun _ _ _ => rfl) (fun _ => rfl) t d
theorem before3 (c : Dev nD) (t : Fin cfg0.N) (d) : (dats m 0 c).before 3 t d = iblk m c 3 t :=
  held m c 3 rfl (fun _ => rfl) (fun _ _ _ => rfl) (fun _ => rfl) t d
theorem before4 (c : Dev nD) (t : Fin cfg0.N) (d) : (dats m 0 c).before 4 t d = iblk m c 4 t :=
  held m c 4 rfl (fun _ => rfl) (fun _ _ _ => rfl) (fun _ => rfl) t d

/-- A window that is live at a point leaves what its data say. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- One that is idle leaves what it found, which at a point that writes back must be what its data say. -/
theorem leaves_found (c : Dev nD) (w : Fin cfg0.W) (t : Fin cfg0.N) (h : cfg0.idle w (cfg0.grid.coords t) = true)
    (hb : ∀ d, (dats m 0 c).before w t d = (dats m 0 c).after w t) (d) :
    owns (c : Thread nD τ) ((cfg0.win w).stage (cfg0.slots t w)) fullShare ((dats m 0 c).before w t d) ⊢ ((dats m 0 c).leavesExact w t : sProp 𝕄) := by
  unfold Dat.leavesExact
  rw [h]
  cases (cfg0.win w).flush t
  · iintro H; iexists d; iexact H
  · rw [hb d]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl,
    leaves_live m c 5 t rfl]
  by_cases h : t.val = 0
  · obtain rfl : t = t0_0 := Fin.ext h
    rw [leaves_live m c 6 t0_0 (by rw [idle6]; rfl), leaves_live m c 7 t0_0 (by rw [idle7]; rfl)]
    dsimp only [dats]
    unfold logits state value
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t0_0) _ _ _ _ _ _ _ _ _ _ _ _ _ _ _ _ (iblk m c 0 t0_0) (iblk m c 1 t0_0) (iblk m c 2 t0_0) (iblk m c 3 t0_0) (iblk m c 4 t0_0) ((taken t0_0).mpr rfl) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h6 := leaves_found m c 6 t (by rw [idle6]; exact decide_eq_true h) (before6 m c t h)
    have h7 := leaves_found m c 7 t (by rw [idle7]; exact decide_eq_true h) (before7 m c t h)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_next c (grid0.coords t) _ _ _ _ _ _ _ _ _ _ _ _ _ _ _ _ (iblk m c 0 t) (iblk m c 2 t) (fun e => h ((taken t).mp e)) Set.univ _)
    isplitl [H0]; · iexact H0
    isplitl [H2]; · iexact H2
    isplitl [H5]; · iexists _; iexact H5
    iintro ⟨H0, H2, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (h6 d6); iexact H6
    iapply (h7 d7); iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end at what the data say, every other buffer as it was, every counter at zero. -/
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are unchanged. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have keep : ∀ b, b ≠ main_v0 → b ≠ main_v1 → V m c b = m ((c : Thread nD τ).loc b) := V_of_ne m c
  ⟨((h c).1 0).trans (((dats m 0 c).arrAt_in 0 rfl _).trans ((A_eq m c 0).trans (keep main_arg0 (by decide) (by decide)))),
    ((h c).1 1).trans (((dats m 0 c).arrAt_in 1 rfl _).trans ((A_eq m c 1).trans (keep main_arg1 (by decide) (by decide)))),
    ((h c).1 2).trans (((dats m 0 c).arrAt_in 2 rfl _).trans ((A_eq m c 2).trans (keep main_arg2 (by decide) (by decide)))),
    ((h c).2 main_arg3 (Pipeline.mem_restRefs_of main_arg3 (by decide) (by decide))).trans (keep main_arg3 (by decide) (by decide)),
    ((h c).2 main_arg4 (Pipeline.mem_restRefs_of main_arg4 (by decide) (by decide))).trans (keep main_arg4 (by decide) (by decide))⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (launched m ρ)

/-- The outputs' arrays after the call. -/
theorem results : θ_run defs (onTc (τ := τ) (main (F := F))) ⟨m, fun _ => 0, ρ⟩ (fun r => ∀ c : Dev nD,
      r.2.mem ((c.tc : Thread nD τ).loc main_v2_0) = (dats m 0 c).arrAt 5 cfg0.N
      ∧ r.2.mem ((c.tc : Thread nD τ).loc main_v2_1) = (dats m 0 c).arrAt 6 cfg0.N
      ∧ r.2.mem ((c.tc : Thread nD τ).loc main_v2_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5, (h.1 c).1 6, (h.1 c).1 7, kept m r h.1 c⟩) (launched m ρ)

end Cert.LogitsRun

end
-- ==== Proof.LogitsArrays.lean ====
/- The logits call's result arrays after the run. -/
module

public import proofs.«01_k».proof.Proof.LogitsRun
public import proofs.«01_k».proof.Proof.RowReads
public import Idealize.ShloMosaic.Lib.Pipeline.ValueKit
public import proofs.«01_k».proof.Proof.Gen.LogitsReferenceIdeal.Read
public import Idealize.ShloMosaic.Lib.Claim

@[expose] public section

noncomputable section

namespace Cert.LogitsArrays

open Idealize.ShloMosaic Idealize.ShloMosaic.TcCoe Idealize.ShloMosaic.Tactic Cert.LogitsIdeal Cert.LogitsIdeal.Gen Cert.LogitsRun Cert.LogitsReferenceIdeal.Read Cert.RowOps

section
variable {F : FTy → Type} [FloatOps F] (x : FVec F S512x768 .f32) (g b : FVec F S1x768 .f32)

/-- The small second output is the normalisation of the rows. -/
theorem value_eq : k0_pay3 x g b = lnorm 0x44400000#32 x g b := by
  sl_kernel_rfl

end

section
variable (x0 x1 : FVec Ideal S512x768 .f32) (x2 : FVec Ideal S768x4096 .f32) (w : FVec Ideal S768x1024 .f32) (x3 x4 : FVec Ideal S768 .f32)
  (g b : FVec Ideal S1x768 .f32)

theorem dot_columns (a : FVec Ideal S512x768 .bf16) (b : FVec Ideal S768x1024 .bf16) (r : Fin 512) (j : Fin 1024) :
    matmul dot_S512x768_S768x1024_S512x1024_1_0_0_1_n_n none a b (constant S512x1024 .f32 0x00000000#32) (ix2 r j)
      = ∑ l : Fin 768, a (ix2 r l) * b (ix2 l j) := by
  pointwise

/-- A block of logits: the products of the states' rows with the block's columns. -/
theorem logits_apply (r : Fin 512) (j : Fin 1024) :
    (k0_pay2 (F := Ideal) x0 w (ix2 r j) : EReal) = ∑ l : Fin 768, Ideal.tanh (x0 (ix2 r l)) * w (ix2 l j) := by
  unfold k0_pay2
  exact dot_columns _ _ r j

theorem logits_ref (r : Fin 512) (j : Fin 4096) :
    (val_main_v25 (F := Ideal) x0 x2 (ix2 r j) : EReal) = ∑ l : Fin 768, Ideal.tanh (x0 (ix2 r l)) * x2 (ix2 l j) := by
  pointwise [val_main_v25, val_main_v0]

theorem value_ref (r : Fin 512) (k : Fin 768) :
    (val_main_v24 (F := Ideal) x1 x3 x4 (ix2 r k) : EReal) =
      ln (Ideal.ofBits .f32 0x44400000#32) (row x1 r) (fun k => x3 (ix1 k)) (fun k => x4 (ix1 k)) k := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_cst, val_main_cst_0, val_main_cst_1, val_main_cst_2, val_main_cst_3]
  rfl

theorem value_apply (hg : ∀ l, g (ix2 0 l) = x3 (ix1 l)) (hb : ∀ l, b (ix2 0 l) = x4 (ix1 l)) :
    k0_pay3 (F := Ideal) x1 g b = val_main_v24 (F := Ideal) x1 x3 x4 := by
  funext y
  obtain ⟨r, k, rfl⟩ : ∃ (r : Fin 512) (k : Fin 768), y = ix2 r k := ⟨y 0, y 1, eq_ix2 y⟩
  rw [value_ref, value_eq, lnorm_apply, show row g 0 = fun l => x3 (ix1 l) from funext hg,
    show row b 0 = fun l => x4 (ix1 l) from funext hb]

end

variable (m : (ℓ : Loc nD τ sig) → Buf (Elt Ideal) ℓ)

theorem zero0 : ∀ (t : Fin cfg0.N) a, win0_0.index t a = 0 := (by decide +kernel : ∀ (t : Fin grid0.N) a, _)
theorem zero1 : ∀ (t : Fin cfg0.N) a, win0_1.index t a = 0 := (by decide +kernel : ∀ (t : Fin grid0.N) a, _)
theorem zero3 : ∀ (t : Fin cfg0.N) a, win0_3.index t a = 0 := (by decide +kernel : ∀ (t : Fin grid0.N) a, _)
theorem zero4 : ∀ (t : Fin cfg0.N) a, win0_4.index t a = 0 := (by decide +kernel : ∀ (t : Fin grid0.N) a, _)
theorem zero6 : ∀ (t : Fin cfg0.N) a, win0_6.index t a = 0 := (by decide +kernel : ∀ (t : Fin grid0.N) a, _)
theorem zero7 : ∀ (t : Fin cfg0.N) a, win0_7.index t a = 0 := (by decide +kernel : ∀ (t : Fin grid0.N) a, _)
theorem step2 : ∀ t : Fin cfg0.N, win0_2.index t (0 : Fin 2) = 0 ∧ win0_2.index t (1 : Fin 2) = t.val := (by decide +kernel : ∀ t : Fin grid0.N, _)
theorem step5 : ∀ t : Fin cfg0.N, win0_5.index t (0 : Fin 2) = 0 ∧ win0_5.index t (1 : Fin 2) = t.val := (by decide +kernel : ∀ t : Fin grid0.N, _)

/-- The column that place `j` of block `t` is. -/
def col (t : Fin 4) (j : Fin 1024) : Fin 4096 := ⟨1024 * t.val + j.val, by omega⟩

/-- The arguments. -/
abbrev A0 (c : Dev nD) : FVec Ideal S512x768 .f32 := m ((c : Thread nD τ).loc main_arg0)
abbrev A1 (c : Dev nD) : FVec Ideal S512x768 .f32 := m ((c : Thread nD τ).loc main_arg1)
abbrev A2 (c : Dev nD) : FVec Ideal S768x4096 .f32 := m ((c : Thread nD τ).loc main_arg2)
abbrev A3 (c : Dev nD) : FVec Ideal S768 .f32 := m ((c : Thread nD τ).loc main_arg3)
abbrev A4 (c : Dev nD) : FVec Ideal S768 .f32 := m ((c : Thread nD τ).loc main_arg4)

theorem iblk0 (c : Dev nD) (t : Fin cfg0.N) : iblk m c 0 t = A0 m c := by
  funext y
  show V m c main_arg0 (((cfg0.win 0).blk t).view.emb y) = _
  rw [V_of_ne m c main_arg0 (by decide) (by decide)]
  refine congrArg (A0 m c) (funext fun a => Fin.ext ?_)
  blk_simp
  have e : win0_0.index t a = 0 := zero0 t a
  rw [e, zero_mul, zero_add]

theorem iblk1 (c : Dev nD) (t : Fin cfg0.N) : iblk m c 1 t = A1 m c := by
  funext y
  show V m c main_arg1 (((cfg0.win 1).blk t).view.emb y) = _
  rw [V_of_ne m c main_arg1 (by decide) (by decide)]
  refine congrArg (A1 m c) (funext fun a => Fin.ext ?_)
  blk_simp
  have e : win0_1.index t a = 0 := zero1 t a
  rw [e, zero_mul, zero_add]

theorem iblk2 (c : Dev nD) (t : Fin 4) (l : Fin 768) (j : Fin 1024) : iblk m c 2 t (ix2 l j) = A2 m c (ix2 l (col t j)) := by
  show V m c main_arg2 (((cfg0.win 2).blk t).view.emb (ix2 l j)) = _
  rw [V_of_ne m c main_arg2 (by decide) (by decide)]
  refine congrArg (A2 m c) (funext fun a => Fin.ext ?_)
  obtain ⟨e0, e1⟩ := step2 t
  match a with
  | ⟨0, _⟩ =>
    show win0_2.index t (0 : Fin 2) * 768 + 1 * l.val = l.val
    rw [e0]
    omega
  | ⟨1, _⟩ =>
    show win0_2.index t (1 : Fin 2) * 1024 + 1 * j.val = 1024 * t.val + j.val
    rw [e1]
    omega

theorem iblk3 (c : Dev nD) (t : Fin cfg0.N) (l : Fin 768) : iblk m c 3 t (ix2 0 l) = A3 m c (ix1 l) := by
  have e : ((cfg0.win 3).blk t).view.emb (ix2 0 l) = (ix2 0 l : S1x768.Idx) := by
    refine funext fun a => Fin.ext ?_
    blk_simp
    have e : win0_3.index t a = 0 := zero3 t a
    rw [e, zero_mul, zero_add]
  show V m c main_v0 (((cfg0.win 3).blk t).view.emb (ix2 0 l)) = _
  rw [e]
  entry_read
  pointwise

theorem iblk4 (c : Dev nD) (t : Fin cfg0.N) (l : Fin 768) : iblk m c 4 t (ix2 0 l) = A4 m c (ix1 l) := by
  have e : ((cfg0.win 4).blk t).view.emb (ix2 0 l) = (ix2 0 l : S1x768.Idx) := by
    refine funext fun a => Fin.ext ?_
    blk_simp
    have e : win0_4.index t a = 0 := zero4 t a
    rw [e, zero_mul, zero_add]
  show V m c main_v1 (((cfg0.win 4).blk t).view.emb (ix2 0 l)) = _
  rw [e]
  entry_read
  pointwise

theorem emb5 (t : Fin 4) (r : Fin 512) (j : Fin 1024) : ((cfg0.win 5).blk t).view.emb (ix2 r j) = (ix2 r (col t j) : S512x4096.Idx) := by
  refine funext fun a => Fin.ext ?_
  obtain ⟨e0, e1⟩ := step5 t
  match a with
  | ⟨0, _⟩ =>
    show win0_5.index t (0 : Fin 2) * 512 + 1 * r.val = r.val
    rw [e0]
    omega
  | ⟨1, _⟩ =>
    show win0_5.index t (1 : Fin 2) * 1024 + 1 * j.val = 1024 * t.val + j.val
    rw [e1]
    omega

theorem emb6 (t : Fin cfg0.N) (y : S512x768.Idx) : ((cfg0.win 6).blk t).view.emb y = y := by
  refine funext fun a => Fin.ext ?_
  blk_simp
  have e : win0_6.index t a = 0 := zero6 t a
  rw [e, zero_mul, zero_add]

theorem emb7 (t : Fin cfg0.N) (y : S512x768.Idx) : ((cfg0.win 7).blk t).view.emb y = y := by
  refine funext fun a => Fin.ext ?_
  blk_simp
  have e : win0_7.index t a = 0 := zero7 t a
  rw [e, zero_mul, zero_add]

theorem block_eq (c : Dev nD) (t : Fin 4) (r : Fin 512) (j : Fin 1024) :
    (logits m c t (ix2 r j) : EReal) = val_main_v25 (F := Ideal) (A0 m c) (A2 m c) (ix2 r (col t j)) := by
  refine (logits_apply _ _ r j).trans ((Finset.sum_congr rfl fun l _ => ?_).trans (logits_ref _ _ r (col t j)).symm)
  exact congrArg₂ (fun a b => Ideal.tanh a * b) (congrFun (iblk0 m c t) _) (iblk2 m c t l j)

theorem state_eq (c : Dev nD) : state m c = val_main_v0 (F := Ideal) (A0 m c) := by
  unfold state
  rw [iblk0]
  rfl

theorem normalised (c : Dev nD) : value m c = val_main_v24 (F := Ideal) (A1 m c) (A3 m c) (A4 m c) := by
  unfold value
  rw [iblk1]
  exact value_apply _ _ _ _ _ (iblk3 m c t0_0) (iblk4 m c t0_0)

theorem final5 (c : Dev nD) : (dats m 0 c).arrAt 5 cfg0.N = val_main_v25 (F := Ideal) (A0 m c) (A2 m c) := by
  refine (dats m 0 c).arrAt_eq_of_covers 5 _ (by decide +kernel) fun t _ y => ?_
  obtain ⟨r, j, rfl⟩ : ∃ (r : Fin 512) (j : Fin 1024), y = ix2 r j := ⟨y 0, y 1, eq_ix2 y⟩
  exact (block_eq m c t r j).trans (congrArg (val_main_v25 (F := Ideal) (A0 m c) (A2 m c)) (emb5 t r j).symm)

theorem final6 (c : Dev nD) : (dats m 0 c).arrAt 6 cfg0.N = val_main_v0 (F := Ideal) (A0 m c) := by
  refine (dats m 0 c).arrAt_eq_of_covers 6 _ (by decide +kernel) fun t _ y => ?_
  rw [emb6]
  exact congrFun (state_eq m c) y

theorem final7 (c : Dev nD) : (dats m 0 c).arrAt 7 cfg0.N = val_main_v24 (F := Ideal) (A1 m c) (A3 m c) (A4 m c) := by
  refine (dats m 0 c).arrAt_eq_of_covers 7 _ (by decide +kernel) fun t _ y => ?_
  rw [emb7]
  exact congrFun (normalised m c) y

end Cert.LogitsArrays

end
-- ==== Proof.LogitsClaims.lean ====
/- The claims about the logits call.

   The machine program and the idealized one are the same program: nothing of it is rewritten. So the frame that
   `LogitsRun` proves of the idealized one is the machine program's too, once the two body tables are seen to be equal. -/
module

public import proofs.«01_k».proof.Defs
public import proofs.«01_k».proof.Proof.Gen.Logits
public import proofs.«01_k».proof.Proof.Gen.LogitsReferenceIdeal.Run
public import proofs.«01_k».proof.Proof.LogitsArrays
public import Idealize.ShloMosaic.Adequacy
public import Idealize.ShloMosaic.Init

@[expose] public section

noncomputable section

namespace Cert.LogitsClaims

open Idealize.ShloMosaic Idealize.ShloMosaic.TcCoe Idealize.SL.Sem

section
variable {F : FTy → Type} [FloatOps F]

theorem bodies_eq : Cert.Logits.defs₀ (F := F) = Cert.LogitsIdeal.defs₀ (F := F) := by
  unfold Cert.Logits.defs₀ Cert.LogitsIdeal.defs₀
  refine congrArg Defs.onTc (funext fun ℓ => funext fun args => ?_)
  match ℓ with
  | ⟨0, _⟩ =>
    obtain ⟨t, s⟩ := args
    rfl

theorem defs_eq : Cert.Logits.defs (F := F) = Cert.LogitsIdeal.defs (F := F) := by
  unfold Cert.Logits.defs Cert.LogitsIdeal.defs
  exact congrArg _ bodies_eq

end

/-- The machine program's frame. -/
theorem frame_machine : Cert.quiescent_Logits := fun m ρ _ => by
  rw [defs_eq]
  exact Cert.LogitsRun.frame m ρ

/-- The idealized program's frame. -/
theorem frame_ideal : Cert.quiescent_LogitsIdeal := fun m ρ _ => Cert.LogitsRun.frame m ρ

/-- The reference's frame: its run, and it declares no semaphore. -/
theorem frame_reference : Cert.quiescent_LogitsReferenceIdeal := fun m ρ _ =>
  (θ_run Cert.LogitsReferenceIdeal.defs _ _).mono (fun r h => ⟨fun c => (h c).2.2.2, sem_eq_zero_of_no_sems (by decide) r.2⟩)
    (Cert.LogitsReferenceIdeal.Value.run (F := Ideal) m ρ)

/-- The call's three results are the reference's. -/
theorem algebraic : Cert.algebraic_LogitsIdeal_LogitsReferenceIdeal := by
  intro m g m' g' _ hagree
  refine ⟨fun c => (Cert.LogitsRun.dats m 0 c).arrAt 5 Cert.LogitsIdeal.cfg0.N,
    fun c => (Cert.LogitsRun.dats m 0 c).arrAt 6 Cert.LogitsIdeal.cfg0.N,
    fun c => (Cert.LogitsRun.dats m 0 c).arrAt 7 Cert.LogitsIdeal.cfg0.N,
    Cert.LogitsRun.results (F := Ideal) m g, ?_⟩
  refine (θ_run Cert.LogitsReferenceIdeal.defs _ _).mono (fun r h c => ⟨?_, ?_, ?_, (h c).2.2.2⟩) (Cert.LogitsReferenceIdeal.Value.run (F := Ideal) m' g')
  · obtain ⟨e0, _, e2, _⟩ := hagree c
    refine (h c).1.trans ?_
    show _ = (Cert.LogitsRun.dats m 0 c).arrAt 5 Cert.LogitsIdeal.cfg0.N
    rw [Cert.LogitsArrays.final5 m c]
    unfold Cert.LogitsArrays.A0 Cert.LogitsArrays.A2
    rw [← e0, ← e2]
    exact Cert.LogitsReferenceIdeal.Read.val_main_v25_eq _ _
  · obtain ⟨e0, _⟩ := hagree c
    refine (h c).2.1.trans ?_
    show _ = (Cert.LogitsRun.dats m 0 c).arrAt 6 Cert.LogitsIdeal.cfg0.N
    rw [Cert.LogitsArrays.final6 m c]
    unfold Cert.LogitsArrays.A0
    rw [← e0]
    exact Cert.LogitsReferenceIdeal.Read.val_main_v0_eq _
  · obtain ⟨_, e1, _, e3, e4⟩ := hagree c
    refine (h c).2.2.1.trans ?_
    show _ = (Cert.LogitsRun.dats m 0 c).arrAt 7 Cert.LogitsIdeal.cfg0.N
    rw [Cert.LogitsArrays.final7 m c]
    unfold Cert.LogitsArrays.A1 Cert.LogitsArrays.A3 Cert.LogitsArrays.A4
    rw [← e1, ← e3, ← e4]
    exact Cert.LogitsReferenceIdeal.Read.val_main_v24_eq _ _ _

end Cert.LogitsClaims

end
-- ==== Proof.Route.lean ====
/- Routing: each row is shared out over the columns that reach its fourth largest logit, and the shared rows are added up.

   The kernel divides `exp (s - m)` by its sum over the row; the reference takes the softmax of the row with every other
   logit replaced by minus infinity. The shares are the same extended reals. -/
module

public import proofs.«01_k».proof.Proof.Attend
public import proofs.«01_k».proof.Proof.HostReads

@[expose] public section

noncomputable section

namespace Cert.Route

open Idealize.ShloMosaic Cert.TopFour Cert.RowOps Cert.Attend

section
variable {F : FTy → Type} [FloatOps F] {R n K : ℕ}

/-- The shares of each row, from its four largest logits `A`. -/
def route [Rows R n] [Joins R] (A : FVec F (Mat R 4) .f32) (L : FVec F (Mat R n) .f32) : FVec F (Mat R n) .f32 :=
  divf (weights (fourth A) (first A) L) (spread n (rsum (weights (fourth A) (first A) L)))

/-- The product of two matrices, each rounded first. -/
def mm {s t u : Shape} (D : DotDims s t u) (a : FVec F s .f32) (b : FVec F t .f32) : FVec F u .f32 :=
  matmul D none (truncf .bf16 a (by decide)) (truncf .bf16 b (by decide)) (constant u .f32 0x00000000#32)

/-- The four largest entries of each row over four blocks. -/
def top4Blocks {B : ℕ} [Rows R B] [Rows R 8] [Joins R] (S : Fin 4 → FVec F (Mat R B) .f32) : FVec F (Mat R 4) .f32 :=
  vmerge (vmerge (vmerge (vtop4 (S 0)) (vtop4 (S 1))) (vtop4 (S 2))) (vtop4 (S 3))

end

/-- One row's share of column `j`. -/
def share {ι : Type} [Fintype ι] (T : Fin 4 → EReal) (s : ι → EReal) (j : ι) : EReal :=
  Ideal.div (wts (T 3) (T 0) s j) (∑ l, wts (T 3) (T 0) s l)

variable {R n : ℕ}

theorem route_apply [Rows R n] [Joins R] (A : FVec Ideal (Mat R 4) .f32) (L : FVec Ideal (Mat R n) .f32) (r : Fin R) (j : Fin n) :
    route A L (ix2 r j) = share (row A r) (row L r) j := by
  show Ideal.div (weights (fourth A) (first A) L (ix2 r j)) (spread n (rsum (weights (fourth A) (first A) L)) (ix2 r j)) = _
  rw [spread_apply, rsum_apply]
  simp only [weights_apply, fourth_apply, first_apply]
  rfl

theorem isTop_top4Blocks {B : ℕ} [Rows R B] [Rows R 8] [Joins R] (h4 : 4 ≤ B) (hB : B < 2 ^ 20) (S : Fin 4 → FVec Ideal (Mat R B) .f32)
    (r : Fin R) : IsTop (fun x => ∑ c, TopFour.count (row (S c) r) x) (row (top4Blocks S) r) := by
  have h := fun c => isTop_vtop4 hB h4 (S c) r
  have := isTop_vmerge _ _ r (isTop_vmerge _ _ r (isTop_vmerge _ _ r (h 0) (h 1)) (h 2)) (h 3)
  simp only [Fin.sum_univ_four]
  exact this

/-- The softmax of the masked row is the row's shares. -/
theorem softmax_eq {ι : Type} [Fintype ι] [Nonempty ι] (T : Fin 4 → EReal) (s : ι → EReal) (hT : IsTop (TopFour.count s) T) (j : ι) :
    Ideal.div (num (masked (T 3) s) j) (∑ l, num (masked (T 3) s) l) = share T s j := by
  rw [num_masked T s hT]
  rfl

/-- A running sum that starts with the first term and adds each further one ends as the whole sum. -/
theorem running_sum {M : Type} [AddCommMonoid M] : ∀ (N : ℕ) (s : (n : ℕ) → n < N + 1 → M) (D : Fin (N + 1) → M),
    s 0 (Nat.succ_pos N) = D 0 → (∀ (n : ℕ) (h : n + 1 < N + 1), s (n + 1) h = s n (Nat.lt_of_succ_lt h) + D ⟨n + 1, h⟩) →
    s N (Nat.lt_succ_self N) = ∑ i, D i
  | 0, s, D, h0, _ => by simpa using h0
  | N + 1, s, D, h0, hs => by
    rw [hs N (Nat.lt_succ_self _), Fin.sum_univ_castSucc]
    refine congrArg₂ (· + ·) ?_ rfl
    exact running_sum N (fun n h => s n (Nat.lt_succ_of_lt h)) (fun i => D i.castSucc) h0 fun n h => hs n (Nat.lt_succ_of_lt h)

end Cert.Route

end
-- ==== Proof.ScatterBody.lean ====
/- What one grid step of the compressed-to-expanded routing writes, as the named row operations on the blocks that it loads,
   and its value at an index over the extended reals. -/
module

public import proofs.«01_k».proof.Proof.Gen.ScatterIdeal.Value
public import Idealize.ShloMosaic.Lib.Pipeline.ValueKit
public import proofs.«01_k».proof.Proof.Route

@[expose] public section

noncomputable section

namespace Cert.ScatterBody

open Idealize.ShloMosaic Idealize.ShloMosaic.TcCoe Idealize.ShloMosaic.Tactic Cert.ScatterIdeal Cert.ScatterIdeal.Gen Cert.RowOps Cert.Route

instance : Rows 512 1024 := ⟨by decide, by decide, by decide⟩
instance : Rows 512 8 := ⟨by decide, by decide, by decide⟩

/-- The columns of block `b`. -/
def cut (b : Fin 4) : Rect S512x4096 :=
  Rect.unit (s := S512x4096) ![0, 1024 * b.val] ![512, 1024] (fun a => match a with
    | ⟨0, _⟩ => by show 0 + 512 ≤ 512; omega
    | ⟨1, _⟩ => by show 1024 * b.val + 1024 ≤ 4096; omega)

/-- Column `j` of block `b`. -/
def col (b : Fin 4) (j : Fin 1024) : Fin 4096 := ⟨1024 * b.val + j.val, by omega⟩

theorem emb_cut (b : Fin 4) (r : Fin 512) (j : Fin 1024) : (cut b).emb (ix2 r j) = ix2 r (col b j) := by
  refine funext fun a => Fin.ext ?_
  match a with
  | ⟨0, _⟩ => show 0 + 1 * r.val = r.val; omega
  | ⟨1, _⟩ => show 1024 * b.val + 1 * j.val = 1024 * b.val + j.val; omega

section
variable {F : FTy → Type} [FloatOps F]

/-- Block `b` of the columns. -/
def get (x : FVec F S512x4096 .f32) (b : Fin 4) : FVec F S512x1024 .f32 := fun y => x (ix2 (y 0) (col b (y 1)))

/-- Four columns added one after the other to zero. -/
def total (f : Fin 4 → FVec F S512x1 .f32) : FVec F S512x1 .f32 :=
  addf (addf (addf (addf (broadcast S512x1 (Scalar.ofBits .f32 0x00000000#32)) (f 0)) (f 1)) (f 2)) (f 3)

/-- The shares of a block `y` of columns, in rows that consist of the blocks `L`. -/
def shares (L : Fin 4 → FVec F S512x1024 .f32) (y : FVec F S512x1024 .f32) : FVec F S512x1024 .f32 :=
  divf (weights (fourth (top4Blocks L)) (first (top4Blocks L)) y)
    (spread 1024 (total fun b => rsum (weights (fourth (top4Blocks L)) (first (top4Blocks L)) (L b))))

/-- What the columns `y` receive of the rows of `x`, with the factor 0.2. -/
def part (L : Fin 4 → FVec F S512x1024 .f32) (y : FVec F S512x1024 .f32) (x : FVec F S512x768 .f32) : FVec F S1024x768 .f32 :=
  mulf (broadcast S1024x768 (Scalar.ofBits .f32 0x3E4CCCCD#32)) (mm dot_S512x1024_S512x768_S1024x768_0_0_1_1_n_n (shares L y) x)

/-- The columns that point `i` writes for. -/
def own (i : grid0.Coords) : Rect S512x4096 := Rect.unit (s := S512x4096) (k0_off1 i) S512x1024.size (k0_off1_inb i)

theorem load_rows {m : Memref sig .tc .vmem S512x768 .f32} (h : m.IsWhole) (w : FVec F S512x768 .f32) :
    View.readAt (Elt F) m.view (Rect.unit (s := S512x768) ![0, 0] S512x768.size inb_S512x768_S512x768_0_0).toLoadRect (h.unread w) = w := by
  rw [View.readAt_eq_ld, h.read_unread, View.ld_unit_zero (by decide)]

theorem load_cut {m : Memref sig .tc .vmem S512x4096 .f32} (h : m.IsWhole) (x : FVec F S512x4096 .f32) (b : Fin 4) :
    View.readAt (Elt F) m.view (cut b).toLoadRect (h.unread x) = get x b := by
  rw [View.readAt_eq_ld, h.read_unread]
  funext y
  obtain ⟨r, j, rfl⟩ : ∃ (r : Fin 512) (j : Fin 1024), y = ix2 r j := ⟨y 0, y 1, eq_ix2 y⟩
  exact congrArg x (emb_cut b r j)

theorem own_eq (i : grid0.Coords) (b : Fin 4) (h : (i 0).val = b.val) : k0_off1 i = ![0, 1024 * b.val] := by
  unfold k0_off1
  dsimp only
  rw [h]
  match b with
  | 0 => rfl
  | 1 => rfl
  | 2 => rfl
  | 3 => rfl

theorem load_own {m : Memref sig .tc .vmem S512x4096 .f32} (h : m.IsWhole) (x : FVec F S512x4096 .f32) (i : grid0.Coords) (b : Fin 4)
    (hb : (i 0).val = b.val) : View.readAt (Elt F) m.view (own i).toLoadRect (h.unread x) = get x b := by
  rw [View.readAt_eq_ld, h.read_unread]
  funext y
  obtain ⟨r, j, rfl⟩ : ∃ (r : Fin 512) (j : Fin 1024), y = ix2 r j := ⟨y 0, y 1, eq_ix2 y⟩
  refine congrArg x (funext fun a => Fin.ext ?_)
  have e := own_eq i b hb
  match a with
  | ⟨0, _⟩ =>
    show k0_off1 i (0 : Fin 2) + 1 * r.val = r.val
    rw [e]
    show 0 + 1 * r.val = r.val
    omega
  | ⟨1, _⟩ =>
    show k0_off1 i (1 : Fin 2) + 1 * j.val = 1024 * b.val + j.val
    rw [e]
    show 1024 * b.val + 1 * j.val = 1024 * b.val + j.val
    omega

variable (c : Dev nD) (i : grid0.Coords) (arg1 : Memref sig .tc .vmem S512x4096 .f32) (harg1 : arg1.IsWhole) (arg2 : Memref sig .tc .vmem S512x768 .f32) (harg2 : arg2.IsWhole) (arg3 : Memref sig .tc .vmem S512x768 .f32) (harg3 : arg3.IsWhole) (arg4 : Memref sig .tc .vmem S1024x768 .f32) (harg4 : arg4.IsWhole) (arg5 : Memref sig .tc .vmem S1024x768 .f32) (harg5 : arg5.IsWhole)
  (x0 : Vec F S512x4096 .f32) (x1 x2 : Vec F S512x768 .f32)

/-- The part as a step computes it from its loads. -/
def loaded {m : Memref sig .tc .vmem S512x4096 .f32} (h : m.IsWhole) {m' : Memref sig .tc .vmem S512x768 .f32} (h' : m'.IsWhole)
    (i : grid0.Coords) (x : FVec F S512x4096 .f32) (y : FVec F S512x768 .f32) : FVec F S1024x768 .f32 :=
  part (fun b => View.readAt (Elt F) m.view (cut b).toLoadRect (h.unread x)) (View.readAt (Elt F) m.view (own i).toLoadRect (h.unread x))
    (View.readAt (Elt F) m'.view (Rect.unit (s := S512x768) ![0, 0] S512x768.size inb_S512x768_S512x768_0_0).toLoadRect (h'.unread y))

theorem loaded_eq {m : Memref sig .tc .vmem S512x4096 .f32} (h : m.IsWhole) {m' : Memref sig .tc .vmem S512x768 .f32} (h' : m'.IsWhole)
    (b : Fin 4) (hb : (i 0).val = b.val) (x : FVec F S512x4096 .f32) (y : FVec F S512x768 .f32) :
    loaded h h' i x y = part (get x) (get x b) y := by
  unfold loaded
  rw [load_rows, load_own h x i b hb]
  simp only [load_cut]

theorem out3_eq (b : Fin 4) (hb : (i 0).val = b.val) :
    out0_A_3 c i arg1 harg1 arg2 harg2 arg3 harg3 arg4 harg4 arg5 harg5 x0 x1 x2 = part (get x0) (get x0 b) x1 := by
  rw [← loaded_eq i harg1 harg2 b hb]
  unfold out0_A_3
  rw [View.read_writes_junk_eq_canon]
  unfold kernelRun0_A
  dsimp only
  sl_unfold_run_names
  rw [View.canon_unit_zero (by decide)]
  sl_kernel_rfl

theorem out4_eq (b : Fin 4) (hb : (i 0).val = b.val) :
    out0_A_4 c i arg1 harg1 arg2 harg2 arg3 harg3 arg4 harg4 arg5 harg5 x0 x1 x2 = part (get x0) (get x0 b) x2 := by
  rw [← loaded_eq i harg1 harg3 b hb]
  unfold out0_A_4
  rw [View.read_writes_junk_eq_canon]
  unfold kernelRun0_A
  dsimp only
  sl_unfold_run_names
  rw [View.canon_unit_zero (by decide)]
  sl_kernel_rfl

end

theorem dot_columns (a : FVec Ideal S512x1024 .bf16) (b : FVec Ideal S512x768 .bf16) (j : Fin 1024) (k : Fin 768) :
    matmul dot_S512x1024_S512x768_S1024x768_0_0_1_1_n_n none a b (constant S1024x768 .f32 0x00000000#32) (ix2 j k)
      = ∑ r : Fin 512, a (ix2 r j) * b (ix2 r k) := by
  pointwise

theorem sum_cols {M : Type} [AddCommMonoid M] (f : Fin 4096 → M) : ∑ b : Fin 4, ∑ j : Fin 1024, f (col b j) = ∑ l, f l :=
  (TopFour.sum_blocks 4 1024 f (by decide)).symm

theorem isTop_blocks (x : FVec Ideal S512x4096 .f32) (r : Fin 512) : TopFour.IsTop (TopFour.count (row x r)) (row (top4Blocks (get x)) r) := by
  have h := isTop_top4Blocks (by decide) (by decide) (get x) r
  have e : (fun z => ∑ b, TopFour.count (row (get x b) r) z) = TopFour.count (row x r) := by
    funext z
    unfold TopFour.count
    simp only [Finset.card_filter]
    exact sum_cols fun l : Fin 4096 => if z ≤ row x r l then 1 else 0
  rwa [e] at h

theorem total_apply (f : Fin 4 → FVec Ideal S512x1 .f32) (y : S512x1.Idx) : total f y = ∑ b, f b y := by
  rw [Fin.sum_univ_four]
  show Ideal.ofBits .f32 0x00000000#32 + f 0 y + f 1 y + f 2 y + f 3 y = _
  rw [zero_word, zero_add]

theorem quotient_apply (a b : FVec Ideal S512x1024 .f32) (y : S512x1024.Idx) : divf a b y = Ideal.div (a y) (b y) := rfl

theorem fifth_apply (z : FVec Ideal S1024x768 .f32) (y : S1024x768.Idx) :
    mulf (broadcast S1024x768 (Scalar.ofBits .f32 0x3E4CCCCD#32)) z y = Ideal.ofBits .f32 0x3E4CCCCD#32 * z y := rfl

theorem rounded_apply {s : Shape} (z : FVec Ideal s .f32) (y : s.Idx) : truncf .bf16 z (by decide) y = z y := rfl

theorem weights_get (t m : FVec Ideal S512x1 .f32) (x : FVec Ideal S512x4096 .f32) (b : Fin 4) (r : Fin 512) (j : Fin 1024) :
    weights t m (get x b) (ix2 r j) = wts (t (ix2 r 0)) (m (ix2 r 0)) (row x r) (col b j) :=
  weights_apply t m (get x b) r j

theorem shares_apply (x : FVec Ideal S512x4096 .f32) (T : Fin 4 → EReal) (b : Fin 4) (r : Fin 512) (j : Fin 1024)
    (hT : TopFour.IsTop (TopFour.count (row x r)) T) : shares (get x) (get x b) (ix2 r j) = share T (row x r) (col b j) := by
  unfold shares
  rw [quotient_apply, spread_apply, total_apply]
  simp only [rsum_apply, weights_get, fourth_apply, first_apply, (isTop_blocks x r).unique hT]
  rw [sum_cols fun l => wts (T 3) (T 0) (row x r) l]
  rfl

theorem part_apply (x : FVec Ideal S512x4096 .f32) (y : FVec Ideal S512x768 .f32) (T : Fin 512 → Fin 4 → EReal)
    (hT : ∀ r, TopFour.IsTop (TopFour.count (row x r)) (T r)) (b : Fin 4) (j : Fin 1024) (k : Fin 768) :
    part (get x) (get x b) y (ix2 j k) =
      Ideal.ofBits .f32 0x3E4CCCCD#32 * ∑ r : Fin 512, share (T r) (row x r) (col b j) * y (ix2 r k) := by
  unfold part mm
  rw [fifth_apply, dot_columns]
  refine congrArg (Ideal.ofBits .f32 0x3E4CCCCD#32 * ·) (Finset.sum_congr rfl fun r _ => ?_)
  rw [rounded_apply, rounded_apply, shares_apply x (T r) b r j (hT r)]

end Cert.ScatterBody

end
-- ==== Proof.ScatterRef.lean ====
/- The compressed-to-expanded routing's reference, read at an index over the extended reals. -/
module

public import proofs.«01_k».proof.Proof.Gen.ScatterReferenceIdeal.Read
public import proofs.«01_k».proof.Proof.Route
public import Idealize.ShloMosaic.Lib.Pointwise

@[expose] public section

noncomputable section

namespace Cert.ScatterRef

open Idealize.ShloMosaic Idealize.ShloMosaic.TcCoe Cert.ScatterReferenceIdeal Cert.ScatterReferenceIdeal.Gen Cert.ScatterReferenceIdeal.Read Cert.RowOps Cert.TopFour Cert.Attend Cert.Route

variable (x0 : FVec Ideal S512x4096 .f32) (x1 x2 : FVec Ideal S512x768 .f32)

theorem red : (Mat 512 4096).Reduces [1] (Row1 512) := by decide

/-- The four largest logits of row `r`. -/
def top (r : Fin 512) (k : Fin 4) : EReal := val_main_values (F := Ideal) x0 (ix2 r k)

theorem isTop (r : Fin 512) : IsTop (TopFour.count (row x0 r)) (top x0 r) :=
  HostReads.topK_apply (by decide) x0 (by decide) r

theorem v5_apply (r : Fin 512) (j : Fin 4096) :
    (val_main_v5 (F := Ideal) x0 (ix2 r j) : EReal) = masked (top x0 r 3) (row x0 r) j := by
  pointwise [val_main_v5, val_main_v4, val_main_v3, val_main_v2, val_main_call0_v1, val_main_call0_v0, val_main_cst_1]
  show (if _ then _ else (Ideal.ofBits .f32 0xFF800000#32 : EReal)) = _
  rw [neg_inf]
  rfl

theorem v6_apply (r : Fin 512) :
    (val_main_v6 (F := Ideal) x0 (ix1 r) : EReal) = Finset.univ.fold max ⊥ (masked (top x0 r 3) (row x0 r)) := by
  unfold val_main_v6
  refine (HostReads.hostMax_apply _ _ _ red _ ⊥ (fun _ => neg_inf) r).trans ?_
  exact congrArg (Finset.univ.fold max ⊥) (funext fun j => v5_apply x0 r j)

theorem v8_apply (r : Fin 512) :
    (val_main_v8 (F := Ideal) x0 (ix1 r) : EReal) = max ⊥ (Finset.univ.fold max ⊥ (masked (top x0 r 3) (row x0 r))) := by
  have h : (val_main_v7 (F := Ideal) (ix1 r) : EReal) = ⊥ := by
    pointwise [val_main_v7, val_main_cst_3]
    exact neg_inf
  rw [val_main_v8_apply, Ideal.maximumf_def, h, v6_apply]

theorem v12_apply (r : Fin 512) (j : Fin 4096) :
    (val_main_v12 (F := Ideal) x0 (ix2 r j) : EReal) = num (masked (top x0 r 3) (row x0 r)) j := by
  pointwise [val_main_v12, val_main_v11, val_main_v10, val_main_v9, v8_apply, v5_apply]
  rfl

/-- The shares. -/
theorem v16_apply (r : Fin 512) (j : Fin 4096) :
    (val_main_v16 (F := Ideal) x0 (ix2 r j) : EReal) = share (top x0 r) (row x0 r) j := by
  refine Eq.trans ?_ (softmax_eq _ _ (isTop x0 r) j)
  pointwise [val_main_v16, val_main_v15, val_main_v14, val_main_v13, val_main_cst_4, v12_apply]

/-- What column `j` receives of the rows of `x`, with the factor 0.2. -/
def got (x : FVec Ideal S512x768 .f32) (j : Fin 4096) (k : Fin 768) : EReal :=
  Ideal.ofBits .f32 0x3E4CCCCD#32 * ∑ r : Fin 512, share (top x0 r) (row x0 r) j * x (ix2 r k)

theorem v21_apply (j : Fin 4096) (k : Fin 768) : (val_main_v21 (F := Ideal) x0 x1 (ix2 j k) : EReal) = got x0 x1 j k := by
  pointwise [val_main_v21, val_main_v20, val_main_v19, val_main_cst_5, val_main_v17, val_main_v0, val_main_cst, v16_apply]
  rfl

theorem v24_apply (j : Fin 4096) (k : Fin 768) : (val_main_v24 (F := Ideal) x0 x2 (ix2 j k) : EReal) = got x0 x2 j k := by
  pointwise [val_main_v24, val_main_v23, val_main_v22, val_main_cst_6, val_main_v18, val_main_v1, val_main_cst_0, v16_apply]
  rfl

end Cert.ScatterRef

end
-- ==== Proof.ScatterArrays.lean ====
/- The compressed-to-expanded routing's result arrays after the run. -/
module

public import proofs.«01_k».proof.Proof.ScatterBody
public import proofs.«01_k».proof.Proof.ScatterRef
public import Idealize.ShloMosaic.Lib.Claim

@[expose] public section

noncomputable section

namespace Cert.ScatterArrays

open Idealize.ShloMosaic Idealize.ShloMosaic.TcCoe Idealize.ShloMosaic.Tactic Cert.ScatterIdeal Cert.ScatterIdeal.Gen Cert.ScatterIdeal.Value Cert.ScatterReferenceIdeal.Read Cert.RowOps Cert.Route

variable (m : (ℓ : Loc nD τ sig) → Buf (Elt Ideal) ℓ)

theorem zero0 : ∀ (t : Fin cfg0.N) (a : Fin 2), win0_0.index t a = 0 := (by decide +kernel : ∀ (t : Fin grid0.N) (a : Fin 2), _)
theorem zero1 : ∀ (t : Fin cfg0.N) (a : Fin 2), win0_1.index t a = 0 := (by decide +kernel : ∀ (t : Fin grid0.N) (a : Fin 2), _)
theorem zero2 : ∀ (t : Fin cfg0.N) (a : Fin 2), win0_2.index t a = 0 := (by decide +kernel : ∀ (t : Fin grid0.N) (a : Fin 2), _)
theorem step3 : ∀ t : Fin cfg0.N, win0_3.index t (0 : Fin 2) = t.val ∧ win0_3.index t (1 : Fin 2) = 0 := (by decide +kernel : ∀ t : Fin grid0.N, _)
theorem step4 : ∀ t : Fin cfg0.N, win0_4.index t (0 : Fin 2) = t.val ∧ win0_4.index t (1 : Fin 2) = 0 := (by decide +kernel : ∀ t : Fin grid0.N, _)
theorem point : ∀ t : Fin cfg0.N, (grid0.coords t 0).val = t.val := (by decide +kernel : ∀ t : Fin grid0.N, _)

theorem iblk0 (c : Dev nD) (t : Fin cfg0.N) : iblk m c 0 t = m ((c : Thread nD τ).loc main_arg0) := by
  rw [← V_main_arg0 m c]
  funext y
  show V m c main_arg0 (((cfg0.win 0).blk t).view.emb y) = V m c main_arg0 y
  refine congrArg _ (funext fun a => Fin.ext ?_)
  blk_simp
  have e : win0_0.index t a = 0 := zero0 t a
  rw [e, zero_mul, zero_add]

theorem iblk1 (c : Dev nD) (t : Fin cfg0.N) : iblk m c 1 t = m ((c : Thread nD τ).loc main_arg1) := by
  rw [← V_main_arg1 m c]
  funext y
  show V m c main_arg1 (((cfg0.win 1).blk t).view.emb y) = V m c main_arg1 y
  refine congrArg _ (funext fun a => Fin.ext ?_)
  blk_simp
  have e : win0_1.index t a = 0 := zero1 t a
  rw [e, zero_mul, zero_add]

theorem iblk2 (c : Dev nD) (t : Fin cfg0.N) : iblk m c 2 t = m ((c : Thread nD τ).loc main_arg2) := by
  rw [← V_main_arg2 m c]
  funext y
  show V m c main_arg2 (((cfg0.win 2).blk t).view.emb y) = V m c main_arg2 y
  refine congrArg _ (funext fun a => Fin.ext ?_)
  blk_simp
  have e : win0_2.index t a = 0 := zero2 t a
  rw [e, zero_mul, zero_add]

/-- The arguments. -/
abbrev L (c : Dev nD) : FVec Ideal S512x4096 .f32 := m ((c : Thread nD τ).loc main_arg0)
abbrev X (c : Dev nD) : FVec Ideal S512x768 .f32 := m ((c : Thread nD τ).loc main_arg1)
abbrev Y (c : Dev nD) : FVec Ideal S512x768 .f32 := m ((c : Thread nD τ).loc main_arg2)

/-- The block that a point writes. -/
def of (t : Fin cfg0.N) : Fin 4 := ⟨t.val, t.isLt⟩

theorem emb3 (t : Fin cfg0.N) (j : Fin 1024) (k : Fin 768) :
    ((cfg0.win 3).blk t).view.emb (ix2 j k) = (ix2 (ScatterBody.col (of t) j) k : S4096x768.Idx) := by
  obtain ⟨e0, e1⟩ := step3 t
  refine funext fun a => Fin.ext ?_
  match a with
  | ⟨0, _⟩ =>
    show win0_3.index t (0 : Fin 2) * 1024 + 1 * j.val = 1024 * t.val + j.val
    rw [e0]
    omega
  | ⟨1, _⟩ =>
    show win0_3.index t (1 : Fin 2) * 768 + 1 * k.val = k.val
    rw [e1]
    omega

theorem emb4 (t : Fin cfg0.N) (j : Fin 1024) (k : Fin 768) :
    ((cfg0.win 4).blk t).view.emb (ix2 j k) = (ix2 (ScatterBody.col (of t) j) k : S4096x768.Idx) := by
  obtain ⟨e0, e1⟩ := step4 t
  refine funext fun a => Fin.ext ?_
  match a with
  | ⟨0, _⟩ =>
    show win0_4.index t (0 : Fin 2) * 1024 + 1 * j.val = 1024 * t.val + j.val
    rw [e0]
    omega
  | ⟨1, _⟩ =>
    show win0_4.index t (1 : Fin 2) * 768 + 1 * k.val = k.val
    rw [e1]
    omega

theorem written3 (c : Dev nD) (t : Fin cfg0.N) (j : Fin 1024) (k : Fin 768) :
    ((outsAt0 m c t).1 (ix2 j k) : EReal) = val_main_v21 (F := Ideal) (L m c) (X m c) (ix2 (ScatterBody.col (of t) j) k) := by
  simp only [outsAt0]
  rw [ScatterBody.out3_eq (b := of t) (hb := point t), iblk0, iblk1, ScatterRef.v21_apply]
  exact ScatterBody.part_apply (L m c) (X m c) (ScatterRef.top (L m c)) (ScatterRef.isTop (L m c)) (of t) j k

theorem written4 (c : Dev nD) (t : Fin cfg0.N) (j : Fin 1024) (k : Fin 768) :
    ((outsAt0 m c t).2 (ix2 j k) : EReal) = val_main_v24 (F := Ideal) (L m c) (Y m c) (ix2 (ScatterBody.col (of t) j) k) := by
  simp only [outsAt0]
  rw [ScatterBody.out4_eq (b := of t) (hb := point t), iblk0, iblk2, ScatterRef.v24_apply]
  exact ScatterBody.part_apply (L m c) (Y m c) (ScatterRef.top (L m c)) (ScatterRef.isTop (L m c)) (of t) j k

theorem final3 (c : Dev nD) : (dats m 0 c).arrAt 3 cfg0.N = val_main_v21 (F := Ideal) (L m c) (X m c) := by
  refine (dats m 0 c).arrAt_eq_of_covers 3 _ (by decide +kernel) fun t _ y => ?_
  obtain ⟨j, k, rfl⟩ : ∃ (j : Fin 1024) (k : Fin 768), y = ix2 j k := ⟨y 0, y 1, eq_ix2 y⟩
  rw [after0_3, emb3]
  have h := written3 m c t j k
  generalize (outsAt0 m c t).1 = w at h ⊢
  exact h

theorem final4 (c : Dev nD) : (dats m 0 c).arrAt 4 cfg0.N = val_main_v24 (F := Ideal) (L m c) (Y m c) := by
  refine (dats m 0 c).arrAt_eq_of_covers 4 _ (by decide +kernel) fun t _ y => ?_
  obtain ⟨j, k, rfl⟩ : ∃ (j : Fin 1024) (k : Fin 768), y = ix2 j k := ⟨y 0, y 1, eq_ix2 y⟩
  rw [after0_4, emb4]
  have h := written4 m c t j k
  generalize (outsAt0 m c t).2 = w at h ⊢
  exact h

end Cert.ScatterArrays

end
-- ==== Proof.ScatterClaims.lean ====
/- The claims about the compressed-to-expanded routing. -/
module

public import proofs.«01_k».proof.Defs
public import proofs.«01_k».proof.Proof.Gen.ScatterIdeal.Frame
public import proofs.«01_k».proof.Proof.Gen.ScatterReferenceIdeal.Run
public import proofs.«01_k».proof.Proof.ScatterArrays
public import Idealize.ShloMosaic.Adequacy
public import Idealize.ShloMosaic.Init

@[expose] public section

noncomputable section

namespace Cert.ScatterClaims

open Idealize.ShloMosaic Idealize.ShloMosaic.TcCoe Idealize.SL.Sem

/-- The reference's frame: its run, and it declares no semaphore. -/
theorem frame_reference : Cert.quiescent_ScatterReferenceIdeal := fun m ρ _ =>
  (θ_run Cert.ScatterReferenceIdeal.defs _ _).mono (fun r h => ⟨fun c => (h c).2.2, sem_eq_zero_of_no_sems (by decide) r.2⟩)
    (Cert.ScatterReferenceIdeal.Value.run (F := Ideal) m ρ)

/-- The call's two results are the reference's. -/
theorem algebraic : Cert.algebraic_ScatterIdeal_ScatterReferenceIdeal := by
  intro m g m' g' _ hagree
  refine ⟨fun c => (Cert.ScatterIdeal.Gen.dats m 0 c).arrAt 3 Cert.ScatterIdeal.cfg0.N,
    fun c => (Cert.ScatterIdeal.Gen.dats m 0 c).arrAt 4 Cert.ScatterIdeal.cfg0.N,
    Cert.ScatterIdeal.Value.run_blocks (F := Ideal) m g, ?_⟩
  refine (θ_run Cert.ScatterReferenceIdeal.defs _ _).mono (fun r h c => ⟨?_, ?_, (h c).2.2⟩) (Cert.ScatterReferenceIdeal.Value.run (F := Ideal) m' g')
  · refine (h c).1.trans ?_
    show _ = (Cert.ScatterIdeal.Gen.dats m 0 c).arrAt 3 Cert.ScatterIdeal.cfg0.N
    rw [Cert.ScatterArrays.final3 m c]
    unfold Cert.ScatterArrays.L Cert.ScatterArrays.X
    rw [← (hagree c).1, ← (hagree c).2.1]
    exact Cert.ScatterReferenceIdeal.Read.val_main_v21_eq _ _
  · refine (h c).2.1.trans ?_
    show _ = (Cert.ScatterIdeal.Gen.dats m 0 c).arrAt 4 Cert.ScatterIdeal.cfg0.N
    rw [Cert.ScatterArrays.final4 m c]
    unfold Cert.ScatterArrays.L Cert.ScatterArrays.Y
    rw [← (hagree c).1, ← (hagree c).2.2]
    exact Cert.ScatterReferenceIdeal.Read.val_main_v24_eq _ _

end Cert.ScatterClaims

end
-- ==== Proof.RowBlocks.lean ====
/- A matrix of 2048 rows written and loaded in four blocks of 512 rows. -/
module

public import Idealize.ShloMosaic.Lib.Pipeline.ValueKit
public import proofs.«01_k».proof.Proof.RowOps

@[expose] public section

noncomputable section

namespace Cert.RowBlocks

open Idealize.ShloMosaic Idealize.ShloMosaic.TcCoe Cert.RowOps

/-- The rows of block `b`. -/
def cut (b : Fin 4) : Rect (Mat 2048 768) :=
  Rect.unit (s := Mat 2048 768) ![512 * b.val, 0] ![512, 768] (fun a => match a with
    | ⟨0, _⟩ => by show 512 * b.val + 512 ≤ 2048; omega
    | ⟨1, _⟩ => by show 0 + 768 ≤ 768; omega)

/-- Row `r` of block `b`. -/
def at_ (b : Fin 4) (r : Fin 512) : Fin 2048 := ⟨512 * b.val + r.val, by omega⟩

theorem exists_at (R : Fin 2048) : ∃ b r, R = at_ b r :=
  ⟨⟨R.val / 512, by omega⟩, ⟨R.val % 512, by omega⟩, Fin.ext (by show R.val = 512 * (R.val / 512) + R.val % 512; omega)⟩

theorem emb_cut (b : Fin 4) (r : Fin 512) (k : Fin 768) : (cut b).emb (ix2 r k) = ix2 (at_ b r) k := by
  refine funext fun a => Fin.ext ?_
  match a with
  | ⟨0, _⟩ => show 512 * b.val + 1 * r.val = 512 * b.val + r.val; omega
  | ⟨1, _⟩ => show 0 + 1 * k.val = k.val; omega

theorem not_mem (a b : Fin 4) (h : a ≠ b) (r : Fin 512) (k : Fin 768) : (ix2 (at_ b r) k : (Mat 2048 768).Idx) ∉ (cut a).set := by
  intro hm
  obtain ⟨x, hx⟩ := (cut a).exists_idx_of_mem hm
  obtain ⟨r', k', rfl⟩ : ∃ (r' : Fin 512) (k' : Fin 768), x = ix2 r' k' := ⟨x 0, x 1, eq_ix2 x⟩
  have hx' : (ix2 (at_ a r') k' : (Mat 2048 768).Idx) = ix2 (at_ b r) k := (emb_cut a r' k').symm.trans hx
  have e : 512 * a.val + r'.val = 512 * b.val + r.val := congrArg (fun y : (Mat 2048 768).Idx => (y 0).val) hx'
  exact h (Fin.ext (by omega))

variable {F : FTy → Type} [FloatOps F]

/-- A store of `w` into block `b`. -/
def put (b : Fin 4) (w : FVec F (Mat 512 768) .f32) : View.Piece (Elt F) (Mat 2048 768) .f32 := ⟨cut b, w⟩

/-- Block `b` of a matrix. -/
def get (x : FVec F (Mat 2048 768) .f32) (b : Fin 4) : FVec F (Mat 512 768) .f32 := fun y => x (ix2 (at_ b (y 0)) (y 1))

theorem canon_same (b : Fin 4) (w : FVec F (Mat 512 768) .f32) (L : List (View.Piece (Elt F) (Mat 2048 768) .f32)) (r : Fin 512)
    (k : Fin 768) : View.canon (put b w :: L) (ix2 (at_ b r) k) = w (ix2 r k) := by
  rw [← emb_cut]
  exact View.canon_cons_emb (cut b) w L (ix2 r k)

theorem canon_other (a b : Fin 4) (h : a ≠ b) (w : FVec F (Mat 512 768) .f32) (L : List (View.Piece (Elt F) (Mat 2048 768) .f32))
    (r : Fin 512) (k : Fin 768) : View.canon (put a w :: L) (ix2 (at_ b r) k) = View.canon L (ix2 (at_ b r) k) :=
  View.canon_cons_of_not_mem (put a w) L (not_mem a b h r k)

/-- The matrix of four blocks. -/
def stack (P : Fin 4 → FVec F (Mat 512 768) .f32) : FVec F (Mat 2048 768) .f32 :=
  fun y => P ⟨(y 0).val / 512, by have h : (y 0).val < 2048 := (y 0).isLt; omega⟩ (ix2 ⟨(y 0).val % 512, Nat.mod_lt _ (by decide)⟩ (y 1))

theorem stack_apply (P : Fin 4 → FVec F (Mat 512 768) .f32) (b : Fin 4) (r : Fin 512) (k : Fin 768) :
    stack P (ix2 (at_ b r) k) = P b (ix2 r k) := by
  have e : ∀ (b' : Fin 4) (r' : Fin 512), b' = b → r' = r → P b' (ix2 r' k) = P b (ix2 r k) := by
    rintro b' r' rfl rfl
    rfl
  exact e _ _ (Fin.ext (by show (512 * b.val + r.val) / 512 = b.val; omega)) (Fin.ext (by show (512 * b.val + r.val) % 512 = r.val; omega))

/-- Four stores that fill the matrix leave its four blocks, whatever was stored before. -/
theorem canon_stack (P : Fin 4 → FVec F (Mat 512 768) .f32) (L : List (View.Piece (Elt F) (Mat 2048 768) .f32)) :
    View.canon (put 3 (P 3) :: put 2 (P 2) :: put 1 (P 1) :: put 0 (P 0) :: L) = stack P := by
  funext y
  obtain ⟨R, k, rfl⟩ : ∃ (R : Fin 2048) (k : Fin 768), y = ix2 R k := ⟨y 0, y 1, eq_ix2 y⟩
  obtain ⟨b, r, rfl⟩ := exists_at R
  rw [stack_apply]
  match b with
  | 3 => rw [canon_same]
  | 2 => rw [canon_other 3 2 (by decide), canon_same]
  | 1 => rw [canon_other 3 1 (by decide), canon_other 2 1 (by decide), canon_same]
  | 0 => rw [canon_other 3 0 (by decide), canon_other 2 0 (by decide), canon_other 1 0 (by decide), canon_same]

section
variable {sig : RefSig} {κ : Kind} {sp : Space} (v : View sig κ sp (Mat 2048 768) .f32)

theorem load_same (b : Fin 4) (w : FVec F (Mat 512 768) .f32) (L : List (View.Piece (Elt F) (Mat 2048 768) .f32)) :
    v.readCov (put b w :: L) (cut b).toLoadRect = w := by
  rw [View.readCov_eq_canon']
  funext x
  obtain ⟨r, k, rfl⟩ : ∃ (r : Fin 512) (k : Fin 768), x = ix2 r k := ⟨x 0, x 1, eq_ix2 x⟩
  have e : (cut b).toLoadRect.idx (ix2 r k) = ix2 (at_ b r) k := emb_cut b r k
  rw [e]
  exact canon_same b w L r k

theorem load_other (a b : Fin 4) (h : a ≠ b) (w : FVec F (Mat 512 768) .f32) (L : List (View.Piece (Elt F) (Mat 2048 768) .f32)) :
    v.readCov (put a w :: L) (cut b).toLoadRect = v.readCov L (cut b).toLoadRect := by
  rw [View.readCov_eq_canon', View.readCov_eq_canon']
  funext x
  obtain ⟨r, k, rfl⟩ : ∃ (r : Fin 512) (k : Fin 768), x = ix2 r k := ⟨x 0, x 1, eq_ix2 x⟩
  have e : (cut b).toLoadRect.idx (ix2 r k) = ix2 (at_ b r) k := emb_cut b r k
  rw [e]
  exact canon_other a b h w L r k

/-- Each block stored, loaded again, and stored once more as a function of what was loaded. -/
theorem canon_twice (P : Fin 4 → FVec F (Mat 512 768) .f32) (G : Fin 4 → FVec F (Mat 512 768) .f32 → FVec F (Mat 512 768) .f32) :
    have L4 := [put 3 (P 3), put 2 (P 2), put 1 (P 1), put 0 (P 0)]
    have L5 := put 0 (G 0 (v.readCov L4 (cut 0).toLoadRect)) :: L4
    have L6 := put 1 (G 1 (v.readCov L5 (cut 1).toLoadRect)) :: L5
    have L7 := put 2 (G 2 (v.readCov L6 (cut 2).toLoadRect)) :: L6
    View.canon (put 3 (G 3 (v.readCov L7 (cut 3).toLoadRect)) :: L7) = stack fun b => G b (P b) := by
  dsimp only
  rw [load_other v 3 0 (by decide), load_other v 2 0 (by decide), load_other v 1 0 (by decide), load_same,
    load_other v 0 1 (by decide), load_other v 3 1 (by decide), load_other v 2 1 (by decide), load_same,
    load_other v 1 2 (by decide), load_other v 0 2 (by decide), load_other v 3 2 (by decide), load_same,
    load_other v 2 3 (by decide), load_other v 1 3 (by decide), load_other v 0 3 (by decide), load_same]
  exact canon_stack (fun b => G b (P b)) _

end

theorem load_block {sig : RefSig} {κ : Kind} {sp : Space} {m : View sig κ sp (Mat 2048 768) .f32} {f : m.ty.Contents (Elt F)}
    (x : FVec F (Mat 2048 768) .f32) (hf : m.read (Elt F) f = x) (b : Fin 4) :
    View.readAt (Elt F) m (cut b).toLoadRect f = get x b := by
  rw [View.readAt_eq_ld, hf]
  funext y
  obtain ⟨r, k, rfl⟩ : ∃ (r : Fin 512) (k : Fin 768), y = ix2 r k := ⟨y 0, y 1, eq_ix2 y⟩
  exact congrArg x (emb_cut b r k)

end Cert.RowBlocks

end
-- ==== Proof.BtoSBody.lean ====
/- What one grid step of the expanded-to-sequence routing writes, as the named row operations on the blocks that it loads. -/
module

public import proofs.«01_k».proof.Proof.Gen.BtoSIdeal.Value
public import Idealize.ShloMosaic.Lib.Pipeline.ValueKit
public import proofs.«01_k».proof.Proof.Route
public import proofs.«01_k».proof.Proof.RowBlocks

@[expose] public section

noncomputable section

namespace Cert.BtoSBody

open Idealize.ShloMosaic Idealize.ShloMosaic.TcCoe Idealize.ShloMosaic.Tactic Cert.BtoSIdeal Cert.BtoSIdeal.Gen Cert.RowOps Cert.Route Cert.RowBlocks

instance : Rows 256 2048 := ⟨by decide, by decide, by decide⟩

variable {F : FTy → Type} [FloatOps F]

/-- A step's logits. -/
def logits (e : FVec F S256x768 .f32) (W : FVec F S768x2048 .f32) : FVec F S256x2048 .f32 :=
  mm dot_S256x768_S768x2048_S256x2048_1_0_0_1_n_n e W

theorem cuts (b : Fin 4) : S256x2048.Slices ![0, 512 * b.val] S256x512 := by
  revert b
  decide

/-- The columns of block `b`. -/
def block (L : FVec F S256x2048 .f32) (b : Fin 4) : FVec F S256x512 .f32 := extractStridedSlice S256x512 ![0, 512 * b.val] L (cuts b)

/-- The shares of a step's rows. -/
def shares (e : FVec F S256x768 .f32) (W : FVec F S768x2048 .f32) : FVec F S256x2048 .f32 :=
  route (top4Blocks (block (logits e W))) (logits e W)

/-- What a step adds to block `b`: its rows of `x`, each shared out by the row of `e`. -/
def part (e x : FVec F S256x768 .f32) (W : FVec F S768x2048 .f32) (b : Fin 4) : FVec F S512x768 .f32 :=
  mm dot_S256x512_S256x768_S512x768_0_0_1_1_n_n (block (shares e W) b) x

/-- A vector in its own shape. -/
def same (x : FVec F S512x768 .f32) : FVec F S512x768 .f32 := shapeCast S512x768 x shapeCasts_S512x768_S512x768

/-- The sums with a step's part added. -/
def next (p : FVec F S512x768 .f32) (d : FVec F S512x768 .f32) : FVec F S512x768 .f32 := addf (same p) d

/-- A block with its sums added to it with the factor 0.075. -/
def moved (x y : FVec F S512x768 .f32) : FVec F S512x768 .f32 :=
  addf x (mulf (broadcast S512x768 (Scalar.ofBits .f32 0x3D99999A#32)) (same y))

section
variable (c : Dev nD) (i : grid0.Coords) (arg1 : Memref sig .tc .vmem S256x768 .f32) (harg1 : arg1.IsWhole) (arg2 : Memref sig .tc .vmem S256x768 .f32) (harg2 : arg2.IsWhole) (arg3 : Memref sig .tc .vmem S768x2048 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S2048x768 .f32) (harg8 : arg8.IsWhole) (arg9 : Memref sig .tc .vmem S2048x768 .f32) (harg9 : arg9.IsWhole)
  (x0 x1 : Vec F S256x768 .f32) (x2 : Vec F S768x2048 .f32) (x3 x4 : Vec F S2048x768 .f32) (x5 x6 : Vec F S1x768 .f32) (xo7 xo8 : Vec F S2048x768 .f32)

theorem load_rows {m : Memref sig .tc .vmem S256x768 .f32} (h : m.IsWhole) (w : FVec F S256x768 .f32) :
    View.readAt (Elt F) m.view (Rect.unit (s := S256x768) ![0, 0] S256x768.size inb_S256x768_S256x768_0_0).toLoadRect (h.unread w) = w := by
  rw [View.readAt_eq_ld, h.read_unread, View.ld_unit_zero (by decide)]

theorem load_weights {m : Memref sig .tc .vmem S768x2048 .f32} (h : m.IsWhole) (w : FVec F S768x2048 .f32) :
    View.readAt (Elt F) m.view (Rect.unit (s := S768x2048) ![0, 0] S768x2048.size inb_S768x2048_S768x2048_0_0).toLoadRect (h.unread w) = w := by
  rw [View.readAt_eq_ld, h.read_unread, View.ld_unit_zero (by decide)]

theorem load_row {m : Memref sig .tc .vmem S1x768 .f32} (h : m.IsWhole) (w : FVec F S1x768 .f32) :
    View.readAt (Elt F) m.view (Rect.unit (s := S1x768) ![0, 0] S1x768.size inb_S1x768_S1x768_0_0).toLoadRect (h.unread w) = w := by
  rw [View.readAt_eq_ld, h.read_unread, View.ld_unit_zero (by decide)]

theorem first7 (hc0 hc1 hc2 hc3 hc4 hc5 hc6 hc7 hc8) :
    out0_A_7 c i arg1 harg1 arg2 harg2 arg3 harg3 arg4 harg4 arg5 harg5 arg6 harg6 arg7 harg7 arg8 harg8 arg9 harg9 hc0 hc1 hc2 hc3 hc4 hc5 hc6 hc7 hc8 x0 x1 x2 x3 x4 x5 x6 =
      stack (part x0 x0 x2) := by
  refine Eq.trans ?_ (canon_stack _ [])
  conv_rhs => rw [← load_rows harg1 x0, ← load_weights harg3 x2]
  unfold out0_A_7
  rw [View.read_writes_junk_eq_canon]
  unfold kernelRun0_A
  dsimp only
  sl_unfold_run_names
  sl_kernel_rfl

theorem first8 (hc0 hc1 hc2 hc3 hc4 hc5 hc6 hc7 hc8) :
    out0_A_8 c i arg1 harg1 arg2 harg2 arg3 harg3 arg4 harg4 arg5 harg5 arg6 harg6 arg7 harg7 arg8 harg8 arg9 harg9 hc0 hc1 hc2 hc3 hc4 hc5 hc6 hc7 hc8 x0 x1 x2 x3 x4 x5 x6 =
      stack (part x0 x1 x2) := by
  refine Eq.trans ?_ (canon_stack _ [])
  conv_rhs => rw [← load_rows harg1 x0, ← load_rows harg2 x1, ← load_weights harg3 x2]
  unfold out0_A_8
  rw [View.read_writes_junk_eq_canon]
  unfold kernelRun0_A
  dsimp only
  sl_unfold_run_names
  sl_kernel_rfl

/-- The sums after a step, as the step computes them. -/
def sums {m m' : Memref sig .tc .vmem S256x768 .f32} (h : m.IsWhole) (h' : m'.IsWhole) {w : Memref sig .tc .vmem S768x2048 .f32}
    (hw : w.IsWhole) {o : Memref sig .tc .vmem S2048x768 .f32} (ho : o.IsWhole) (e x : FVec F S256x768 .f32) (W : FVec F S768x2048 .f32)
    (p : FVec F S2048x768 .f32) (b : Fin 4) : FVec F S512x768 .f32 :=
  next (View.readAt (Elt F) o.view (cut b).toLoadRect (ho.unread p))
    (part (View.readAt (Elt F) m.view (Rect.unit (s := S256x768) ![0, 0] S256x768.size inb_S256x768_S256x768_0_0).toLoadRect (h.unread e))
      (View.readAt (Elt F) m'.view (Rect.unit (s := S256x768) ![0, 0] S256x768.size inb_S256x768_S256x768_0_0).toLoadRect (h'.unread x))
      (View.readAt (Elt F) w.view (Rect.unit (s := S768x2048) ![0, 0] S768x2048.size inb_S768x2048_S768x2048_0_0).toLoadRect (hw.unread W)) b)

theorem sums_eq {m m' : Memref sig .tc .vmem S256x768 .f32} (h : m.IsWhole) (h' : m'.IsWhole) {w : Memref sig .tc .vmem S768x2048 .f32}
    (hw : w.IsWhole) {o : Memref sig .tc .vmem S2048x768 .f32} (ho : o.IsWhole) (e x : FVec F S256x768 .f32) (W : FVec F S768x2048 .f32)
    (p : FVec F S2048x768 .f32) (b : Fin 4) : sums h h' hw ho e x W p b = next (get p b) (part e x W b) := by
  unfold sums
  rw [load_rows, load_rows, load_weights, load_block p (ho.read_unread _)]

theorem next7 (hc0 hc1 hc2 hc3 hc4 hc5 hc6 hc7 hc8) :
    out0_B_7 c i arg1 harg1 arg2 harg2 arg3 harg3 arg4 harg4 arg5 harg5 arg6 harg6 arg7 harg7 arg8 harg8 arg9 harg9 hc0 hc1 hc2 hc3 hc4 hc5 hc6 hc7 hc8 x0 x1 x2 x3 x4 x5 x6 xo7 xo8 =
      stack fun b => next (get xo7 b) (part x0 x0 x2 b) := by
  refine Eq.trans ?_ (congrArg stack (funext (sums_eq harg1 harg1 harg3 harg8 x0 x0 x2 xo7)))
  refine Eq.trans ?_ (canon_stack _ [])
  unfold out0_B_7
  rw [View.read_writes_junk_eq_canon]
  unfold kernelRun0_B
  dsimp only
  sl_unfold_run_names
  sl_kernel_rfl

theorem next8 (hc0 hc1 hc2 hc3 hc4 hc5 hc6 hc7 hc8) :
    out0_B_8 c i arg1 harg1 arg2 harg2 arg3 harg3 arg4 harg4 arg5 harg5 arg6 harg6 arg7 harg7 arg8 harg8 arg9 harg9 hc0 hc1 hc2 hc3 hc4 hc5 hc6 hc7 hc8 x0 x1 x2 x3 x4 x5 x6 xo7 xo8 =
      stack fun b => next (get xo8 b) (part x0 x1 x2 b) := by
  refine Eq.trans ?_ (congrArg stack (funext (sums_eq harg1 harg2 harg3 harg9 x0 x1 x2 xo8)))
  refine Eq.trans ?_ (canon_stack _ [])
  unfold out0_B_8
  rw [View.read_writes_junk_eq_canon]
  unfold kernelRun0_B
  dsimp only
  sl_unfold_run_names
  sl_kernel_rfl

theorem last7 (hc0 hc1 hc2 hc3 hc4 hc5 hc6 hc7 hc8) :
    out0_C_7 c i arg1 harg1 arg2 harg2 arg3 harg3 arg4 harg4 arg5 harg5 arg6 harg6 arg7 harg7 arg8 harg8 arg9 harg9 hc0 hc1 hc2 hc3 hc4 hc5 hc6 hc7 hc8 x0 x1 x2 x3 x4 x5 x6 xo7 xo8 =
      stack fun b => tanh (moved (get x3 b) (next (get xo7 b) (part x0 x0 x2 b))) := by
  have e : (fun b => tanh (moved (View.readAt (Elt F) arg4.view (cut b).toLoadRect (harg4.unread x3)) (sums harg1 harg1 harg3 harg8 x0 x0 x2 xo7 b))) =
      fun b => tanh (moved (get x3 b) (next (get xo7 b) (part x0 x0 x2 b))) := by
    funext b
    rw [sums_eq, load_block x3 (harg4.read_unread _)]
  rw [← e]
  refine Eq.trans ?_ (canon_twice arg8.view (sums harg1 harg1 harg3 harg8 x0 x0 x2 xo7)
    (fun b y => tanh (moved (View.readAt (Elt F) arg4.view (cut b).toLoadRect (harg4.unread x3)) y)))
  unfold out0_C_7
  rw [View.read_writes_junk_eq_canon]
  unfold kernelRun0_C
  dsimp only
  sl_unfold_run_names
  sl_kernel_rfl

theorem last8 (hc0 hc1 hc2 hc3 hc4 hc5 hc6 hc7 hc8) :
    out0_C_8 c i arg1 harg1 arg2 harg2 arg3 harg3 arg4 harg4 arg5 harg5 arg6 harg6 arg7 harg7 arg8 harg8 arg9 harg9 hc0 hc1 hc2 hc3 hc4 hc5 hc6 hc7 hc8 x0 x1 x2 x3 x4 x5 x6 xo7 xo8 =
      stack fun b => lnorm 0x44400000#32 (moved (get x4 b) (next (get xo8 b) (part x0 x1 x2 b))) x5 x6 := by
  have e : (fun b => lnorm 0x44400000#32 (moved (View.readAt (Elt F) arg5.view (cut b).toLoadRect (harg5.unread x4)) (sums harg1 harg2 harg3 harg9 x0 x1 x2 xo8 b))
        (View.readAt (Elt F) arg6.view (Rect.unit (s := S1x768) ![0, 0] S1x768.size inb_S1x768_S1x768_0_0).toLoadRect (harg6.unread x5))
        (View.readAt (Elt F) arg7.view (Rect.unit (s := S1x768) ![0, 0] S1x768.size inb_S1x768_S1x768_0_0).toLoadRect (harg7.unread x6))) =
      fun b => lnorm 0x44400000#32 (moved (get x4 b) (next (get xo8 b) (part x0 x1 x2 b))) x5 x6 := by
    funext b
    rw [sums_eq, load_block x4 (harg5.read_unread _), load_row, load_row]
  rw [← e]
  refine Eq.trans ?_ (canon_twice arg9.view (sums harg1 harg2 harg3 harg9 x0 x1 x2 xo8)
    (fun b y => lnorm 0x44400000#32 (moved (View.readAt (Elt F) arg5.view (cut b).toLoadRect (harg5.unread x4)) y)
        (View.readAt (Elt F) arg6.view (Rect.unit (s := S1x768) ![0, 0] S1x768.size inb_S1x768_S1x768_0_0).toLoadRect (harg6.unread x5))
        (View.readAt (Elt F) arg7.view (Rect.unit (s := S1x768) ![0, 0] S1x768.size inb_S1x768_S1x768_0_0).toLoadRect (harg7.unread x6))))
  unfold out0_C_8
  rw [View.read_writes_junk_eq_canon]
  unfold kernelRun0_C
  dsimp only
  sl_unfold_run_names
  sl_kernel_rfl

end

theorem dot_rows (a : FVec Ideal S256x768 .bf16) (b : FVec Ideal S768x2048 .bf16) (r : Fin 256) (j : Fin 2048) :
    matmul dot_S256x768_S768x2048_S256x2048_1_0_0_1_n_n none a b (constant S256x2048 .f32 0x00000000#32) (ix2 r j)
      = ∑ l : Fin 768, a (ix2 r l) * b (ix2 l j) := by
  pointwise

theorem dot_columns (a : FVec Ideal S256x512 .bf16) (b : FVec Ideal S256x768 .bf16) (j : Fin 512) (k : Fin 768) :
    matmul dot_S256x512_S256x768_S512x768_0_0_1_1_n_n none a b (constant S512x768 .f32 0x00000000#32) (ix2 j k)
      = ∑ r : Fin 256, a (ix2 r j) * b (ix2 r k) := by
  pointwise

theorem logits_apply (e : FVec Ideal S256x768 .f32) (W : FVec Ideal S768x2048 .f32) (r : Fin 256) (j : Fin 2048) :
    logits e W (ix2 r j) = ∑ l : Fin 768, e (ix2 r l) * W (ix2 l j) := by
  unfold logits mm
  rw [dot_rows]
  rfl

theorem block_apply (L : FVec Ideal S256x2048 .f32) (b : Fin 4) (r : Fin 256) (j : Fin 512) :
    block L b (ix2 r j) = L (ix2 r (at_ b j)) := by
  refine congrArg L (funext fun a => Fin.ext ?_)
  match a with
  | ⟨0, _⟩ => show 0 + r.val = r.val; omega
  | ⟨1, _⟩ => rfl

theorem same_eq (x : FVec Ideal S512x768 .f32) : same x = x := by
  funext y
  obtain ⟨r, j, rfl⟩ : ∃ (r : Fin 512) (j : Fin 768), y = ix2 r j := ⟨y 0, y 1, eq_ix2 y⟩
  pointwise [same]

theorem isTop_blocks (L : FVec Ideal S256x2048 .f32) (r : Fin 256) : TopFour.IsTop (TopFour.count (row L r)) (row (top4Blocks (block L)) r) := by
  have h := isTop_top4Blocks (by decide) (by decide) (block L) r
  have e : (fun x => ∑ c, TopFour.count (row (block L c) r) x) = TopFour.count (row L r) := by
    funext x
    unfold TopFour.count
    simp only [Finset.card_filter]
    rw [TopFour.sum_blocks 4 512 (fun j : Fin 2048 => if x ≤ row L r j then 1 else 0) (by decide)]
    refine Finset.sum_congr rfl fun c _ => Finset.sum_congr rfl fun j _ => ?_
    show (if x ≤ block L c (ix2 r j) then 1 else 0) = _
    rw [block_apply]
    rfl
  rwa [e] at h

theorem part_apply (e x : FVec Ideal S256x768 .f32) (W : FVec Ideal S768x2048 .f32) (T : Fin 256 → Fin 4 → EReal)
    (hT : ∀ r, TopFour.IsTop (TopFour.count (row (logits e W) r)) (T r)) (b : Fin 4) (j : Fin 512) (k : Fin 768) :
    part e x W b (ix2 j k) = ∑ r : Fin 256, share (T r) (row (logits e W) r) (at_ b j) * x (ix2 r k) := by
  unfold part mm
  rw [dot_columns]
  refine Finset.sum_congr rfl fun r _ => congrArg (· * x (ix2 r k)) ?_
  show block (shares e W) b (ix2 r j) = _
  rw [block_apply]
  unfold shares
  rw [route_apply, (isTop_blocks (logits e W) r).unique (hT r)]

theorem next_apply (p d : FVec Ideal S512x768 .f32) (j : Fin 512) (k : Fin 768) : next p d (ix2 j k) = p (ix2 j k) + d (ix2 j k) := by
  unfold next
  rw [same_eq]
  rfl

theorem moved_apply (x y : FVec Ideal S512x768 .f32) (j : Fin 512) (k : Fin 768) :
    moved x y (ix2 j k) = x (ix2 j k) + Ideal.ofBits .f32 0x3D99999A#32 * y (ix2 j k) := by
  unfold moved
  rw [same_eq]
  rfl

end Cert.BtoSBody

end
-- ==== Proof.BtoSRef.lean ====
/- The reference's expanded-to-sequence routing, read at an index over the extended reals. -/
module

public import proofs.«01_k».proof.Proof.Gen.BtoSReferenceIdeal.Read
public import proofs.«01_k».proof.Proof.Route
public import Idealize.ShloMosaic.Lib.Pointwise

@[expose] public section

noncomputable section

namespace Cert.BtoSRef

open Idealize.ShloMosaic Idealize.ShloMosaic.TcCoe Cert.BtoSReferenceIdeal Cert.BtoSReferenceIdeal.Gen Cert.BtoSReferenceIdeal.Read Cert.RowOps Cert.TopFour Cert.Attend Cert.Route

variable (x0 x1 : FVec Ideal S4096x768 .f32) (x2 : FVec Ideal S768x2048 .f32) (x3 x4 : FVec Ideal S2048x768 .f32) (x5 x6 : FVec Ideal S768 .f32)

theorem red : (Mat 4096 2048).Reduces [1] (Row1 4096) := by decide

/-- The logits of row `r`. -/
def lg (r : Fin 4096) (j : Fin 2048) : EReal := ∑ l : Fin 768, x0 (ix2 r l) * x2 (ix2 l j)

/-- The four largest logits of row `r`. -/
def top (r : Fin 4096) (k : Fin 4) : EReal := val_main_values (F := Ideal) x0 x2 (ix2 r k)

theorem v0_apply (r : Fin 4096) (j : Fin 2048) : (val_main_v0 (F := Ideal) x0 x2 (ix2 r j) : EReal) = lg x0 x2 r j := by
  pointwise [val_main_v0]
  rfl

theorem isTop (r : Fin 4096) : IsTop (TopFour.count (lg x0 x2 r)) (top x0 x2 r) := by
  have h := HostReads.topK_apply (by decide) (val_main_v0 (F := Ideal) x0 x2) (by decide) r
  have e : row (val_main_v0 (F := Ideal) x0 x2) r = lg x0 x2 r := funext fun j => v0_apply x0 x2 r j
  rw [e] at h
  exact h

theorem v4_apply (r : Fin 4096) (j : Fin 2048) :
    (val_main_v4 (F := Ideal) x0 x2 (ix2 r j) : EReal) = masked (top x0 x2 r 3) (lg x0 x2 r) j := by
  pointwise [val_main_v4, val_main_v3, val_main_v2, val_main_v1, val_main_call0_v1, val_main_call0_v0, val_main_cst, v0_apply]
  show (if _ then _ else (Ideal.ofBits .f32 0xFF800000#32 : EReal)) = _
  rw [neg_inf]
  rfl

theorem v5_apply (r : Fin 4096) :
    (val_main_v5 (F := Ideal) x0 x2 (ix1 r) : EReal) = Finset.univ.fold max ⊥ (masked (top x0 x2 r 3) (lg x0 x2 r)) := by
  unfold val_main_v5
  refine (HostReads.hostMax_apply _ _ _ red _ ⊥ (fun _ => neg_inf) r).trans ?_
  exact congrArg (Finset.univ.fold max ⊥) (funext fun j => v4_apply x0 x2 r j)

theorem v7_apply (r : Fin 4096) :
    (val_main_v7 (F := Ideal) x0 x2 (ix1 r) : EReal) = max ⊥ (Finset.univ.fold max ⊥ (masked (top x0 x2 r 3) (lg x0 x2 r))) := by
  have h : (val_main_v6 (F := Ideal) (ix1 r) : EReal) = ⊥ := by
    pointwise [val_main_v6, val_main_cst_1]
    exact neg_inf
  rw [val_main_v7_apply, Ideal.maximumf_def, h, v5_apply]

theorem v11_apply (r : Fin 4096) (j : Fin 2048) :
    (val_main_v11 (F := Ideal) x0 x2 (ix2 r j) : EReal) = num (masked (top x0 x2 r 3) (lg x0 x2 r)) j := by
  pointwise [val_main_v11, val_main_v10, val_main_v9, val_main_v8, v7_apply, v4_apply]
  rfl

/-- The reference's shares. -/
theorem v15_apply (r : Fin 4096) (j : Fin 2048) :
    (val_main_v15 (F := Ideal) x0 x2 (ix2 r j) : EReal) = share (top x0 x2 r) (lg x0 x2 r) j := by
  refine Eq.trans ?_ (softmax_eq _ _ (isTop x0 x2 r) j)
  pointwise [val_main_v15, val_main_v14, val_main_v13, val_main_v12, val_main_cst_2, v11_apply]

/-- What column `j` receives of the rows of `x`. -/
def given (x : FVec Ideal S4096x768 .f32) (j : Fin 2048) (k : Fin 768) : EReal :=
  ∑ r : Fin 4096, share (top x0 x2 r) (lg x0 x2 r) j * x (ix2 r k)

theorem v16_apply (j : Fin 2048) (k : Fin 768) : (val_main_v16 (F := Ideal) x0 x2 (ix2 j k) : EReal) = given x0 x2 x0 j k := by
  pointwise [val_main_v16, v15_apply]
  rfl

theorem v17_apply (j : Fin 2048) (k : Fin 768) : (val_main_v17 (F := Ideal) x0 x1 x2 (ix2 j k) : EReal) = given x0 x2 x1 j k := by
  pointwise [val_main_v17, v15_apply]
  rfl

theorem v21_apply (j : Fin 2048) (k : Fin 768) :
    (val_main_v21 (F := Ideal) x0 x2 x3 (ix2 j k) : EReal) =
      Ideal.tanh (x3 (ix2 j k) + Ideal.ofBits .f32 0x3D99999A#32 * given x0 x2 x0 j k) := by
  pointwise [val_main_v21, val_main_v20, val_main_v19, val_main_v18, val_main_cst_3, v16_apply]

theorem v24_apply (j : Fin 2048) (k : Fin 768) :
    (val_main_v24 (F := Ideal) x0 x1 x2 x4 (ix2 j k) : EReal) =
      x4 (ix2 j k) + Ideal.ofBits .f32 0x3D99999A#32 * given x0 x2 x1 j k := by
  pointwise [val_main_v24, val_main_v23, val_main_v22, val_main_cst_4, v17_apply]

theorem v48_apply (j : Fin 2048) (k : Fin 768) :
    (val_main_v48 (F := Ideal) x0 x1 x2 x4 x5 x6 (ix2 j k) : EReal) =
      ln (Ideal.ofBits .f32 0x44400000#32) (fun k => x4 (ix2 j k) + Ideal.ofBits .f32 0x3D99999A#32 * given x0 x2 x1 j k)
        (fun k => x5 (ix1 k)) (fun k => x6 (ix1 k)) k := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_5, val_main_cst_6, val_main_cst_7, val_main_cst_8, val_main_cst_9, v24_apply]
  rfl

end Cert.BtoSRef

end
-- ==== Proof.BtoSArrays.lean ====
/- The expanded-to-sequence routing's result arrays after the run. -/
module

public import proofs.«01_k».proof.Proof.BtoSBody
public import proofs.«01_k».proof.Proof.BtoSRef
public import proofs.«01_k».proof.Proof.RowReads
public import Idealize.ShloMosaic.Lib.Claim

@[expose] public section

noncomputable section

namespace Cert.BtoSArrays

open Idealize.ShloMosaic Idealize.ShloMosaic.TcCoe Idealize.ShloMosaic.Tactic Cert.BtoSIdeal Cert.BtoSIdeal.Gen Cert.BtoSIdeal.Value Cert.BtoSReferenceIdeal.Read Cert.RowOps Cert.Route Cert.RowBlocks

variable (m : (ℓ : Loc nD τ sig) → Buf (Elt Ideal) ℓ)

/-- Row `r` of the rows of point `t`. -/
def own (t : Fin 16) (r : Fin 256) : Fin 4096 := ⟨256 * t.val + r.val, by omega⟩

theorem step0 : ∀ t : Fin cfg0.N, win0_0.index t (0 : Fin 2) = t.val ∧ win0_0.index t (1 : Fin 2) = 0 := (by decide +kernel : ∀ t : Fin grid0.N, _)
theorem step1 : ∀ t : Fin cfg0.N, win0_1.index t (0 : Fin 2) = t.val ∧ win0_1.index t (1 : Fin 2) = 0 := (by decide +kernel : ∀ t : Fin grid0.N, _)
theorem zero2 : ∀ (t : Fin cfg0.N) (a : Fin 2), win0_2.index t a = 0 := (by decide +kernel : ∀ (t : Fin grid0.N) (a : Fin 2), _)
theorem zero3 : ∀ (t : Fin cfg0.N) (a : Fin 2), win0_3.index t a = 0 := (by decide +kernel : ∀ (t : Fin grid0.N) (a : Fin 2), _)
theorem zero4 : ∀ (t : Fin cfg0.N) (a : Fin 2), win0_4.index t a = 0 := (by decide +kernel : ∀ (t : Fin grid0.N) (a : Fin 2), _)
theorem zero5 : ∀ (t : Fin cfg0.N) (a : Fin 2), win0_5.index t a = 0 := (by decide +kernel : ∀ (t : Fin grid0.N) (a : Fin 2), _)
theorem zero6 : ∀ (t : Fin cfg0.N) (a : Fin 2), win0_6.index t a = 0 := (by decide +kernel : ∀ (t : Fin grid0.N) (a : Fin 2), _)
theorem zero7 : ∀ (t : Fin cfg0.N) (a : Fin 2), win0_7.index t a = 0 := (by decide +kernel : ∀ (t : Fin grid0.N) (a : Fin 2), _)
theorem zero8 : ∀ (t : Fin cfg0.N) (a : Fin 2), win0_8.index t a = 0 := (by decide +kernel : ∀ (t : Fin grid0.N) (a : Fin 2), _)
theorem flush7 : ∀ t : Fin cfg0.N, (cfg0.win 7).flush t = true → t.val = 15 := (by decide +kernel : ∀ t : Fin grid0.N, _)
theorem flush8 : ∀ t : Fin cfg0.N, (cfg0.win 8).flush t = true → t.val = 15 := (by decide +kernel : ∀ t : Fin grid0.N, _)

theorem iblk0 (c : Dev nD) (t : Fin 16) (r : Fin 256) (k : Fin 768) :
    iblk m c 0 t (ix2 r k) = m ((c : Thread nD τ).loc main_arg0) (ix2 (own t r) k) := by
  rw [← V_main_arg0 m c]
  show V m c main_arg0 (((cfg0.win 0).blk t).view.emb (ix2 r k)) = V m c main_arg0 (ix2 (own t r) k)
  refine congrArg _ (funext fun a => Fin.ext ?_)
  obtain ⟨e0, e1⟩ := step0 t
  match a with
  | ⟨0, _⟩ =>
    show win0_0.index t (0 : Fin 2) * 256 + 1 * r.val = 256 * t.val + r.val
    rw [e0]
    omega
  | ⟨1, _⟩ =>
    show win0_0.index t (1 : Fin 2) * 768 + 1 * k.val = k.val
    rw [e1]
    omega

theorem iblk1 (c : Dev nD) (t : Fin 16) (r : Fin 256) (k : Fin 768) :
    iblk m c 1 t (ix2 r k) = m ((c : Thread nD τ).loc main_arg1) (ix2 (own t r) k) := by
  rw [← V_main_arg1 m c]
  show V m c main_arg1 (((cfg0.win 1).blk t).view.emb (ix2 r k)) = V m c main_arg1 (ix2 (own t r) k)
  refine congrArg _ (funext fun a => Fin.ext ?_)
  obtain ⟨e0, e1⟩ := step1 t
  match a with
  | ⟨0, _⟩ =>
    show win0_1.index t (0 : Fin 2) * 256 + 1 * r.val = 256 * t.val + r.val
    rw [e0]
    omega
  | ⟨1, _⟩ =>
    show win0_1.index t (1 : Fin 2) * 768 + 1 * k.val = k.val
    rw [e1]
    omega

theorem iblk2 (c : Dev nD) (t : Fin cfg0.N) : iblk m c 2 t = m ((c : Thread nD τ).loc main_arg2) := by
  rw [← V_main_arg2 m c]
  funext y
  show V m c main_arg2 (((cfg0.win 2).blk t).view.emb y) = V m c main_arg2 y
  refine congrArg _ (funext fun a => Fin.ext ?_)
  blk_simp
  have e : win0_2.index t a = 0 := zero2 t a
  rw [e, zero_mul, zero_add]

theorem iblk3 (c : Dev nD) (t : Fin cfg0.N) : iblk m c 3 t = m ((c : Thread nD τ).loc main_arg3) := by
  rw [← V_main_arg3 m c]
  funext y
  show V m c main_arg3 (((cfg0.win 3).blk t).view.emb y) = V m c main_arg3 y
  refine congrArg _ (funext fun a => Fin.ext ?_)
  blk_simp
  have e : win0_3.index t a = 0 := zero3 t a
  rw [e, zero_mul, zero_add]

theorem iblk4 (c : Dev nD) (t : Fin cfg0.N) : iblk m c 4 t = m ((c : Thread nD τ).loc main_arg4) := by
  rw [← V_main_arg4 m c]
  funext y
  show V m c main_arg4 (((cfg0.win 4).blk t).view.emb y) = V m c main_arg4 y
  refine congrArg _ (funext fun a => Fin.ext ?_)
  blk_simp
  have e : win0_4.index t a = 0 := zero4 t a
  rw [e, zero_mul, zero_add]

theorem iblk5 (c : Dev nD) (t : Fin cfg0.N) (l : Fin 768) :
    iblk m c 5 t (ix2 0 l) = m ((c : Thread nD τ).loc main_arg5) (ix1 l) := by
  have e : ((cfg0.win 5).blk t).view.emb (ix2 0 l) = (ix2 0 l : S1x768.Idx) := by
    refine funext fun a => Fin.ext ?_
    blk_simp
    have e : win0_5.index t a = 0 := zero5 t a
    rw [e, zero_mul, zero_add]
  show V m c main_v0 (((cfg0.win 5).blk t).view.emb (ix2 0 l)) = _
  rw [e]
  entry_read
  pointwise

theorem iblk6 (c : Dev nD) (t : Fin cfg0.N) (l : Fin 768) :
    iblk m c 6 t (ix2 0 l) = m ((c : Thread nD τ).loc main_arg6) (ix1 l) := by
  have e : ((cfg0.win 6).blk t).view.emb (ix2 0 l) = (ix2 0 l : S1x768.Idx) := by
    refine funext fun a => Fin.ext ?_
    blk_simp
    have e : win0_6.index t a = 0 := zero6 t a
    rw [e, zero_mul, zero_add]
  show V m c main_v1 (((cfg0.win 6).blk t).view.emb (ix2 0 l)) = _
  rw [e]
  entry_read
  pointwise

/-- The arguments. -/
abbrev E (c : Dev nD) : FVec Ideal S4096x768 .f32 := m ((c : Thread nD τ).loc main_arg0)
abbrev X (c : Dev nD) : FVec Ideal S4096x768 .f32 := m ((c : Thread nD τ).loc main_arg1)
abbrev W (c : Dev nD) : FVec Ideal S768x2048 .f32 := m ((c : Thread nD τ).loc main_arg2)
abbrev S (c : Dev nD) : FVec Ideal S2048x768 .f32 := m ((c : Thread nD τ).loc main_arg3)
abbrev Y (c : Dev nD) : FVec Ideal S2048x768 .f32 := m ((c : Thread nD τ).loc main_arg4)
abbrev G (c : Dev nD) : FVec Ideal S768 .f32 := m ((c : Thread nD τ).loc main_arg5)
abbrev B (c : Dev nD) : FVec Ideal S768 .f32 := m ((c : Thread nD τ).loc main_arg6)

/-- What the rows of point `t` contribute to an entry. -/
def term (E X : FVec Ideal S4096x768 .f32) (W : FVec Ideal S768x2048 .f32) (t : Fin 16) (j : Fin 2048) (k : Fin 768) : EReal :=
  ∑ r : Fin 256, share (BtoSRef.top E W (own t r)) (BtoSRef.lg E W (own t r)) j * X (ix2 (own t r) k)

theorem part_eq (E X : FVec Ideal S4096x768 .f32) (W : FVec Ideal S768x2048 .f32) (t : Fin 16) (e x : FVec Ideal S256x768 .f32)
    (he : ∀ r k, e (ix2 r k) = E (ix2 (own t r) k)) (hx : ∀ r k, x (ix2 r k) = X (ix2 (own t r) k)) (b : Fin 4) (j : Fin 512) (k : Fin 768) :
    BtoSBody.part e x W b (ix2 j k) = term E X W t (at_ b j) k := by
  have hl : ∀ r, row (BtoSBody.logits e W) r = BtoSRef.lg E W (own t r) := by
    intro r
    funext j
    show BtoSBody.logits e W (ix2 r j) = _
    rw [BtoSBody.logits_apply]
    exact Finset.sum_congr rfl fun l _ => congrArg (· * W (ix2 l j)) (he r l)
  rw [BtoSBody.part_apply e x W (fun r => BtoSRef.top E W (own t r)) (fun r => by rw [hl]; exact BtoSRef.isTop E W (own t r))]
  exact Finset.sum_congr rfl fun r _ => by rw [hl, hx]

/-- What the outputs hold after point `n`. -/
abbrev s7 (c : Dev nD) (n : ℕ) (h : n < 16) (j : Fin 2048) (k : Fin 768) : EReal := (outsAt0 m c n h).1 (ix2 j k)
abbrev s8 (c : Dev nD) (n : ℕ) (h : n < 16) (j : Fin 2048) (k : Fin 768) : EReal := (outsAt0 m c n h).2 (ix2 j k)

theorem outs_first (c : Dev nD) (j : Fin 2048) (k : Fin 768) :
    s7 m c 0 (by decide) j k = term (E m c) (E m c) (W m c) 0 j k ∧ s8 m c 0 (by decide) j k = term (E m c) (X m c) (W m c) 0 j k := by
  obtain ⟨b, j, rfl⟩ := exists_at j
  unfold s7 s8
  rw [show outsAt0 m c 0 (by decide) = _ from outsAt0_A m c ⟨0, by decide⟩ (by decide) (by decide) (by decide) (by decide) (by decide)
    (by decide) (by decide) (by decide) (by decide)]
  dsimp only
  rw [BtoSBody.first7, BtoSBody.first8, iblk2, stack_apply, stack_apply]
  exact ⟨part_eq _ _ _ _ _ _ (iblk0 m c 0) (iblk0 m c 0) b j k, part_eq _ _ _ _ _ _ (iblk0 m c 0) (iblk1 m c 0) b j k⟩

theorem outs_next (c : Dev nD) (n : ℕ) (h : n + 1 < 15) (j : Fin 2048) (k : Fin 768) :
    s7 m c (n + 1) (by omega) j k = s7 m c n (by omega) j k + term (E m c) (E m c) (W m c) ⟨n + 1, by omega⟩ j k ∧
    s8 m c (n + 1) (by omega) j k = s8 m c n (by omega) j k + term (E m c) (X m c) (W m c) ⟨n + 1, by omega⟩ j k := by
  obtain ⟨b, j, rfl⟩ := exists_at j
  have h0 : ¬(n + 1) % 16 = 0 := by omega
  have h1 : 1 ≤ n + 1 := by omega
  have h2 : ¬(n + 1) % 16 = 15 := by omega
  unfold s7 s8
  have h16 : n + 1 < 16 := by omega
  rw [show outsAt0 m c (n + 1) h16 = _ from outsAt0_B m c ⟨n + 1, h16⟩ h0 h1 h0 h1 h0 h1 h0 h1 h2]
  dsimp only
  rw [BtoSBody.next7, BtoSBody.next8, iblk2, stack_apply, stack_apply, BtoSBody.next_apply, BtoSBody.next_apply]
  exact ⟨congrArg _ (part_eq _ _ _ _ _ _ (iblk0 m c ⟨n + 1, by omega⟩) (iblk0 m c ⟨n + 1, by omega⟩) b j k),
    congrArg _ (part_eq _ _ _ _ _ _ (iblk0 m c ⟨n + 1, by omega⟩) (iblk1 m c ⟨n + 1, by omega⟩) b j k)⟩

theorem sum_term (E X : FVec Ideal S4096x768 .f32) (W : FVec Ideal S768x2048 .f32) (j : Fin 2048) (k : Fin 768) :
    (∑ t : Fin 15, term E X W t.castSucc j k) + term E X W 15 j k = BtoSRef.given E W X j k :=
  (Fin.sum_univ_castSucc fun t : Fin 16 => term E X W t j k).symm.trans
    (TopFour.sum_blocks 16 256 (fun r : Fin 4096 => share (BtoSRef.top E W r) (BtoSRef.lg E W r) j * X (ix2 r k)) (by decide)).symm

theorem sum7 (c : Dev nD) (j : Fin 2048) (k : Fin 768) :
    s7 m c 14 (by decide) j k = ∑ t : Fin 15, term (E m c) (E m c) (W m c) t.castSucc j k :=
  running_sum 14 (fun n h => s7 m c n (by omega) j k) (fun t => term (E m c) (E m c) (W m c) t.castSucc j k) (outs_first m c j k).1
    fun n h => (outs_next m c n h j k).1

theorem sum8 (c : Dev nD) (j : Fin 2048) (k : Fin 768) :
    s8 m c 14 (by decide) j k = ∑ t : Fin 15, term (E m c) (X m c) (W m c) t.castSucc j k :=
  running_sum 14 (fun n h => s8 m c n (by omega) j k) (fun t => term (E m c) (X m c) (W m c) t.castSucc j k) (outs_first m c j k).2
    fun n h => (outs_next m c n h j k).2

/-- A block moved by the sums that the last point finishes with. -/
theorem moved_eq (c : Dev nD) (p y : FVec Ideal S2048x768 .f32) (x : FVec Ideal S256x768 .f32) (Z : FVec Ideal S4096x768 .f32)
    (hx : ∀ r k, x (ix2 r k) = Z (ix2 (own 15 r) k))
    (hp : ∀ j k, p (ix2 j k) = ∑ t : Fin 15, term (E m c) Z (W m c) t.castSucc j k) (b : Fin 4) (j : Fin 512) (k : Fin 768) :
    BtoSBody.moved (get y b) (BtoSBody.next (get p b) (BtoSBody.part (iblk m c 0 ⟨15, by decide⟩) x (W m c) b)) (ix2 j k) =
      y (ix2 (at_ b j) k) + Ideal.ofBits .f32 0x3D99999A#32 * BtoSRef.given (E m c) (W m c) Z (at_ b j) k := by
  rw [BtoSBody.moved_apply, BtoSBody.next_apply, ← sum_term]
  exact congrArg (fun z => y (ix2 (at_ b j) k) + Ideal.ofBits .f32 0x3D99999A#32 * z)
    (congrArg₂ (· + ·) (hp (at_ b j) k) (part_eq _ _ _ _ _ _ (iblk0 m c 15) hx b j k))

theorem outs_last (c : Dev nD) (j : Fin 2048) (k : Fin 768) :
    s7 m c 15 (by decide) j k = val_main_v21 (F := Ideal) (E m c) (W m c) (S m c) (ix2 j k) ∧
    s8 m c 15 (by decide) j k = val_main_v48 (F := Ideal) (E m c) (X m c) (W m c) (Y m c) (G m c) (B m c) (ix2 j k) := by
  obtain ⟨b, j, rfl⟩ := exists_at j
  rw [BtoSRef.v21_apply, BtoSRef.v48_apply]
  unfold s7 s8
  rw [show outsAt0 m c 15 (by decide) = _ from outsAt0_C m c ⟨15, by decide⟩ (by decide) (by decide) (by decide) (by decide) (by decide)
    (by decide) (by decide) (by decide) (by decide)]
  dsimp only
  rw [BtoSBody.last7, BtoSBody.last8, iblk2, iblk3, iblk4, stack_apply, stack_apply, lnorm_apply]
  refine ⟨?_, ?_⟩
  · exact congrArg Ideal.tanh (moved_eq m c _ (S m c) _ (E m c) (iblk0 m c 15) (sum7 m c) b j k)
  · have e := funext fun k => moved_eq m c _ (Y m c) _ (X m c) (iblk1 m c 15) (sum8 m c) b j k
    have eg : row (iblk m c 5 ⟨15, by decide⟩) (0 : Fin 1) = fun k => G m c (ix1 k) := funext fun k => iblk5 m c _ k
    have eb : row (iblk m c 6 ⟨15, by decide⟩) (0 : Fin 1) = fun k => B m c (ix1 k) := funext fun k => iblk6 m c _ k
    rw [eg, eb]
    exact congrArg (fun f => ln (Ideal.ofBits .f32 0x44400000#32) f (fun k => G m c (ix1 k)) (fun k => B m c (ix1 k)) k) e

theorem emb7 (t : Fin cfg0.N) (y : S2048x768.Idx) : ((cfg0.win 7).blk t).view.emb y = y := by
  refine funext fun a => Fin.ext ?_
  blk_simp
  have e : win0_7.index t a = 0 := zero7 t a
  rw [e, zero_mul, zero_add]

theorem emb8 (t : Fin cfg0.N) (y : S2048x768.Idx) : ((cfg0.win 8).blk t).view.emb y = y := by
  refine funext fun a => Fin.ext ?_
  blk_simp
  have e : win0_8.index t a = 0 := zero8 t a
  rw [e, zero_mul, zero_add]

theorem final7 (c : Dev nD) : (dats m 0 c).arrAt 7 cfg0.N = val_main_v21 (F := Ideal) (E m c) (W m c) (S m c) := by
  refine (dats m 0 c).arrAt_eq_of_covers 7 _ (by decide +kernel) fun t hf y => ?_
  obtain ⟨j, k, rfl⟩ : ∃ (j : Fin 2048) (k : Fin 768), y = ix2 j k := ⟨y 0, y 1, eq_ix2 y⟩
  obtain rfl : t = ⟨15, by decide⟩ := Fin.ext (flush7 t hf)
  rw [after0_7, emb7]
  exact (outs_last m c j k).1

theorem final8 (c : Dev nD) : (dats m 0 c).arrAt 8 cfg0.N = val_main_v48 (F := Ideal) (E m c) (X m c) (W m c) (Y m c) (G m c) (B m c) := by
  refine (dats m 0 c).arrAt_eq_of_covers 8 _ (by decide +kernel) fun t hf y => ?_
  obtain ⟨j, k, rfl⟩ : ∃ (j : Fin 2048) (k : Fin 768), y = ix2 j k := ⟨y 0, y 1, eq_ix2 y⟩
  obtain rfl : t = ⟨15, by decide⟩ := Fin.ext (flush8 t hf)
  rw [after0_8, emb8]
  exact (outs_last m c j k).2

end Cert.BtoSArrays

end
-- ==== Proof.BtoSClaims.lean ====
/- The claims about the expanded-to-sequence routing. -/
module

public import proofs.«01_k».proof.Defs
public import proofs.«01_k».proof.Proof.Gen.BtoSIdeal.Frame
public import proofs.«01_k».proof.Proof.Gen.BtoSReferenceIdeal.Run
public import proofs.«01_k».proof.Proof.BtoSArrays
public import Idealize.ShloMosaic.Adequacy
public import Idealize.ShloMosaic.Init

@[expose] public section

noncomputable section

namespace Cert.BtoSClaims

open Idealize.ShloMosaic Idealize.ShloMosaic.TcCoe Idealize.SL.Sem

/-- The reference's frame: its run, and it declares no semaphore. -/
theorem frame_reference : Cert.quiescent_BtoSReferenceIdeal := fun m ρ _ =>
  (θ_run Cert.BtoSReferenceIdeal.defs _ _).mono (fun r h => ⟨fun c => (h c).2.2, sem_eq_zero_of_no_sems (by decide) r.2⟩)
    (Cert.BtoSReferenceIdeal.Value.run (F := Ideal) m ρ)

/-- The call's two results are the reference's. -/
theorem algebraic : Cert.algebraic_BtoSIdeal_BtoSReferenceIdeal := by
  intro m g m' g' _ hagree
  refine ⟨fun c => (Cert.BtoSIdeal.Gen.dats m 0 c).arrAt 7 Cert.BtoSIdeal.cfg0.N,
    fun c => (Cert.BtoSIdeal.Gen.dats m 0 c).arrAt 8 Cert.BtoSIdeal.cfg0.N,
    Cert.BtoSIdeal.Value.run_blocks (F := Ideal) m g, ?_⟩
  refine (θ_run Cert.BtoSReferenceIdeal.defs _ _).mono (fun r h c => ⟨?_, ?_, (h c).2.2⟩) (Cert.BtoSReferenceIdeal.Value.run (F := Ideal) m' g')
  · refine (h c).1.trans ?_
    show _ = (Cert.BtoSIdeal.Gen.dats m 0 c).arrAt 7 Cert.BtoSIdeal.cfg0.N
    rw [Cert.BtoSArrays.final7 m c]
    unfold Cert.BtoSArrays.E Cert.BtoSArrays.W Cert.BtoSArrays.S
    rw [← (hagree c).1, ← (hagree c).2.2.1, ← (hagree c).2.2.2.1]
    exact Cert.BtoSReferenceIdeal.Read.val_main_v21_eq m' c
  · refine (h c).2.1.trans ?_
    show _ = (Cert.BtoSIdeal.Gen.dats m 0 c).arrAt 8 Cert.BtoSIdeal.cfg0.N
    rw [Cert.BtoSArrays.final8 m c]
    unfold Cert.BtoSArrays.E Cert.BtoSArrays.X Cert.BtoSArrays.W Cert.BtoSArrays.Y Cert.BtoSArrays.G Cert.BtoSArrays.B
    rw [← (hagree c).1, ← (hagree c).2.1, ← (hagree c).2.2.1, ← (hagree c).2.2.2.2.1, ← (hagree c).2.2.2.2.2.1, ← (hagree c).2.2.2.2.2.2]
    exact Cert.BtoSReferenceIdeal.Read.val_main_v48_eq m' c

end Cert.BtoSClaims

end
-- ==== Proof.CompBody.lean ====
/- What one grid step of the column routing writes, as the named row operations on the blocks that it loads. -/
module

public import proofs.«01_k».proof.Proof.Gen.CompIdeal.Value
public import Idealize.ShloMosaic.Lib.Pipeline.ValueKit
public import proofs.«01_k».proof.Proof.Route

@[expose] public section

noncomputable section

namespace Cert.CompBody

open Idealize.ShloMosaic Idealize.ShloMosaic.TcCoe Idealize.ShloMosaic.Tactic Cert.CompIdeal Cert.CompIdeal.Gen Cert.RowOps Cert.Route

variable {F : FTy → Type} [FloatOps F]

/-- A step's logits. -/
def logits (e : FVec F S256x768 .f32) (W : FVec F S768x512 .f32) : FVec F S256x512 .f32 :=
  mm dot_S256x768_S768x512_S256x512_1_0_0_1_n_n e W

/-- The logits as the one block that they are searched in. -/
def block (L : FVec F S256x512 .f32) : FVec F S256x512 .f32 :=
  extractStridedSlice S256x512 ![0, 0] L slices_S256x512_o0_0_S256x512

/-- What a step adds: its rows of `x`, each shared out by the row of `e`. -/
def part (e x : FVec F S256x768 .f32) (W : FVec F S768x512 .f32) : FVec F S512x768 .f32 :=
  mm dot_S256x512_S256x768_S512x768_0_0_1_1_n_n (route (vtop4 (block (logits e W))) (logits e W)) x

section
variable (c : Dev nD) (i : grid0.Coords) (arg1 : Memref sig .tc .vmem S256x768 .f32) (harg1 : arg1.IsWhole) (arg2 : Memref sig .tc .vmem S256x768 .f32) (harg2 : arg2.IsWhole) (arg3 : Memref sig .tc .vmem S768x512 .f32) (harg3 : arg3.IsWhole) (arg4 : Memref sig .tc .vmem S512x768 .f32) (harg4 : arg4.IsWhole) (arg5 : Memref sig .tc .vmem S512x768 .f32) (harg5 : arg5.IsWhole)
  (x0 x1 : Vec F S256x768 .f32) (x2 : Vec F S768x512 .f32) (xo3 xo4 : Vec F S512x768 .f32)

theorem load_rows {m : Memref sig .tc .vmem S256x768 .f32} (h : m.IsWhole) (w : FVec F S256x768 .f32) :
    View.readAt (Elt F) m.view (Rect.unit (s := S256x768) ![0, 0] S256x768.size inb_S256x768_S256x768_0_0).toLoadRect (h.unread w) = w := by
  rw [View.readAt_eq_ld, h.read_unread, View.ld_unit_zero (by decide)]

theorem load_weights {m : Memref sig .tc .vmem S768x512 .f32} (h : m.IsWhole) (w : FVec F S768x512 .f32) :
    View.readAt (Elt F) m.view (Rect.unit (s := S768x512) ![0, 0] S768x512.size inb_S768x512_S768x512_0_0).toLoadRect (h.unread w) = w := by
  rw [View.readAt_eq_ld, h.read_unread, View.ld_unit_zero (by decide)]

theorem load_sum {m : Memref sig .tc .vmem S512x768 .f32} (h : m.IsWhole) (w : FVec F S512x768 .f32) :
    View.readAt (Elt F) m.view (Rect.unit (s := S512x768) ![0, 0] S512x768.size inb_S512x768_S512x768_0_0).toLoadRect (h.unread w) = w := by
  rw [View.readAt_eq_ld, h.read_unread, View.ld_unit_zero (by decide)]

theorem first3 (hc0 hc1) : out0_A_3 c i arg1 harg1 arg2 harg2 arg3 harg3 arg4 harg4 arg5 harg5 hc0 hc1 x0 x1 x2 = part x0 x0 x2 := by
  conv_rhs => rw [← load_rows harg1 x0, ← load_weights harg3 x2]
  unfold out0_A_3
  rw [View.read_writes_junk_eq_canon]
  unfold kernelRun0_A
  dsimp only
  sl_unfold_run_names
  rw [View.canon_unit_zero (by decide)]
  sl_kernel_rfl

theorem first4 (hc0 hc1) : out0_A_4 c i arg1 harg1 arg2 harg2 arg3 harg3 arg4 harg4 arg5 harg5 hc0 hc1 x0 x1 x2 = part x0 x1 x2 := by
  conv_rhs => rw [← load_rows harg1 x0, ← load_rows harg2 x1, ← load_weights harg3 x2]
  unfold out0_A_4
  rw [View.read_writes_junk_eq_canon]
  unfold kernelRun0_A
  dsimp only
  sl_unfold_run_names
  rw [View.canon_unit_zero (by decide)]
  sl_kernel_rfl

/-- A vector in its own shape. -/
def same (x : FVec F S512x768 .f32) : FVec F S512x768 .f32 := shapeCast S512x768 x shapeCasts_S512x768_S512x768

theorem next3 (hc0 hc1) : out0_B_3 c i arg1 harg1 arg2 harg2 arg3 harg3 arg4 harg4 arg5 harg5 hc0 hc1 x0 x1 x2 xo3 xo4 =
    addf (same xo3) (part x0 x0 x2) := by
  conv_rhs => rw [← load_rows harg1 x0, ← load_weights harg3 x2, ← load_sum harg4 xo3]
  unfold out0_B_3
  rw [View.read_writes_junk_eq_canon]
  unfold kernelRun0_B
  dsimp only
  sl_unfold_run_names
  rw [View.canon_unit_zero (by decide)]
  sl_kernel_rfl

theorem next4 (hc0 hc1) : out0_B_4 c i arg1 harg1 arg2 harg2 arg3 harg3 arg4 harg4 arg5 harg5 hc0 hc1 x0 x1 x2 xo3 xo4 =
    addf (same xo4) (part x0 x1 x2) := by
  conv_rhs => rw [← load_rows harg1 x0, ← load_rows harg2 x1, ← load_weights harg3 x2, ← load_sum harg5 xo4]
  unfold out0_B_4
  rw [View.read_writes_junk_eq_canon]
  unfold kernelRun0_B
  dsimp only
  sl_unfold_run_names
  rw [View.canon_unit_zero (by decide)]
  sl_kernel_rfl

end

theorem dot_rows (a : FVec Ideal S256x768 .bf16) (b : FVec Ideal S768x512 .bf16) (r : Fin 256) (j : Fin 512) :
    matmul dot_S256x768_S768x512_S256x512_1_0_0_1_n_n none a b (constant S256x512 .f32 0x00000000#32) (ix2 r j)
      = ∑ l : Fin 768, a (ix2 r l) * b (ix2 l j) := by
  pointwise

theorem dot_columns (a : FVec Ideal S256x512 .bf16) (b : FVec Ideal S256x768 .bf16) (j : Fin 512) (k : Fin 768) :
    matmul dot_S256x512_S256x768_S512x768_0_0_1_1_n_n none a b (constant S512x768 .f32 0x00000000#32) (ix2 j k)
      = ∑ r : Fin 256, a (ix2 r j) * b (ix2 r k) := by
  pointwise

theorem logits_apply (e : FVec Ideal S256x768 .f32) (W : FVec Ideal S768x512 .f32) (r : Fin 256) (j : Fin 512) :
    logits e W (ix2 r j) = ∑ l : Fin 768, e (ix2 r l) * W (ix2 l j) := by
  unfold logits mm
  rw [dot_rows]
  rfl

theorem block_eq (L : FVec Ideal S256x512 .f32) : block L = L := by
  funext y
  obtain ⟨r, j, rfl⟩ : ∃ (r : Fin 256) (j : Fin 512), y = ix2 r j := ⟨y 0, y 1, eq_ix2 y⟩
  pointwise [block]

theorem same_eq (x : FVec Ideal S512x768 .f32) : same x = x := by
  funext y
  obtain ⟨r, j, rfl⟩ : ∃ (r : Fin 512) (j : Fin 768), y = ix2 r j := ⟨y 0, y 1, eq_ix2 y⟩
  pointwise [same]

theorem part_apply (e x : FVec Ideal S256x768 .f32) (W : FVec Ideal S768x512 .f32) (T : Fin 256 → Fin 4 → EReal)
    (hT : ∀ r, TopFour.IsTop (TopFour.count (row (logits e W) r)) (T r)) (j : Fin 512) (k : Fin 768) :
    part e x W (ix2 j k) = ∑ r : Fin 256, share (T r) (row (logits e W) r) j * x (ix2 r k) := by
  unfold part mm
  rw [dot_columns, block_eq]
  refine Finset.sum_congr rfl fun r _ => congrArg (· * x (ix2 r k)) ?_
  show route (vtop4 (logits e W)) (logits e W) (ix2 r j) = _
  rw [route_apply, (isTop_vtop4 (by decide) (by decide) (logits e W) r).unique (hT r)]

end Cert.CompBody

end
-- ==== Proof.CompRef.lean ====
/- The reference's column routing, read at an index over the extended reals. -/
module

public import proofs.«01_k».proof.Proof.Gen.CompReferenceIdeal.Read
public import proofs.«01_k».proof.Proof.Route
public import Idealize.ShloMosaic.Lib.Pointwise

@[expose] public section

noncomputable section

namespace Cert.CompRef

open Idealize.ShloMosaic Idealize.ShloMosaic.TcCoe Cert.CompReferenceIdeal Cert.CompReferenceIdeal.Gen Cert.CompReferenceIdeal.Read Cert.RowOps Cert.TopFour Cert.Attend Cert.Route

variable (x0 x1 : FVec Ideal S4096x768 .f32) (x2 : FVec Ideal S768x512 .f32)

theorem red : (Mat 4096 512).Reduces [1] (Row1 4096) := by decide

/-- The logits of row `r`. -/
def lg (r : Fin 4096) (j : Fin 512) : EReal := ∑ l : Fin 768, x0 (ix2 r l) * x2 (ix2 l j)

/-- The four largest logits of row `r`. -/
def top (r : Fin 4096) (k : Fin 4) : EReal := val_main_values (F := Ideal) x0 x2 (ix2 r k)

theorem v0_apply (r : Fin 4096) (j : Fin 512) : (val_main_v0 (F := Ideal) x0 x2 (ix2 r j) : EReal) = lg x0 x2 r j := by
  pointwise [val_main_v0]
  rfl

theorem isTop (r : Fin 4096) : IsTop (TopFour.count (lg x0 x2 r)) (top x0 x2 r) := by
  have h := HostReads.topK_apply (by decide) (val_main_v0 (F := Ideal) x0 x2) (by decide) r
  have e : row (val_main_v0 (F := Ideal) x0 x2) r = lg x0 x2 r := funext fun j => v0_apply x0 x2 r j
  rw [e] at h
  exact h

theorem v4_apply (r : Fin 4096) (j : Fin 512) :
    (val_main_v4 (F := Ideal) x0 x2 (ix2 r j) : EReal) = masked (top x0 x2 r 3) (lg x0 x2 r) j := by
  pointwise [val_main_v4, val_main_v3, val_main_v2, val_main_v1, val_main_call0_v1, val_main_call0_v0, val_main_cst, v0_apply]
  show (if _ then _ else (Ideal.ofBits .f32 0xFF800000#32 : EReal)) = _
  rw [neg_inf]
  rfl

theorem v5_apply (r : Fin 4096) :
    (val_main_v5 (F := Ideal) x0 x2 (ix1 r) : EReal) = Finset.univ.fold max ⊥ (masked (top x0 x2 r 3) (lg x0 x2 r)) := by
  unfold val_main_v5
  refine (HostReads.hostMax_apply _ _ _ red _ ⊥ (fun _ => neg_inf) r).trans ?_
  exact congrArg (Finset.univ.fold max ⊥) (funext fun j => v4_apply x0 x2 r j)

theorem v7_apply (r : Fin 4096) :
    (val_main_v7 (F := Ideal) x0 x2 (ix1 r) : EReal) = max ⊥ (Finset.univ.fold max ⊥ (masked (top x0 x2 r 3) (lg x0 x2 r))) := by
  have h : (val_main_v6 (F := Ideal) (ix1 r) : EReal) = ⊥ := by
    pointwise [val_main_v6, val_main_cst_1]
    exact neg_inf
  rw [val_main_v7_apply, Ideal.maximumf_def, h, v5_apply]

theorem v11_apply (r : Fin 4096) (j : Fin 512) :
    (val_main_v11 (F := Ideal) x0 x2 (ix2 r j) : EReal) = num (masked (top x0 x2 r 3) (lg x0 x2 r)) j := by
  pointwise [val_main_v11, val_main_v10, val_main_v9, val_main_v8, v7_apply, v4_apply]
  rfl

/-- The reference's shares. -/
theorem v15_apply (r : Fin 4096) (j : Fin 512) :
    (val_main_v15 (F := Ideal) x0 x2 (ix2 r j) : EReal) = share (top x0 x2 r) (lg x0 x2 r) j := by
  refine Eq.trans ?_ (softmax_eq _ _ (isTop x0 x2 r) j)
  pointwise [val_main_v15, val_main_v14, val_main_v13, val_main_v12, val_main_cst_2, v11_apply]

theorem v16_apply (j : Fin 512) (k : Fin 768) :
    (val_main_v16 (F := Ideal) x0 x2 (ix2 j k) : EReal) = ∑ r : Fin 4096, share (top x0 x2 r) (lg x0 x2 r) j * x0 (ix2 r k) := by
  pointwise [val_main_v16, v15_apply]

theorem v17_apply (j : Fin 512) (k : Fin 768) :
    (val_main_v17 (F := Ideal) x0 x1 x2 (ix2 j k) : EReal) = ∑ r : Fin 4096, share (top x0 x2 r) (lg x0 x2 r) j * x1 (ix2 r k) := by
  pointwise [val_main_v17, v15_apply]

end Cert.CompRef

end
-- ==== Proof.CompArrays.lean ====
/- The column routing's result arrays after the run. -/
module

public import proofs.«01_k».proof.Proof.CompBody
public import proofs.«01_k».proof.Proof.CompRef
public import Idealize.ShloMosaic.Lib.Claim

@[expose] public section

noncomputable section

namespace Cert.CompArrays

open Idealize.ShloMosaic Idealize.ShloMosaic.TcCoe Idealize.ShloMosaic.Tactic Cert.CompIdeal Cert.CompIdeal.Gen Cert.CompIdeal.Value Cert.CompReferenceIdeal.Read Cert.RowOps Cert.Route

variable (m : (ℓ : Loc nD τ sig) → Buf (Elt Ideal) ℓ)

/-- Row `r` of block `t`. -/
def at_ (t : Fin 16) (r : Fin 256) : Fin 4096 := ⟨256 * t.val + r.val, by omega⟩

theorem step0 : ∀ t : Fin cfg0.N, win0_0.index t (0 : Fin 2) = t.val ∧ win0_0.index t (1 : Fin 2) = 0 := (by decide +kernel : ∀ t : Fin grid0.N, _)
theorem step1 : ∀ t : Fin cfg0.N, win0_1.index t (0 : Fin 2) = t.val ∧ win0_1.index t (1 : Fin 2) = 0 := (by decide +kernel : ∀ t : Fin grid0.N, _)
theorem zero2 : ∀ (t : Fin cfg0.N) (a : Fin 2), win0_2.index t a = 0 := (by decide +kernel : ∀ (t : Fin grid0.N) (a : Fin 2), _)
theorem zero3 : ∀ (t : Fin cfg0.N) (a : Fin 2), win0_3.index t a = 0 := (by decide +kernel : ∀ (t : Fin grid0.N) (a : Fin 2), _)
theorem zero4 : ∀ (t : Fin cfg0.N) (a : Fin 2), win0_4.index t a = 0 := (by decide +kernel : ∀ (t : Fin grid0.N) (a : Fin 2), _)
theorem last3 : ∀ t : Fin cfg0.N, (cfg0.win 3).flush t = true → t.val = 15 := (by decide +kernel : ∀ t : Fin grid0.N, _)
theorem last4 : ∀ t : Fin cfg0.N, (cfg0.win 4).flush t = true → t.val = 15 := (by decide +kernel : ∀ t : Fin grid0.N, _)

theorem iblk0 (c : Dev nD) (t : Fin 16) (r : Fin 256) (k : Fin 768) :
    iblk m c 0 t (ix2 r k) = m ((c : Thread nD τ).loc main_arg0) (ix2 (at_ t r) k) := by
  rw [← V_main_arg0 m c]
  show V m c main_arg0 (((cfg0.win 0).blk t).view.emb (ix2 r k)) = V m c main_arg0 (ix2 (at_ t r) k)
  refine congrArg _ (funext fun a => Fin.ext ?_)
  obtain ⟨e0, e1⟩ := step0 t
  match a with
  | ⟨0, _⟩ =>
    show win0_0.index t (0 : Fin 2) * 256 + 1 * r.val = 256 * t.val + r.val
    rw [e0]
    omega
  | ⟨1, _⟩ =>
    show win0_0.index t (1 : Fin 2) * 768 + 1 * k.val = k.val
    rw [e1]
    omega

theorem iblk1 (c : Dev nD) (t : Fin 16) (r : Fin 256) (k : Fin 768) :
    iblk m c 1 t (ix2 r k) = m ((c : Thread nD τ).loc main_arg1) (ix2 (at_ t r) k) := by
  rw [← V_main_arg1 m c]
  show V m c main_arg1 (((cfg0.win 1).blk t).view.emb (ix2 r k)) = V m c main_arg1 (ix2 (at_ t r) k)
  refine congrArg _ (funext fun a => Fin.ext ?_)
  obtain ⟨e0, e1⟩ := step1 t
  match a with
  | ⟨0, _⟩ =>
    show win0_1.index t (0 : Fin 2) * 256 + 1 * r.val = 256 * t.val + r.val
    rw [e0]
    omega
  | ⟨1, _⟩ =>
    show win0_1.index t (1 : Fin 2) * 768 + 1 * k.val = k.val
    rw [e1]
    omega

theorem iblk2 (c : Dev nD) (t : Fin cfg0.N) : iblk m c 2 t = m ((c : Thread nD τ).loc main_arg2) := by
  rw [← V_main_arg2 m c]
  funext y
  show V m c main_arg2 (((cfg0.win 2).blk t).view.emb y) = V m c main_arg2 y
  refine congrArg _ (funext fun a => Fin.ext ?_)
  blk_simp
  have e : win0_2.index t a = 0 := zero2 t a
  rw [e, zero_mul, zero_add]

/-- The arguments. -/
abbrev E (c : Dev nD) : FVec Ideal S4096x768 .f32 := m ((c : Thread nD τ).loc main_arg0)
abbrev X (c : Dev nD) : FVec Ideal S4096x768 .f32 := m ((c : Thread nD τ).loc main_arg1)
abbrev W (c : Dev nD) : FVec Ideal S768x512 .f32 := m ((c : Thread nD τ).loc main_arg2)

/-- What the rows of block `t` contribute to an entry. -/
def term (E X : FVec Ideal S4096x768 .f32) (W : FVec Ideal S768x512 .f32) (t : Fin 16) (j : Fin 512) (k : Fin 768) : EReal :=
  ∑ r : Fin 256, share (CompRef.top E W (at_ t r)) (CompRef.lg E W (at_ t r)) j * X (ix2 (at_ t r) k)

theorem part_eq (E X : FVec Ideal S4096x768 .f32) (W : FVec Ideal S768x512 .f32) (t : Fin 16) (e x : FVec Ideal S256x768 .f32)
    (he : ∀ r k, e (ix2 r k) = E (ix2 (at_ t r) k)) (hx : ∀ r k, x (ix2 r k) = X (ix2 (at_ t r) k)) (j : Fin 512) (k : Fin 768) :
    CompBody.part e x W (ix2 j k) = term E X W t j k := by
  have hl : ∀ r, row (CompBody.logits e W) r = CompRef.lg E W (at_ t r) := by
    intro r
    funext j
    show CompBody.logits e W (ix2 r j) = _
    rw [CompBody.logits_apply]
    exact Finset.sum_congr rfl fun l _ => congrArg (· * W (ix2 l j)) (he r l)
  rw [CompBody.part_apply e x W (fun r => CompRef.top E W (at_ t r)) (fun r => by rw [hl]; exact CompRef.isTop E W (at_ t r))]
  exact Finset.sum_congr rfl fun r _ => by rw [hl, hx]

theorem outs_first (c : Dev nD) (j : Fin 512) (k : Fin 768) :
    (outsAt0 m c 0 (by decide)).1 (ix2 j k) = term (E m c) (E m c) (W m c) 0 j k ∧
    (outsAt0 m c 0 (by decide)).2 (ix2 j k) = term (E m c) (X m c) (W m c) 0 j k := by
  rw [show outsAt0 m c 0 (by decide) = _ from outsAt0_A m c ⟨0, by decide⟩ (by decide) (by decide)]
  dsimp only
  rw [CompBody.first3, CompBody.first4, iblk2]
  exact ⟨part_eq _ _ _ _ _ _ (iblk0 m c 0) (iblk0 m c 0) j k, part_eq _ _ _ _ _ _ (iblk0 m c 0) (iblk1 m c 0) j k⟩

theorem outs_next (c : Dev nD) (n : ℕ) (h : n + 1 < 16) (j : Fin 512) (k : Fin 768) :
    (outsAt0 m c (n + 1) h).1 (ix2 j k) = (outsAt0 m c n (Nat.lt_of_succ_lt h)).1 (ix2 j k) + term (E m c) (E m c) (W m c) ⟨n + 1, h⟩ j k ∧
    (outsAt0 m c (n + 1) h).2 (ix2 j k) = (outsAt0 m c n (Nat.lt_of_succ_lt h)).2 (ix2 j k) + term (E m c) (X m c) (W m c) ⟨n + 1, h⟩ j k := by
  rw [show outsAt0 m c (n + 1) h = _ from outsAt0_B m c ⟨n + 1, h⟩ (by show ¬(n + 1) % 16 = 0; omega) (by show 1 ≤ n + 1; omega)]
  dsimp only
  rw [CompBody.next3, CompBody.next4, iblk2, CompBody.same_eq, CompBody.same_eq]
  exact ⟨congrArg _ (part_eq _ _ _ _ _ _ (iblk0 m c ⟨n + 1, h⟩) (iblk0 m c ⟨n + 1, h⟩) j k),
    congrArg _ (part_eq _ _ _ _ _ _ (iblk0 m c ⟨n + 1, h⟩) (iblk1 m c ⟨n + 1, h⟩) j k)⟩

theorem sum_term (E X : FVec Ideal S4096x768 .f32) (W : FVec Ideal S768x512 .f32) (j : Fin 512) (k : Fin 768) :
    ∑ t, term E X W t j k = ∑ r : Fin 4096, share (CompRef.top E W r) (CompRef.lg E W r) j * X (ix2 r k) :=
  (TopFour.sum_blocks 16 256 (fun r : Fin 4096 => share (CompRef.top E W r) (CompRef.lg E W r) j * X (ix2 r k)) (by decide)).symm

/-- What the outputs hold after the last point. -/
theorem outs_last3 (c : Dev nD) (j : Fin 512) (k : Fin 768) :
    ((outsAt0 m c 15 (by decide)).1 (ix2 j k) : EReal) = val_main_v16 (F := Ideal) (E m c) (W m c) (ix2 j k) := by
  rw [CompRef.v16_apply, ← sum_term]
  exact running_sum 15 (fun n h => ((outsAt0 m c n h).1 (ix2 j k) : EReal)) (fun t => term (E m c) (E m c) (W m c) t j k)
    (outs_first m c j k).1 fun n h => (outs_next m c n h j k).1

theorem outs_last4 (c : Dev nD) (j : Fin 512) (k : Fin 768) :
    ((outsAt0 m c 15 (by decide)).2 (ix2 j k) : EReal) = val_main_v17 (F := Ideal) (E m c) (X m c) (W m c) (ix2 j k) := by
  rw [CompRef.v17_apply, ← sum_term]
  exact running_sum 15 (fun n h => ((outsAt0 m c n h).2 (ix2 j k) : EReal)) (fun t => term (E m c) (X m c) (W m c) t j k)
    (outs_first m c j k).2 fun n h => (outs_next m c n h j k).2

theorem emb3 (t : Fin cfg0.N) (y : S512x768.Idx) : ((cfg0.win 3).blk t).view.emb y = y := by
  refine funext fun a => Fin.ext ?_
  blk_simp
  have e : win0_3.index t a = 0 := zero3 t a
  rw [e, zero_mul, zero_add]

theorem emb4 (t : Fin cfg0.N) (y : S512x768.Idx) : ((cfg0.win 4).blk t).view.emb y = y := by
  refine funext fun a => Fin.ext ?_
  blk_simp
  have e : win0_4.index t a = 0 := zero4 t a
  rw [e, zero_mul, zero_add]

theorem final3 (c : Dev nD) : (dats m 0 c).arrAt 3 cfg0.N = val_main_v16 (F := Ideal) (E m c) (W m c) := by
  refine (dats m 0 c).arrAt_eq_of_covers 3 _ (by decide +kernel) fun t hf y => ?_
  obtain ⟨j, k, rfl⟩ : ∃ (j : Fin 512) (k : Fin 768), y = ix2 j k := ⟨y 0, y 1, eq_ix2 y⟩
  obtain rfl : t = ⟨15, by decide⟩ := Fin.ext (last3 t hf)
  rw [after0_3, emb3]
  exact outs_last3 m c j k

theorem final4 (c : Dev nD) : (dats m 0 c).arrAt 4 cfg0.N = val_main_v17 (F := Ideal) (E m c) (X m c) (W m c) := by
  refine (dats m 0 c).arrAt_eq_of_covers 4 _ (by decide +kernel) fun t hf y => ?_
  obtain ⟨j, k, rfl⟩ : ∃ (j : Fin 512) (k : Fin 768), y = ix2 j k := ⟨y 0, y 1, eq_ix2 y⟩
  obtain rfl : t = ⟨15, by decide⟩ := Fin.ext (last4 t hf)
  rw [after0_4, emb4]
  exact outs_last4 m c j k

end Cert.CompArrays

end
-- ==== Proof.CompClaims.lean ====
/- The claims about the column routing. -/
module

public import proofs.«01_k».proof.Defs
public import proofs.«01_k».proof.Proof.Gen.CompIdeal.Frame
public import proofs.«01_k».proof.Proof.Gen.CompReferenceIdeal.Run
public import proofs.«01_k».proof.Proof.CompArrays
public import Idealize.ShloMosaic.Adequacy
public import Idealize.ShloMosaic.Init

@[expose] public section

noncomputable section

namespace Cert.CompClaims

open Idealize.ShloMosaic Idealize.ShloMosaic.TcCoe Idealize.SL.Sem

/-- The reference's frame: its run, and it declares no semaphore. -/
theorem frame_reference : Cert.quiescent_CompReferenceIdeal := fun m ρ _ =>
  (θ_run Cert.CompReferenceIdeal.defs _ _).mono (fun r h => ⟨fun c => (h c).2.2, sem_eq_zero_of_no_sems (by decide) r.2⟩)
    (Cert.CompReferenceIdeal.Value.run (F := Ideal) m ρ)

/-- The call's two results are the reference's. -/
theorem algebraic : Cert.algebraic_CompIdeal_CompReferenceIdeal := by
  intro m g m' g' _ hagree
  refine ⟨fun c => (Cert.CompIdeal.Gen.dats m 0 c).arrAt 3 Cert.CompIdeal.cfg0.N,
    fun c => (Cert.CompIdeal.Gen.dats m 0 c).arrAt 4 Cert.CompIdeal.cfg0.N,
    Cert.CompIdeal.Value.run_blocks (F := Ideal) m g, ?_⟩
  refine (θ_run Cert.CompReferenceIdeal.defs _ _).mono (fun r h c => ⟨?_, ?_, (h c).2.2⟩) (Cert.CompReferenceIdeal.Value.run (F := Ideal) m' g')
  · refine (h c).1.trans ?_
    show _ = (Cert.CompIdeal.Gen.dats m 0 c).arrAt 3 Cert.CompIdeal.cfg0.N
    rw [Cert.CompArrays.final3 m c]
    unfold Cert.CompArrays.E Cert.CompArrays.W
    rw [← (hagree c).1, ← (hagree c).2.2]
    exact Cert.CompReferenceIdeal.Read.val_main_v16_eq m' c
  · refine (h c).2.1.trans ?_
    show _ = (Cert.CompIdeal.Gen.dats m 0 c).arrAt 4 Cert.CompIdeal.cfg0.N
    rw [Cert.CompArrays.final4 m c]
    unfold Cert.CompArrays.E Cert.CompArrays.X Cert.CompArrays.W
    rw [← (hagree c).1, ← (hagree c).2.1, ← (hagree c).2.2]
    exact Cert.CompReferenceIdeal.Read.val_main_v17_eq m' c

end Cert.CompClaims

end
-- ==== Proof.FinalBody.lean ====
/- What the last call writes, as the named row operations on its arguments. -/
module

public import proofs.«01_k».proof.Proof.Gen.FinalIdeal.Value
public import Idealize.ShloMosaic.Lib.Pipeline.ValueKit
public import proofs.«01_k».proof.Proof.Route
public import proofs.«01_k».proof.Proof.RowBlocks

@[expose] public section

noncomputable section

namespace Cert.FinalBody

open Idealize.ShloMosaic Idealize.ShloMosaic.TcCoe Idealize.ShloMosaic.Tactic Cert.FinalIdeal Cert.FinalIdeal.Gen Cert.RowOps Cert.Route Cert.RowBlocks

section
variable {F : FTy → Type} [FloatOps F] [Named F]

/-- A matrix as the one block that its rows are searched in. -/
def block (L : FVec F S512x512 .f32) : FVec F S512x512 .f32 :=
  extractStridedSlice S512x512 ![0, 0] L slices_S512x512_o0_0_S512x512

/-- The shares of the rows of logits. -/
def shares (L : FVec F S512x512 .f32) : FVec F S512x512 .f32 := route (vtop4 (block L)) L

/-- The logits of a block of rows. -/
def logits (e : FVec F S512x768 .f32) (W : FVec F S768x512 .f32) : FVec F S512x512 .f32 :=
  mm dot_S512x768_S768x512_S512x512_1_0_0_1_n_n e W

/-- What a block adds: its rows of `x`, each shared out by the row of `e`. -/
def part (e x : FVec F S512x768 .f32) (W : FVec F S768x512 .f32) : FVec F S512x768 .f32 :=
  mm dot_S512x512_S512x768_S512x768_0_0_1_1_n_n (shares (logits e W)) x

/-- Four blocks added one after the other to zero. -/
def acc4 (f : Fin 4 → FVec F S512x768 .f32) : FVec F S512x768 .f32 :=
  addf (addf (addf (addf (broadcast S512x768 (Scalar.ofBits .f32 0x00000000#32)) (f 0)) (f 1)) (f 2)) (f 3)

/-- `x + 0.2 * y`. -/
def fifth (x y : FVec F S512x768 .f32) : FVec F S512x768 .f32 :=
  addf x (mulf (broadcast S512x768 (Scalar.ofBits .f32 0x3E4CCCCD#32)) y)

/-- A state with what the call before and the routing give it. -/
def moved (x d t : FVec F S512x768 .f32) : FVec F S512x768 .f32 :=
  addf (fifth x d) (mulf (broadcast S512x768 (Scalar.ofBits .f32 0x3D99999A#32)) t)

/-- The scores of the rows against one another. -/
def sims (n : FVec F S512x768 .f32) (w : FVec F S1x768 .f32) : FVec F S512x512 .f32 :=
  scores dot_S512x768_S512x768_S512x512_1_1_0_0_n_n (Named.named κ "sqrt_dim" 0x41DDB3D7#32) (mulf n (lift 512 w)) n

/-- A state with the rows of it that each row draws. -/
def drawn (n x : FVec F S512x768 .f32) (w : FVec F S1x768 .f32) : FVec F S512x768 .f32 :=
  fifth x (mm dot_S512x512_S512x768_S512x768_1_0_0_1_n_n (shares (sims n w)) x)

/-- The new state before the rows draw on one another, from the blocks of the long matrices. -/
def state (e x : Fin 4 → FVec F S512x768 .f32) (W : FVec F S768x512 .f32) (c d : FVec F S512x768 .f32) : FVec F S512x768 .f32 :=
  moved c d (acc4 fun b => part (e b) (x b) W)

variable (x0 x1 : Vec F S2048x768 .f32) (x2 x3 x4 x5 : Vec F S512x768 .f32) (x6 : Vec F S768x512 .f32) (x7 x8 x9 : Vec F S1x768 .f32)

theorem ld_cut (x : Vec F S2048x768 .f32) (b : Fin 4) : View.ld x (cut b) = get x b := by
  funext y
  obtain ⟨r, k, rfl⟩ : ∃ (r : Fin 512) (k : Fin 768), y = ix2 r k := ⟨y 0, y 1, eq_ix2 y⟩
  exact congrArg x (emb_cut b r k)

theorem ld_state (x : Vec F S512x768 .f32) : View.ld x r0_5 = x := View.ld_unit_zero (by decide) _ x
theorem ld_weights (x : Vec F S768x512 .f32) : View.ld x r0_1 = x := View.ld_unit_zero (by decide) _ x
theorem ld_row (x : Vec F S1x768 .f32) : View.ld x r0_6 = x := View.ld_unit_zero (by decide) _ x

/-- The new state as the body computes it from its loads. -/
def loaded (x y : Vec F S2048x768 .f32) (W : Vec F S768x512 .f32) (c d : Vec F S512x768 .f32) : Vec F S512x768 .f32 :=
  state (fun b => View.ld x (cut b)) (fun b => View.ld y (cut b)) (View.ld W r0_1) (View.ld c r0_5) (View.ld d r0_5)

theorem loaded_eq (x y : Vec F S2048x768 .f32) (W : Vec F S768x512 .f32) (c d : Vec F S512x768 .f32) :
    loaded x y W c d = state (get x) (get y) W c d := by
  unfold loaded
  rw [ld_weights, ld_state, ld_state]
  simp only [ld_cut]

theorem out10_eq : out0_10 x0 x1 x2 x3 x4 x5 x6 x7 x8 x9 =
    tanh (drawn (state (get x0) (get x0) x6 x4 x2) (state (get x0) (get x0) x6 x4 x2) x7) := by
  rw [← loaded_eq]
  conv_rhs => rw [← ld_row x7]
  unfold out0_10
  refine (View.canon_unit_zero (by decide) ..).trans ?_
  sl_kernel_rfl

theorem out11_eq : out0_11 x0 x1 x2 x3 x4 x5 x6 x7 x8 x9 =
    lnorm 0x44400000#32 (drawn (state (get x0) (get x0) x6 x4 x2) (state (get x0) (get x1) x6 x5 x3) x7) x8 x9 := by
  rw [← loaded_eq, ← loaded_eq]
  conv_rhs => rw [← ld_row x7, ← ld_row x8, ← ld_row x9]
  unfold out0_11
  refine (View.canon_unit_zero (by decide) ..).trans ?_
  sl_kernel_rfl

end

theorem dot_rows (a : FVec Ideal S512x768 .bf16) (b : FVec Ideal S768x512 .bf16) (r : Fin 512) (j : Fin 512) :
    matmul dot_S512x768_S768x512_S512x512_1_0_0_1_n_n none a b (constant S512x512 .f32 0x00000000#32) (ix2 r j)
      = ∑ l : Fin 768, a (ix2 r l) * b (ix2 l j) := by
  pointwise

theorem dot_columns (a : FVec Ideal S512x512 .bf16) (b : FVec Ideal S512x768 .bf16) (j : Fin 512) (k : Fin 768) :
    matmul dot_S512x512_S512x768_S512x768_0_0_1_1_n_n none a b (constant S512x768 .f32 0x00000000#32) (ix2 j k)
      = ∑ r : Fin 512, a (ix2 r j) * b (ix2 r k) := by
  pointwise

theorem dot_sims (a b : FVec Ideal S512x768 .bf16) (r : Fin 512) (j : Fin 512) :
    matmul dot_S512x768_S512x768_S512x512_1_1_0_0_n_n none a b (constant S512x512 .f32 0x00000000#32) (ix2 r j)
      = ∑ l : Fin 768, a (ix2 r l) * b (ix2 j l) := by
  pointwise

theorem dot_draw (a : FVec Ideal S512x512 .bf16) (b : FVec Ideal S512x768 .bf16) (r : Fin 512) (k : Fin 768) :
    matmul dot_S512x512_S512x768_S512x768_1_0_0_1_n_n none a b (constant S512x768 .f32 0x00000000#32) (ix2 r k)
      = ∑ j : Fin 512, a (ix2 r j) * b (ix2 j k) := by
  pointwise

theorem block_eq (L : FVec Ideal S512x512 .f32) : block L = L := by
  funext y
  obtain ⟨r, j, rfl⟩ : ∃ (r : Fin 512) (j : Fin 512), y = ix2 r j := ⟨y 0, y 1, eq_ix2 y⟩
  pointwise [block]

theorem shares_apply (L : FVec Ideal S512x512 .f32) (T : Fin 4 → EReal) (s : Fin 512 → EReal) (r j : Fin 512)
    (hs : row L r = s) (hT : TopFour.IsTop (TopFour.count s) T) : shares L (ix2 r j) = share T s j := by
  subst hs
  unfold shares
  rw [block_eq, route_apply, (isTop_vtop4 (by decide) (by decide) L r).unique hT]

theorem logits_apply (e : FVec Ideal S512x768 .f32) (W : FVec Ideal S768x512 .f32) (r : Fin 512) (j : Fin 512) :
    logits e W (ix2 r j) = ∑ l : Fin 768, e (ix2 r l) * W (ix2 l j) := by
  unfold logits mm
  rw [dot_rows]
  rfl

/-- The logits of the long matrix's row `R`. -/
def lg (x : FVec Ideal S2048x768 .f32) (W : FVec Ideal S768x512 .f32) (R : Fin 2048) (j : Fin 512) : EReal :=
  ∑ l : Fin 768, x (ix2 R l) * W (ix2 l j)

theorem part_apply (x y : FVec Ideal S2048x768 .f32) (W : FVec Ideal S768x512 .f32) (T : Fin 2048 → Fin 4 → EReal)
    (hT : ∀ R, TopFour.IsTop (TopFour.count (lg x W R)) (T R)) (b : Fin 4) (j : Fin 512) (k : Fin 768) :
    part (get x b) (get y b) W (ix2 j k) = ∑ r : Fin 512, share (T (at_ b r)) (lg x W (at_ b r)) j * y (ix2 (at_ b r) k) := by
  unfold part mm
  rw [dot_columns]
  refine Finset.sum_congr rfl fun r _ => congrArg (· * y (ix2 (at_ b r) k)) ?_
  exact shares_apply _ _ _ r j (funext fun j => logits_apply (get x b) W r j) (hT (at_ b r))

theorem acc4_apply (f : Fin 4 → FVec Ideal S512x768 .f32) (i : S512x768.Idx) : acc4 f i = ∑ b, f b i := by
  rw [Fin.sum_univ_four]
  show Ideal.ofBits .f32 0x00000000#32 + f 0 i + f 1 i + f 2 i + f 3 i = _
  rw [zero_word, zero_add]

theorem moved_apply (x d t : FVec Ideal S512x768 .f32) (i : S512x768.Idx) :
    moved x d t i = x i + Ideal.ofBits .f32 0x3E4CCCCD#32 * d i + Ideal.ofBits .f32 0x3D99999A#32 * t i := rfl

theorem sum_rows (f : Fin 2048 → EReal) : ∑ b : Fin 4, ∑ r : Fin 512, f (at_ b r) = ∑ R, f R :=
  (TopFour.sum_blocks 4 512 f (by decide)).symm

theorem state_apply (x y : FVec Ideal S2048x768 .f32) (W : FVec Ideal S768x512 .f32) (c d : FVec Ideal S512x768 .f32)
    (T : Fin 2048 → Fin 4 → EReal) (hT : ∀ R, TopFour.IsTop (TopFour.count (lg x W R)) (T R)) (j : Fin 512) (k : Fin 768) :
    state (get x) (get y) W c d (ix2 j k) = c (ix2 j k) + Ideal.ofBits .f32 0x3E4CCCCD#32 * d (ix2 j k)
      + Ideal.ofBits .f32 0x3D99999A#32 * ∑ R : Fin 2048, share (T R) (lg x W R) j * y (ix2 R k) := by
  rw [← sum_rows]
  unfold state
  rw [moved_apply, acc4_apply]
  simp only [part_apply x y W T hT]

theorem named_eq : (Named.named κ "sqrt_dim" 0x41DDB3D7#32 : Ideal .f32) = ((Real.sqrt 768 : ℝ) : EReal) :=
  IdealRules.named_const.ideal_named_scalar _ _ _ _ rfl

theorem sims_apply (n : FVec Ideal S512x768 .f32) (w : FVec Ideal S1x768 .f32) (r j : Fin 512) :
    sims n w (ix2 r j) = Ideal.div (∑ l : Fin 768, n (ix2 r l) * w (ix2 0 l) * n (ix2 j l)) ((Real.sqrt 768 : ℝ) : EReal) := by
  unfold sims
  rw [named_eq, scores_apply _ _ _ _ dot_sims]
  refine congrArg (Ideal.div · _) (Finset.sum_congr rfl fun l _ => congrArg (· * n (ix2 j l)) ?_)
  show n (ix2 r l) * lift 512 w (ix2 r l) = _
  rw [lift_apply]

theorem drawn_apply (n x : FVec Ideal S512x768 .f32) (w : FVec Ideal S1x768 .f32) (T : Fin 512 → Fin 4 → EReal) (s : Fin 512 → Fin 512 → EReal)
    (hs : ∀ r, row (sims n w) r = s r) (hT : ∀ r, TopFour.IsTop (TopFour.count (s r)) (T r)) (r : Fin 512) (k : Fin 768) :
    drawn n x w (ix2 r k) = x (ix2 r k) + Ideal.ofBits .f32 0x3E4CCCCD#32 * ∑ j : Fin 512, share (T r) (s r) j * x (ix2 j k) := by
  unfold drawn fifth mm
  show x (ix2 r k) + Ideal.ofBits .f32 0x3E4CCCCD#32 * _ = _
  rw [dot_draw]
  refine congrArg (fun z => x (ix2 r k) + Ideal.ofBits .f32 0x3E4CCCCD#32 * z) (Finset.sum_congr rfl fun j _ => congrArg (· * x (ix2 j k)) ?_)
  exact shares_apply _ _ _ r j (hs r) (hT r)

end Cert.FinalBody

end
-- ==== Proof.FinalRef.lean ====
/- The last call's reference, read at an index over the extended reals. -/
module

public import proofs.«01_k».proof.Proof.Gen.FinalReferenceIdeal.Read
public import proofs.«01_k».proof.Proof.Route
public import proofs.«01_k».proof.Proof.RefReads
public import Idealize.ShloMosaic.Lib.Pointwise

@[expose] public section

noncomputable section

namespace Cert.FinalRef

open Idealize.ShloMosaic Idealize.ShloMosaic.TcCoe Cert.FinalReferenceIdeal Cert.FinalReferenceIdeal.Gen Cert.FinalReferenceIdeal.Read Cert.RowOps Cert.TopFour Cert.Attend Cert.Route

variable (x0 x1 : FVec Ideal S2048x768 .f32) (x2 x3 x4 x5 : FVec Ideal S512x768 .f32) (x6 : FVec Ideal S768x512 .f32) (x7 x8 x9 : FVec Ideal S768 .f32)

theorem red : (Mat 2048 512).Reduces [1] (Row1 2048) := by decide
theorem red' : (Mat 512 512).Reduces [1] (Row1 512) := by decide

/-- The logits of row `r`. -/
def lg (r : Fin 2048) (j : Fin 512) : EReal := ∑ l : Fin 768, x0 (ix2 r l) * x6 (ix2 l j)

/-- The four largest logits of row `r`. -/
def top (r : Fin 2048) (k : Fin 4) : EReal := val_main_values (F := Ideal) x0 x6 (ix2 r k)

theorem v6_apply (r : Fin 2048) (j : Fin 512) : (val_main_v6 (F := Ideal) x0 x6 (ix2 r j) : EReal) = lg x0 x6 r j := by
  pointwise [val_main_v6]
  rfl

theorem isTop (r : Fin 2048) : IsTop (TopFour.count (lg x0 x6 r)) (top x0 x6 r) := by
  have h := HostReads.topK_apply (by decide) (val_main_v6 (F := Ideal) x0 x6) (by decide) r
  have e : row (val_main_v6 (F := Ideal) x0 x6) r = lg x0 x6 r := funext fun j => v6_apply x0 x6 r j
  rw [e] at h
  exact h

theorem v10_apply (r : Fin 2048) (j : Fin 512) :
    (val_main_v10 (F := Ideal) x0 x6 (ix2 r j) : EReal) = masked (top x0 x6 r 3) (lg x0 x6 r) j := by
  pointwise [val_main_v10, val_main_v9, val_main_v8, val_main_v7, val_main_call0_v1, val_main_call0_v0, val_main_cst_1, v6_apply]
  show (if _ then _ else (Ideal.ofBits .f32 0xFF800000#32 : EReal)) = _
  rw [neg_inf]
  rfl

theorem v11_apply (r : Fin 2048) :
    (val_main_v11 (F := Ideal) x0 x6 (ix1 r) : EReal) = Finset.univ.fold max ⊥ (masked (top x0 x6 r 3) (lg x0 x6 r)) := by
  unfold val_main_v11
  refine (HostReads.hostMax_apply _ _ _ red _ ⊥ (fun _ => neg_inf) r).trans ?_
  exact congrArg (Finset.univ.fold max ⊥) (funext fun j => v10_apply x0 x6 r j)

theorem v13_apply (r : Fin 2048) :
    (val_main_v13 (F := Ideal) x0 x6 (ix1 r) : EReal) = max ⊥ (Finset.univ.fold max ⊥ (masked (top x0 x6 r 3) (lg x0 x6 r))) := by
  have h : (val_main_v12 (F := Ideal) (ix1 r) : EReal) = ⊥ := by
    pointwise [val_main_v12, val_main_cst_3]
    exact neg_inf
  rw [val_main_v13_apply, Ideal.maximumf_def, h, v11_apply]

theorem v17_apply (r : Fin 2048) (j : Fin 512) :
    (val_main_v17 (F := Ideal) x0 x6 (ix2 r j) : EReal) = num (masked (top x0 x6 r 3) (lg x0 x6 r)) j := by
  pointwise [val_main_v17, val_main_v16, val_main_v15, val_main_v14, v13_apply, v10_apply]
  rfl

/-- The shares of the long matrix's rows. -/
theorem v21_apply (r : Fin 2048) (j : Fin 512) :
    (val_main_v21 (F := Ideal) x0 x6 (ix2 r j) : EReal) = share (top x0 x6 r) (lg x0 x6 r) j := by
  refine Eq.trans ?_ (softmax_eq _ _ (isTop x0 x6 r) j)
  pointwise [val_main_v21, val_main_v20, val_main_v19, val_main_v18, val_main_cst_4, v17_apply]

/-- A new state: `c` and `d` brought together with what column `j` receives of the rows of `x`. -/
def state (x : FVec Ideal S2048x768 .f32) (c d : FVec Ideal S512x768 .f32) (j : Fin 512) (k : Fin 768) : EReal :=
  c (ix2 j k) + Ideal.ofBits .f32 0x3E4CCCCD#32 * d (ix2 j k)
    + Ideal.ofBits .f32 0x3D99999A#32 * ∑ r : Fin 2048, share (top x0 x6 r) (lg x0 x6 r) j * x (ix2 r k)

theorem v26_apply (j : Fin 512) (k : Fin 768) :
    (val_main_v26 (F := Ideal) x0 x2 x4 x6 (ix2 j k) : EReal) = state x0 x6 x0 x4 x2 j k := by
  pointwise [val_main_v26, val_main_v25, val_main_v24, val_main_cst_5, val_main_v22, val_main_v2, val_main_v1, val_main_v0, val_main_cst, v21_apply]
  rfl

theorem v29_apply (j : Fin 512) (k : Fin 768) :
    (val_main_v29 (F := Ideal) x0 x1 x3 x5 x6 (ix2 j k) : EReal) = state x0 x6 x1 x5 x3 j k := by
  pointwise [val_main_v29, val_main_v28, val_main_v27, val_main_cst_6, val_main_v23, val_main_v5, val_main_v4, val_main_v3, val_main_cst_0, v21_apply]
  rfl

/-- The scores of row `r` against every row. -/
def sim (r j : Fin 512) : EReal :=
  Ideal.div (∑ l : Fin 768, state x0 x6 x0 x4 x2 r l * x7 (ix1 l) * state x0 x6 x0 x4 x2 j l) ((Real.sqrt 768 : ℝ) : EReal)

/-- The four largest scores of row `r`. -/
def best (r : Fin 512) (k : Fin 4) : EReal := val_main_values_8 (F := Ideal) x0 x2 x4 x6 x7 (ix2 r k)

theorem v36_apply (r j : Fin 512) :
    (val_main_v36 (F := Ideal) x0 x2 x4 x6 x7 (ix2 r j) : EReal) = sim x0 x2 x4 x6 x7 r j := by
  pointwise [val_main_v36, val_main_v35, val_main_v34, val_main_cst_7, val_main_v33, val_main_v32, val_main_v31, val_main_v30, v26_apply]
  rw [RefReads.word_768, RefReads.sqrt_768]
  rfl

theorem isBest (r : Fin 512) : IsTop (TopFour.count (sim x0 x2 x4 x6 x7 r)) (best x0 x2 x4 x6 x7 r) := by
  have h := HostReads.topK_apply (by decide) (val_main_v36 (F := Ideal) x0 x2 x4 x6 x7) (by decide) r
  have e : row (val_main_v36 (F := Ideal) x0 x2 x4 x6 x7) r = sim x0 x2 x4 x6 x7 r := funext fun j => v36_apply x0 x2 x4 x6 x7 r j
  rw [e] at h
  exact h

theorem v40_apply (r j : Fin 512) :
    (val_main_v40 (F := Ideal) x0 x2 x4 x6 x7 (ix2 r j) : EReal) = masked (best x0 x2 x4 x6 x7 r 3) (sim x0 x2 x4 x6 x7 r) j := by
  pointwise [val_main_v40, val_main_v39, val_main_v38, val_main_v37, val_main_call1_v1, val_main_call1_v0, val_main_cst_10, v36_apply]
  show (if _ then _ else (Ideal.ofBits .f32 0xFF800000#32 : EReal)) = _
  rw [neg_inf]
  rfl

theorem v41_apply (r : Fin 512) :
    (val_main_v41 (F := Ideal) x0 x2 x4 x6 x7 (ix1 r) : EReal) = Finset.univ.fold max ⊥ (masked (best x0 x2 x4 x6 x7 r 3) (sim x0 x2 x4 x6 x7 r)) := by
  unfold val_main_v41
  refine (HostReads.hostMax_apply _ _ _ red' _ ⊥ (fun _ => neg_inf) r).trans ?_
  exact congrArg (Finset.univ.fold max ⊥) (funext fun j => v40_apply x0 x2 x4 x6 x7 r j)

theorem v43_apply (r : Fin 512) :
    (val_main_v43 (F := Ideal) x0 x2 x4 x6 x7 (ix1 r) : EReal) = max ⊥ (Finset.univ.fold max ⊥ (masked (best x0 x2 x4 x6 x7 r 3) (sim x0 x2 x4 x6 x7 r))) := by
  have h : (val_main_v42 (F := Ideal) (ix1 r) : EReal) = ⊥ := by
    pointwise [val_main_v42, val_main_cst_12]
    exact neg_inf
  rw [val_main_v43_apply, Ideal.maximumf_def, h, v41_apply]

theorem v47_apply (r j : Fin 512) :
    (val_main_v47 (F := Ideal) x0 x2 x4 x6 x7 (ix2 r j) : EReal) = num (masked (best x0 x2 x4 x6 x7 r 3) (sim x0 x2 x4 x6 x7 r)) j := by
  pointwise [val_main_v47, val_main_v46, val_main_v45, val_main_v44, v43_apply, v40_apply]
  rfl

/-- The shares of the short matrix's rows. -/
theorem v51_apply (r j : Fin 512) :
    (val_main_v51 (F := Ideal) x0 x2 x4 x6 x7 (ix2 r j) : EReal) = share (best x0 x2 x4 x6 x7 r) (sim x0 x2 x4 x6 x7 r) j := by
  refine Eq.trans ?_ (softmax_eq _ _ (isBest x0 x2 x4 x6 x7 r) j)
  pointwise [val_main_v51, val_main_v50, val_main_v49, val_main_v48, val_main_cst_13, v47_apply]

/-- A new state with the rows of it that each row draws. -/
def drawn (s : Fin 512 → Fin 768 → EReal) (r : Fin 512) (k : Fin 768) : EReal :=
  s r k + Ideal.ofBits .f32 0x3E4CCCCD#32 * ∑ j : Fin 512, share (best x0 x2 x4 x6 x7 r) (sim x0 x2 x4 x6 x7 r) j * s j k

theorem v57_apply (r : Fin 512) (k : Fin 768) :
    (val_main_v57 (F := Ideal) x0 x2 x4 x6 x7 (ix2 r k) : EReal) = Ideal.tanh (drawn x0 x2 x4 x6 x7 (state x0 x6 x0 x4 x2) r k) := by
  pointwise [val_main_v57, val_main_v56, val_main_v55, val_main_v54, val_main_cst_14, val_main_v52, v51_apply, v26_apply]
  rfl

theorem v60_apply (r : Fin 512) (k : Fin 768) :
    (val_main_v60 (F := Ideal) x0 x1 x2 x3 x4 x5 x6 x7 (ix2 r k) : EReal) = drawn x0 x2 x4 x6 x7 (state x0 x6 x1 x5 x3) r k := by
  pointwise [val_main_v60, val_main_v59, val_main_v58, val_main_cst_15, val_main_v53, v51_apply, v29_apply]
  rfl

theorem v84_apply (r : Fin 512) (k : Fin 768) :
    (val_main_v84 (F := Ideal) x0 x1 x2 x3 x4 x5 x6 x7 x8 x9 (ix2 r k) : EReal) =
      ln (Ideal.ofBits .f32 0x44400000#32) (drawn x0 x2 x4 x6 x7 (state x0 x6 x1 x5 x3) r) (fun k => x8 (ix1 k)) (fun k => x9 (ix1 k)) k := by
  pointwise [val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_cst_16, val_main_cst_17, val_main_cst_18, val_main_cst_19, val_main_cst_20, v60_apply]
  rfl

end Cert.FinalRef

end
-- ==== Proof.FinalArrays.lean ====
/- The last call's result arrays after the run. -/
module

public import proofs.«01_k».proof.Proof.FinalBody
public import proofs.«01_k».proof.Proof.FinalRef
public import Idealize.ShloMosaic.Lib.Claim

@[expose] public section

noncomputable section

namespace Cert.FinalArrays

open Idealize.ShloMosaic Idealize.ShloMosaic.TcCoe Idealize.ShloMosaic.Tactic Cert.FinalIdeal Cert.FinalIdeal.Gen Cert.FinalIdeal.Value Cert.FinalReferenceIdeal.Read Cert.RowOps Cert.Route Cert.RowBlocks

variable (m : (ℓ : Loc nD τ sig) → Buf (Elt Ideal) ℓ)

theorem zero : ∀ (w : Fin 12) (t : Fin cfg0.N) a, (cfg0.win w).index t a = 0 := (by decide +kernel : ∀ (w : Fin 12) (t : Fin grid0.N) a, _)

theorem iblk0 (c : Dev nD) (t : Fin cfg0.N) : iblk m c 0 t = m ((c : Thread nD τ).loc main_arg0) := by
  rw [← V_main_arg0 m c]
  funext y
  show V m c main_arg0 (((cfg0.win 0).blk t).view.emb y) = V m c main_arg0 y
  refine congrArg _ (funext fun a => Fin.ext ?_)
  blk_simp
  have e : win0_0.index t a = 0 := zero 0 t a
  rw [e, zero_mul, zero_add]

theorem iblk1 (c : Dev nD) (t : Fin cfg0.N) : iblk m c 1 t = m ((c : Thread nD τ).loc main_arg1) := by
  rw [← V_main_arg1 m c]
  funext y
  show V m c main_arg1 (((cfg0.win 1).blk t).view.emb y) = V m c main_arg1 y
  refine congrArg _ (funext fun a => Fin.ext ?_)
  blk_simp
  have e : win0_1.index t a = 0 := zero 1 t a
  rw [e, zero_mul, zero_add]

theorem iblk2 (c : Dev nD) (t : Fin cfg0.N) : iblk m c 2 t = m ((c : Thread nD τ).loc main_arg2) := by
  rw [← V_main_arg2 m c]
  funext y
  show V m c main_arg2 (((cfg0.win 2).blk t).view.emb y) = V m c main_arg2 y
  refine congrArg _ (funext fun a => Fin.ext ?_)
  blk_simp
  have e : win0_2.index t a = 0 := zero 2 t a
  rw [e, zero_mul, zero_add]

theorem iblk3 (c : Dev nD) (t : Fin cfg0.N) : iblk m c 3 t = m ((c : Thread nD τ).loc main_arg3) := by
  rw [← V_main_arg3 m c]
  funext y
  show V m c main_arg3 (((cfg0.win 3).blk t).view.emb y) = V m c main_arg3 y
  refine congrArg _ (funext fun a => Fin.ext ?_)
  blk_simp
  have e : win0_3.index t a = 0 := zero 3 t a
  rw [e, zero_mul, zero_add]

theorem iblk4 (c : Dev nD) (t : Fin cfg0.N) : iblk m c 4 t = m ((c : Thread nD τ).loc main_arg4) := by
  rw [← V_main_arg4 m c]
  funext y
  show V m c main_arg4 (((cfg0.win 4).blk t).view.emb y) = V m c main_arg4 y
  refine congrArg _ (funext fun a => Fin.ext ?_)
  blk_simp
  have e : win0_4.index t a = 0 := zero 4 t a
  rw [e, zero_mul, zero_add]

theorem iblk5 (c : Dev nD) (t : Fin cfg0.N) : iblk m c 5 t = m ((c : Thread nD τ).loc main_arg5) := by
  rw [← V_main_arg5 m c]
  funext y
  show V m c main_arg5 (((cfg0.win 5).blk t).view.emb y) = V m c main_arg5 y
  refine congrArg _ (funext fun a => Fin.ext ?_)
  blk_simp
  have e : win0_5.index t a = 0 := zero 5 t a
  rw [e, zero_mul, zero_add]

theorem iblk6 (c : Dev nD) (t : Fin cfg0.N) : iblk m c 6 t = m ((c : Thread nD τ).loc main_arg6) := by
  rw [← V_main_arg6 m c]
  funext y
  show V m c main_arg6 (((cfg0.win 6).blk t).view.emb y) = V m c main_arg6 y
  refine congrArg _ (funext fun a => Fin.ext ?_)
  blk_simp
  have e : win0_6.index t a = 0 := zero 6 t a
  rw [e, zero_mul, zero_add]

theorem iblk7 (c : Dev nD) (t : Fin cfg0.N) (l : Fin 768) :
    iblk m c 7 t (ix2 0 l) = m ((c : Thread nD τ).loc main_arg7) (ix1 l) := by
  have e : ((cfg0.win 7).blk t).view.emb (ix2 0 l) = (ix2 0 l : S1x768.Idx) := by
    refine funext fun a => Fin.ext ?_
    blk_simp
    have e : win0_7.index t a = 0 := zero 7 t a
    rw [e, zero_mul, zero_add]
  show V m c main_v0 (((cfg0.win 7).blk t).view.emb (ix2 0 l)) = _
  rw [e]
  entry_read
  pointwise

theorem iblk8 (c : Dev nD) (t : Fin cfg0.N) (l : Fin 768) :
    iblk m c 8 t (ix2 0 l) = m ((c : Thread nD τ).loc main_arg8) (ix1 l) := by
  have e : ((cfg0.win 8).blk t).view.emb (ix2 0 l) = (ix2 0 l : S1x768.Idx) := by
    refine funext fun a => Fin.ext ?_
    blk_simp
    have e : win0_8.index t a = 0 := zero 8 t a
    rw [e, zero_mul, zero_add]
  show V m c main_v1 (((cfg0.win 8).blk t).view.emb (ix2 0 l)) = _
  rw [e]
  entry_read
  pointwise

theorem iblk9 (c : Dev nD) (t : Fin cfg0.N) (l : Fin 768) :
    iblk m c 9 t (ix2 0 l) = m ((c : Thread nD τ).loc main_arg9) (ix1 l) := by
  have e : ((cfg0.win 9).blk t).view.emb (ix2 0 l) = (ix2 0 l : S1x768.Idx) := by
    refine funext fun a => Fin.ext ?_
    blk_simp
    have e : win0_9.index t a = 0 := zero 9 t a
    rw [e, zero_mul, zero_add]
  show V m c main_v2 (((cfg0.win 9).blk t).view.emb (ix2 0 l)) = _
  rw [e]
  entry_read
  pointwise

theorem emb10 (t : Fin cfg0.N) (y : S512x768.Idx) : ((cfg0.win 10).blk t).view.emb y = y := by
  refine funext fun a => Fin.ext ?_
  blk_simp
  have e : win0_10.index t a = 0 := zero 10 t a
  rw [e, zero_mul, zero_add]

theorem emb11 (t : Fin cfg0.N) (y : S512x768.Idx) : ((cfg0.win 11).blk t).view.emb y = y := by
  refine funext fun a => Fin.ext ?_
  blk_simp
  have e : win0_11.index t a = 0 := zero 11 t a
  rw [e, zero_mul, zero_add]

/-- The arguments. -/
abbrev A0 (c : Dev nD) : FVec Ideal S2048x768 .f32 := m ((c : Thread nD τ).loc main_arg0)
abbrev A1 (c : Dev nD) : FVec Ideal S2048x768 .f32 := m ((c : Thread nD τ).loc main_arg1)
abbrev A2 (c : Dev nD) : FVec Ideal S512x768 .f32 := m ((c : Thread nD τ).loc main_arg2)
abbrev A3 (c : Dev nD) : FVec Ideal S512x768 .f32 := m ((c : Thread nD τ).loc main_arg3)
abbrev A4 (c : Dev nD) : FVec Ideal S512x768 .f32 := m ((c : Thread nD τ).loc main_arg4)
abbrev A5 (c : Dev nD) : FVec Ideal S512x768 .f32 := m ((c : Thread nD τ).loc main_arg5)
abbrev A6 (c : Dev nD) : FVec Ideal S768x512 .f32 := m ((c : Thread nD τ).loc main_arg6)
abbrev A7 (c : Dev nD) : FVec Ideal S768 .f32 := m ((c : Thread nD τ).loc main_arg7)
abbrev A8 (c : Dev nD) : FVec Ideal S768 .f32 := m ((c : Thread nD τ).loc main_arg8)
abbrev A9 (c : Dev nD) : FVec Ideal S768 .f32 := m ((c : Thread nD τ).loc main_arg9)

section
variable (x0 x1 : FVec Ideal S2048x768 .f32) (x2 x3 x4 x5 : FVec Ideal S512x768 .f32) (x6 : FVec Ideal S768x512 .f32) (x7 x8 x9 : FVec Ideal S768 .f32)
  (w g b : FVec Ideal S1x768 .f32)

/-- The body's new state is the reference's. -/
theorem state_eq (j : Fin 512) (k : Fin 768) : FinalBody.state (get x0) (get x1) x6 x5 x3 (ix2 j k) = FinalRef.state x0 x6 x1 x5 x3 j k :=
  FinalBody.state_apply x0 x1 x6 x5 x3 (FinalRef.top x0 x6) (FinalRef.isTop x0 x6) j k

theorem sims_eq (hw : ∀ l, w (ix2 0 l) = x7 (ix1 l)) (r : Fin 512) :
    row (FinalBody.sims (FinalBody.state (get x0) (get x0) x6 x4 x2) w) r = FinalRef.sim x0 x2 x4 x6 x7 r := by
  funext j
  show FinalBody.sims _ w (ix2 r j) = _
  rw [FinalBody.sims_apply]
  simp only [state_eq, hw]
  rfl

theorem drawn_eq (hw : ∀ l, w (ix2 0 l) = x7 (ix1 l)) (r : Fin 512) (k : Fin 768) :
    FinalBody.drawn (FinalBody.state (get x0) (get x0) x6 x4 x2) (FinalBody.state (get x0) (get x1) x6 x5 x3) w (ix2 r k) =
      FinalRef.drawn x0 x2 x4 x6 x7 (FinalRef.state x0 x6 x1 x5 x3) r k := by
  rw [FinalBody.drawn_apply _ _ _ (FinalRef.best x0 x2 x4 x6 x7) (FinalRef.sim x0 x2 x4 x6 x7) (sims_eq x0 x2 x4 x6 x7 w hw) (FinalRef.isBest x0 x2 x4 x6 x7)]
  simp only [state_eq]
  rfl

theorem out10_eq (hw : ∀ l, w (ix2 0 l) = x7 (ix1 l)) (r : Fin 512) (k : Fin 768) :
    (out0_10 (F := Ideal) x0 x1 x2 x3 x4 x5 x6 w g b (ix2 r k) : EReal) = val_main_v57 (F := Ideal) x0 x2 x4 x6 x7 (ix2 r k) := by
  rw [FinalBody.out10_eq, FinalRef.v57_apply]
  exact congrArg Ideal.tanh (drawn_eq x0 x0 x2 x2 x4 x4 x6 x7 w hw r k)

theorem out11_eq (hw : ∀ l, w (ix2 0 l) = x7 (ix1 l)) (hg : ∀ l, g (ix2 0 l) = x8 (ix1 l)) (hb : ∀ l, b (ix2 0 l) = x9 (ix1 l))
    (r : Fin 512) (k : Fin 768) :
    (out0_11 (F := Ideal) x0 x1 x2 x3 x4 x5 x6 w g b (ix2 r k) : EReal) =
      val_main_v84 (F := Ideal) x0 x1 x2 x3 x4 x5 x6 x7 x8 x9 (ix2 r k) := by
  rw [FinalBody.out11_eq, FinalRef.v84_apply, lnorm_apply]
  show ln _ (fun k => FinalBody.drawn _ _ w (ix2 r k)) (fun l => g (ix2 0 l)) (fun l => b (ix2 0 l)) k = _
  simp only [drawn_eq x0 x1 x2 x3 x4 x5 x6 x7 w hw, hg, hb]

end

theorem written10 (c : Dev nD) (t : Fin cfg0.N) (j : Fin 512) (k : Fin 768) :
    (out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 j k) : EReal) =
      val_main_v57 (F := Ideal) (A0 m c) (A2 m c) (A4 m c) (A6 m c) (A7 m c) (ix2 j k) := by
  rw [iblk0, iblk1, iblk2, iblk3, iblk4, iblk5, iblk6]
  exact out10_eq (A0 m c) (A1 m c) (A2 m c) (A3 m c) (A4 m c) (A5 m c) (A6 m c) (A7 m c) (iblk m c 7 t) (iblk m c 8 t) (iblk m c 9 t) (iblk7 m c t) j k

theorem final10 (c : Dev nD) : (dats m 0 c).arrAt 10 cfg0.N =
    val_main_v57 (F := Ideal) (A0 m c) (A2 m c) (A4 m c) (A6 m c) (A7 m c) := by
  refine (dats m 0 c).arrAt_eq_of_covers 10 _ (by decide +kernel) fun t _ y => ?_
  obtain ⟨j, k, rfl⟩ : ∃ (j : Fin 512) (k : Fin 768), y = ix2 j k := ⟨y 0, y 1, eq_ix2 y⟩
  rw [after0_10, emb10]
  have h := written10 m c t j k
  generalize out0_10 (F := Ideal) (iblk m c 0 t) (iblk m c 1 t) (iblk m c 2 t) (iblk m c 3 t) (iblk m c 4 t) (iblk m c 5 t) (iblk m c 6 t) (iblk m c 7 t) (iblk m c 8 t) (iblk m c 9 t) = w at h ⊢
  exact h

theorem written11 (c : Dev nD) (t : Fin cfg0.N) (j : Fin 512) (k : Fin 768) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 j k) : EReal) =
      val_main_v84 (F := Ideal) (A0 m c) (A1 m c) (A2 m c) (A3 m c) (A4 m c) (A5 m c) (A6 m c) (A7 m c) (A8 m c) (A9 m c) (ix2 j k) := by
  rw [iblk0, iblk1, iblk2, iblk3, iblk4, iblk5, iblk6]
  exact out11_eq (A0 m c) (A1 m c) (A2 m c) (A3 m c) (A4 m c) (A5 m c) (A6 m c) (A7 m c) (A8 m c) (A9 m c) (iblk m c 7 t) (iblk m c 8 t) (iblk m c 9 t) (iblk7 m c t) (iblk8 m c t) (iblk9 m c t) j k

theorem final11 (c : Dev nD) : (dats m 0 c).arrAt 11 cfg0.N =
    val_main_v84 (F := Ideal) (A0 m c) (A1 m c) (A2 m c) (A3 m c) (A4 m c) (A5 m c) (A6 m c) (A7 m c) (A8 m c) (A9 m c) := by
  refine (dats m 0 c).arrAt_eq_of_covers 11 _ (by decide +kernel) fun t _ y => ?_
  obtain ⟨j, k, rfl⟩ : ∃ (j : Fin 512) (k : Fin 768), y = ix2 j k := ⟨y 0, y 1, eq_ix2 y⟩
  rw [after0_11, emb11]
  have h := written11 m c t j k
  generalize out0_11 (F := Ideal) (iblk m c 0 t) (iblk m c 1 t) (iblk m c 2 t) (iblk m c 3 t) (iblk m c 4 t) (iblk m c 5 t) (iblk m c 6 t) (iblk m c 7 t) (iblk m c 8 t) (iblk m c 9 t) = w at h ⊢
  exact h

end Cert.FinalArrays

end
-- ==== Proof.FinalClaims.lean ====
/- The claims about the last call. -/
module

public import proofs.«01_k».proof.Defs
public import proofs.«01_k».proof.Proof.Gen.FinalIdeal.Frame
public import proofs.«01_k».proof.Proof.Gen.FinalReferenceIdeal.Run
public import proofs.«01_k».proof.Proof.FinalArrays
public import Idealize.ShloMosaic.Adequacy
public import Idealize.ShloMosaic.Init

@[expose] public section

noncomputable section

namespace Cert.FinalClaims

open Idealize.ShloMosaic Idealize.ShloMosaic.TcCoe Idealize.SL.Sem

/-- The reference's frame: its run, and it declares no semaphore. -/
theorem frame_reference : Cert.quiescent_FinalReferenceIdeal := fun m ρ _ =>
  (θ_run Cert.FinalReferenceIdeal.defs _ _).mono (fun r h => ⟨fun c => (h c).2.2, sem_eq_zero_of_no_sems (by decide) r.2⟩)
    (Cert.FinalReferenceIdeal.Value.run (F := Ideal) m ρ)

/-- The call's two results are the reference's. -/
theorem algebraic : Cert.algebraic_FinalIdeal_FinalReferenceIdeal := by
  intro m g m' g' _ hagree
  refine ⟨fun c => (Cert.FinalIdeal.Gen.dats m 0 c).arrAt 10 Cert.FinalIdeal.cfg0.N,
    fun c => (Cert.FinalIdeal.Gen.dats m 0 c).arrAt 11 Cert.FinalIdeal.cfg0.N,
    Cert.FinalIdeal.Value.run_blocks (F := Ideal) m g, ?_⟩
  refine (θ_run Cert.FinalReferenceIdeal.defs _ _).mono (fun r h c => ⟨?_, ?_, (h c).2.2⟩) (Cert.FinalReferenceIdeal.Value.run (F := Ideal) m' g')
  · obtain ⟨e0, _, e2, _, e4, _, e6, e7, _⟩ := hagree c
    refine (h c).1.trans ?_
    show _ = (Cert.FinalIdeal.Gen.dats m 0 c).arrAt 10 Cert.FinalIdeal.cfg0.N
    rw [Cert.FinalArrays.final10 m c]
    unfold Cert.FinalArrays.A0 Cert.FinalArrays.A2 Cert.FinalArrays.A4 Cert.FinalArrays.A6 Cert.FinalArrays.A7
    rw [← e0, ← e2, ← e4, ← e6, ← e7]
    exact Cert.FinalReferenceIdeal.Read.val_main_v57_eq (StableHlo.launchContents m' c)
  · obtain ⟨e0, e1, e2, e3, e4, e5, e6, e7, e8, e9⟩ := hagree c
    refine (h c).2.1.trans ?_
    show _ = (Cert.FinalIdeal.Gen.dats m 0 c).arrAt 11 Cert.FinalIdeal.cfg0.N
    rw [Cert.FinalArrays.final11 m c]
    unfold Cert.FinalArrays.A0 Cert.FinalArrays.A1 Cert.FinalArrays.A2 Cert.FinalArrays.A3 Cert.FinalArrays.A4 Cert.FinalArrays.A5 Cert.FinalArrays.A6 Cert.FinalArrays.A7 Cert.FinalArrays.A8 Cert.FinalArrays.A9
    rw [← e0, ← e1, ← e2, ← e3, ← e4, ← e5, ← e6, ← e7, ← e8, ← e9]
    exact Cert.FinalReferenceIdeal.Read.val_main_v84_eq (StableHlo.launchContents m' c)

end Cert.FinalClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Sprop
public import proofs.«01_k».proof.Proof.Gen.Sprop.Skeleton
public import proofs.«01_k».proof.Proof.Gen.Sprop.Launch
public import proofs.«01_k».proof.Proof.Gen.Sprop.Points
public import proofs.«01_k».proof.Proof.Gen.Sprop.Frame
public import proofs.«01_k».proof.Proof.Gen.SpropIdeal
public import proofs.«01_k».proof.Proof.Gen.SpropIdeal.Skeleton
public import proofs.«01_k».proof.Proof.Gen.SpropIdeal.Launch
public import proofs.«01_k».proof.Proof.Gen.SpropIdeal.Points
public import proofs.«01_k».proof.Proof.Gen.SpropIdeal.Frame
public import proofs.«01_k».proof.Proof.Gen.SpropReferenceIdeal
public import proofs.«01_k».proof.Proof.Gen.Logits
public import proofs.«01_k».proof.Proof.Gen.Logits.Skeleton
public import proofs.«01_k».proof.Proof.Gen.Logits.Launch
public import proofs.«01_k».proof.Proof.Gen.Logits.Points
public import proofs.«01_k».proof.Proof.Gen.LogitsIdeal
public import proofs.«01_k».proof.Proof.Gen.LogitsIdeal.Skeleton
public import proofs.«01_k».proof.Proof.Gen.LogitsIdeal.Launch
public import proofs.«01_k».proof.Proof.Gen.LogitsIdeal.Points
public import proofs.«01_k».proof.Proof.Gen.LogitsReferenceIdeal
public import proofs.«01_k».proof.Proof.Gen.Scatter
public import proofs.«01_k».proof.Proof.Gen.Scatter.Skeleton
public import proofs.«01_k».proof.Proof.Gen.Scatter.Launch
public import proofs.«01_k».proof.Proof.Gen.Scatter.Points
public import proofs.«01_k».proof.Proof.Gen.Scatter.Frame
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterReferenceIdeal
public import proofs.«01_k».proof.Proof.Gen.BtoS
public import proofs.«01_k».proof.Proof.Gen.BtoS.Skeleton
public import proofs.«01_k».proof.Proof.Gen.BtoS.Launch
public import proofs.«01_k».proof.Proof.Gen.BtoS.Points
public import proofs.«01_k».proof.Proof.Gen.BtoS.Frame
public import proofs.«01_k».proof.Proof.Gen.BtoSIdeal
public import proofs.«01_k».proof.Proof.Gen.BtoSIdeal.Skeleton
public import proofs.«01_k».proof.Proof.Gen.BtoSIdeal.Launch
public import proofs.«01_k».proof.Proof.Gen.BtoSIdeal.Points
public import proofs.«01_k».proof.Proof.Gen.BtoSIdeal.Frame
public import proofs.«01_k».proof.Proof.Gen.BtoSReferenceIdeal
public import proofs.«01_k».proof.Proof.Gen.Comp
public import proofs.«01_k».proof.Proof.Gen.Comp.Skeleton
public import proofs.«01_k».proof.Proof.Gen.Comp.Launch
public import proofs.«01_k».proof.Proof.Gen.Comp.Points
public import proofs.«01_k».proof.Proof.Gen.Comp.Frame
public import proofs.«01_k».proof.Proof.Gen.CompIdeal
public import proofs.«01_k».proof.Proof.Gen.CompIdeal.Skeleton
public import proofs.«01_k».proof.Proof.Gen.CompIdeal.Launch
public import proofs.«01_k».proof.Proof.Gen.CompIdeal.Points
public import proofs.«01_k».proof.Proof.Gen.CompIdeal.Frame
public import proofs.«01_k».proof.Proof.Gen.CompReferenceIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalReferenceIdeal
public import proofs.«01_k».proof.Proof.Gen.Pre_finite
public import proofs.«01_k».proof.Proof.Gen.Pre_finite_s
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.SpropIdeal.Value
public import proofs.«01_k».proof.Proof.Gen.SpropReferenceIdeal.Run
public import proofs.«01_k».proof.Proof.Gen.SpropReferenceIdeal.Read
public import proofs.«01_k».proof.Proof.Gen.LogitsReferenceIdeal.Run
public import proofs.«01_k».proof.Proof.Gen.LogitsReferenceIdeal.Read
public import proofs.«01_k».proof.Proof.Gen.ScatterIdeal.Value
public import proofs.«01_k».proof.Proof.Gen.ScatterReferenceIdeal.Run
public import proofs.«01_k».proof.Proof.Gen.ScatterReferenceIdeal.Read
public import proofs.«01_k».proof.Proof.Gen.BtoSIdeal.Value
public import proofs.«01_k».proof.Proof.Gen.BtoSReferenceIdeal.Run
public import proofs.«01_k».proof.Proof.Gen.BtoSReferenceIdeal.Read
public import proofs.«01_k».proof.Proof.Gen.CompIdeal.Value
public import proofs.«01_k».proof.Proof.Gen.CompReferenceIdeal.Run
public import proofs.«01_k».proof.Proof.Gen.CompReferenceIdeal.Read
public import proofs.«01_k».proof.Proof.Gen.FinalIdeal.Value
public import proofs.«01_k».proof.Proof.Gen.FinalReferenceIdeal.Run
public import proofs.«01_k».proof.Proof.Gen.FinalReferenceIdeal.Read
public import proofs.«01_k».proof.Proof.Claims
public import proofs.«01_k».proof.Proof.SpropClaims
public import proofs.«01_k».proof.Proof.LogitsClaims
public import proofs.«01_k».proof.Proof.ScatterClaims
public import proofs.«01_k».proof.Proof.BtoSClaims
public import proofs.«01_k».proof.Proof.CompClaims
public import proofs.«01_k».proof.Proof.FinalClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Sprop.Gen.facts, Cert.SpropIdeal.Gen.facts, Cert.SpropReferenceIdeal.Gen.facts,
  Cert.Logits.Gen.facts, Cert.LogitsIdeal.Gen.facts, Cert.LogitsReferenceIdeal.Gen.facts,
  Cert.Scatter.Gen.facts, Cert.ScatterIdeal.Gen.facts, Cert.ScatterReferenceIdeal.Gen.facts,
  Cert.BtoS.Gen.facts, Cert.BtoSIdeal.Gen.facts, Cert.BtoSReferenceIdeal.Gen.facts,
  Cert.Comp.Gen.facts, Cert.CompIdeal.Gen.facts, Cert.CompReferenceIdeal.Gen.facts,
  Cert.Final.Gen.facts, Cert.FinalIdeal.Gen.facts, Cert.FinalReferenceIdeal.Gen.facts,
  Cert.Pre_finite.Gen.facts, Cert.Pre_finite_s.Gen.facts,
  fun m ρ _ => Cert.Kernel.Gen.frame m ρ, fun m ρ _ => Cert.KernelIdeal.Gen.frame m ρ, fun m ρ _ => Cert.KernelIdeal.Gen.frame m ρ, frame_reference, fun m ρ _ => frame_reference m ρ trivial,
  fun m ρ _ => Cert.Sprop.Gen.frame m ρ, fun m ρ _ => Cert.SpropIdeal.Gen.frame m ρ, fun m ρ _ => Cert.SpropIdeal.Gen.frame m ρ, Cert.SpropClaims.frame_reference, fun m ρ _ => Cert.SpropClaims.frame_reference m ρ trivial,
  Cert.LogitsClaims.frame_machine, Cert.LogitsClaims.frame_ideal, Cert.LogitsClaims.frame_reference,
  fun m ρ _ => Cert.Scatter.Gen.frame m ρ, fun m ρ _ => Cert.ScatterIdeal.Gen.frame m ρ, Cert.ScatterClaims.frame_reference,
  fun m ρ _ => Cert.BtoS.Gen.frame m ρ, fun m ρ _ => Cert.BtoSIdeal.Gen.frame m ρ, Cert.BtoSClaims.frame_reference,
  fun m ρ _ => Cert.Comp.Gen.frame m ρ, fun m ρ _ => Cert.CompIdeal.Gen.frame m ρ, Cert.CompClaims.frame_reference,
  fun m ρ _ => Cert.Final.Gen.frame m ρ, fun m ρ _ => Cert.FinalIdeal.Gen.frame m ρ, Cert.FinalClaims.frame_reference,
  IdealRules.named_const.statement Cert.KernelIdeal.κ "sqrt_dim" .f32 0x41DDB3D7#32 ((Real.sqrt 768 : ℝ) : EReal) rfl, algebraic,
  IdealRules.named_const.statement Cert.SpropIdeal.κ "sqrt_dim" .f32 0x41DDB3D7#32 ((Real.sqrt 768 : ℝ) : EReal) rfl, Cert.SpropClaims.algebraic,
  trivial, Cert.LogitsClaims.algebraic,
  trivial, Cert.ScatterClaims.algebraic,
  trivial, Cert.BtoSClaims.algebraic,
  trivial, Cert.CompClaims.algebraic,
  IdealRules.named_const.statement Cert.FinalIdeal.κ "sqrt_dim" .f32 0x41DDB3D7#32 ((Real.sqrt 768 : ℝ) : EReal) rfl, Cert.FinalClaims.algebraic⟩

end Cert.Proof

end
